-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 1024, 1024]⟩ ⟨5, ![2, 4, 4, 1024, 1024]⟩ (Layout.meshBlock [2, 4, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x1024x1024 : Shape := ⟨5, ![1, 1, 1, 1024, 1024]⟩
abbrev S1024x1024 : Shape := ⟨2, ![1024, 1024]⟩
abbrev S4x10 : Shape := ⟨2, ![4, 10]⟩
abbrev S_ : Shape := ⟨0, ![]⟩
abbrev S1x1 : Shape := ⟨2, ![1, 1]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x1x1x1024x1024, .bf16⟩
  | .hbm, ⟨1, _⟩ => ⟨S1024x1024, .f32⟩
  | .local _ .vmem, ⟨0, _⟩ => ⟨S1x1x1x1024x1024, .bf16⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | _, _ => ⟨S1x1x1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 2 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_18 : BitVec 32 := 16#32
  let v24 : BitVec 32 := Scalar.muli v9 c16_i32_18
  let v25 : BitVec 32 := Scalar.addi c0_i32 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v26 : BitVec 32 := Scalar.muli v5 c4_i32_19
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v28 : BitVec 32 := Scalar.muli v8 c1_i32_20
  let v29 : BitVec 32 := Scalar.addi v27 v28
  v29.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v30 : BitVec 32 := Scalar.muli v2 c16_i32_22
  let v31 : BitVec 32 := Scalar.addi c0_i32_23 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_24 : BitVec 32 := 4#32
  let v32 : BitVec 32 := Scalar.muli v10 c4_i32_24
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v34 : BitVec 32 := Scalar.muli v8 c1_i32_25
  let v35 : BitVec 32 := Scalar.addi v33 v34
  v35.toNat
def k0_dev3 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v36 : BitVec 32 := Scalar.muli v2 c16_i32_27
  let v37 : BitVec 32 := Scalar.addi c0_i32_28 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v38 : BitVec 32 := Scalar.muli v5 c4_i32_29
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_30 : BitVec 32 := 1#32
  let v40 : BitVec 32 := Scalar.muli v12 c1_i32_30
  let v41 : BitVec 32 := Scalar.addi v39 v40
  v41.toNat
def k0_dev4 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v42 : BitVec 32 := Scalar.muli v2 c16_i32_32
  let v43 : BitVec 32 := Scalar.addi c0_i32_33 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_34 : BitVec 32 := 4#32
  let v44 : BitVec 32 := Scalar.muli v14 c4_i32_34
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v46 : BitVec 32 := Scalar.muli v8 c1_i32_35
  let v47 : BitVec 32 := Scalar.addi v45 v46
  v47.toNat
def k0_dev5 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v48 : BitVec 32 := Scalar.muli v2 c16_i32_37
  let v49 : BitVec 32 := Scalar.addi c0_i32_38 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v50 : BitVec 32 := Scalar.muli v5 c4_i32_39
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_40 : BitVec 32 := 1#32
  let v52 : BitVec 32 := Scalar.muli v16 c1_i32_40
  let v53 : BitVec 32 := Scalar.addi v51 v52
  v53.toNat
def k0_mult1 (d0 : Dev nD) : BitVec 32 :=
  let c0_i32_62 : BitVec 32 := 0#32
  let c1_i32_60 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v94 : BitVec 32 := Scalar.subi c1_i32_60 v2
  let c256_i32_61 : BitVec 32 := 256#32
  let v95 : BitVec 32 := Scalar.muli v94 c256_i32_61
  let v96 : BitVec 32 := Scalar.addi c0_i32_62 v95
  v96
def k0_mult2 : BitVec 32 :=
  let c0_i32_63 : BitVec 32 := 0#32
  c0_i32_63
def k0_mult3 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let c1_i32_64 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v99 : BitVec 32 := Scalar.subi c1_i32_64 v11
  let c128_i32_65 : BitVec 32 := 128#32
  let v100 : BitVec 32 := Scalar.muli v99 c128_i32_65
  let v101 : BitVec 32 := Scalar.addi v55 v100
  v101
def k0_mult4 : BitVec 32 :=
  let c256_i32_66 : BitVec 32 := 256#32
  c256_i32_66
def k0_mult5 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let c1_i32_67 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v104 : BitVec 32 := Scalar.subi c1_i32_67 v13
  let c64_i32_68 : BitVec 32 := 64#32
  let v105 : BitVec 32 := Scalar.muli v104 c64_i32_68
  let v106 : BitVec 32 := Scalar.addi v57 v105
  v106
def k0_mult6 : BitVec 32 :=
  let c384_i32 : BitVec 32 := 384#32
  c384_i32
def k0_mult7 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_69 : BitVec 32 := 1#32
  let c1_i32_8 : BitVec 32 := 1#32
  let v15 : BitVec 32 := Scalar.shrsi v5 c1_i32_8
  let v109 : BitVec 32 := Scalar.subi c1_i32_69 v15
  let c32_i32_70 : BitVec 32 := 32#32
  let v110 : BitVec 32 := Scalar.muli v109 c32_i32_70
  let v111 : BitVec 32 := Scalar.addi v59 v110
  v111
def k0_mult8 : BitVec 32 :=
  let c448_i32 : BitVec 32 := 448#32
  c448_i32
def k0_mult9 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_71 : BitVec 32 := 1#32
  let c1_i32_10 : BitVec 32 := 1#32
  let v17 : BitVec 32 := Scalar.shrsi v8 c1_i32_10
  let v114 : BitVec 32 := Scalar.subi c1_i32_71 v17
  let c16_i32_72 : BitVec 32 := 16#32
  let v115 : BitVec 32 := Scalar.muli v114 c16_i32_72
  let v116 : BitVec 32 := Scalar.addi v61 v115
  v116
def k0_mult10 : BitVec 32 :=
  let c480_i32 : BitVec 32 := 480#32
  c480_i32
def k0_mult11 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_10 : BitVec 32 := 1#32
  let v17 : BitVec 32 := Scalar.shrsi v8 c1_i32_10
  let c16_i32_42 : BitVec 32 := 16#32
  let v62 : BitVec 32 := Scalar.muli v17 c16_i32_42
  let v63 : BitVec 32 := Scalar.addi v61 v62
  v63
def k0_mult12 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_10 : BitVec 32 := 1#32
  let v17 : BitVec 32 := Scalar.shrsi v8 c1_i32_10
  let c16_i32_42 : BitVec 32 := 16#32
  let v62 : BitVec 32 := Scalar.muli v17 c16_i32_42
  let v63 : BitVec 32 := Scalar.addi v61 v62
  v63
def k0_mult13 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  v61
def k0_mult14 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  v61
def k0_mult15 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  v59
def k0_mult16 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  v59
def k0_mult17 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  v57
def k0_mult18 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  v57
def k0_mult19 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  v55
def k0_mult20 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  v55
def k0_mult21 (d0 : Dev nD) : BitVec 32 :=
  let c512_i32_75 : BitVec 32 := 512#32
  let c1_i32_73 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v129 : BitVec 32 := Scalar.subi c1_i32_73 v11
  let c256_i32_74 : BitVec 32 := 256#32
  let v130 : BitVec 32 := Scalar.muli v129 c256_i32_74
  let v131 : BitVec 32 := Scalar.addi c512_i32_75 v130
  v131
def k0_mult22 : BitVec 32 :=
  let c512_i32_76 : BitVec 32 := 512#32
  c512_i32_76
def k0_mult23 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let c1_i32_77 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v134 : BitVec 32 := Scalar.subi c1_i32_77 v13
  let c128_i32_78 : BitVec 32 := 128#32
  let v135 : BitVec 32 := Scalar.muli v134 c128_i32_78
  let v136 : BitVec 32 := Scalar.addi v65 v135
  v136
def k0_mult24 : BitVec 32 :=
  let c768_i32 : BitVec 32 := 768#32
  c768_i32
def k0_mult25 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_79 : BitVec 32 := 1#32
  let c1_i32_8 : BitVec 32 := 1#32
  let v15 : BitVec 32 := Scalar.shrsi v5 c1_i32_8
  let v139 : BitVec 32 := Scalar.subi c1_i32_79 v15
  let c64_i32_80 : BitVec 32 := 64#32
  let v140 : BitVec 32 := Scalar.muli v139 c64_i32_80
  let v141 : BitVec 32 := Scalar.addi v67 v140
  v141
def k0_mult26 : BitVec 32 :=
  let c896_i32 : BitVec 32 := 896#32
  c896_i32
def k0_mult27 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_81 : BitVec 32 := 1#32
  let c1_i32_10 : BitVec 32 := 1#32
  let v17 : BitVec 32 := Scalar.shrsi v8 c1_i32_10
  let v144 : BitVec 32 := Scalar.subi c1_i32_81 v17
  let c32_i32_82 : BitVec 32 := 32#32
  let v145 : BitVec 32 := Scalar.muli v144 c32_i32_82
  let v146 : BitVec 32 := Scalar.addi v69 v145
  v146
def k0_mult28 : BitVec 32 :=
  let c960_i32 : BitVec 32 := 960#32
  c960_i32
def k0_mult29 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let c1_i32_83 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v149 : BitVec 32 := Scalar.subi c1_i32_83 v2
  let c16_i32_84 : BitVec 32 := 16#32
  let v150 : BitVec 32 := Scalar.muli v149 c16_i32_84
  let v151 : BitVec 32 := Scalar.addi v71 v150
  v151
def k0_mult30 : BitVec 32 :=
  let c992_i32 : BitVec 32 := 992#32
  c992_i32
def k0_mult31 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi v71 v72
  v73
def k0_mult32 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi v71 v72
  v73
def k0_mult33 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  v71
def k0_mult34 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  v71
def k0_mult35 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  v69
def k0_mult36 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  v69
def k0_mult37 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  v67
def k0_mult38 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  v67
def k0_mult39 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  v65
def k0_mult40 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  v65
def k0_mult41 (d0 : Dev nD) : BitVec 32 :=
  let c0_i32_87 : BitVec 32 := 0#32
  let c1_i32_85 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v164 : BitVec 32 := Scalar.subi c1_i32_85 v2
  let c256_i32_86 : BitVec 32 := 256#32
  let v165 : BitVec 32 := Scalar.muli v164 c256_i32_86
  let v166 : BitVec 32 := Scalar.addi c0_i32_87 v165
  v166
def k0_mult42 : BitVec 32 :=
  let c0_i32_88 : BitVec 32 := 0#32
  c0_i32_88
def k0_mult43 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let c1_i32_89 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v169 : BitVec 32 := Scalar.subi c1_i32_89 v11
  let c128_i32_90 : BitVec 32 := 128#32
  let v170 : BitVec 32 := Scalar.muli v169 c128_i32_90
  let v171 : BitVec 32 := Scalar.addi v75 v170
  v171
def k0_mult44 : BitVec 32 :=
  let c256_i32_91 : BitVec 32 := 256#32
  c256_i32_91
def k0_mult45 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let c1_i32_92 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v174 : BitVec 32 := Scalar.subi c1_i32_92 v13
  let c64_i32_93 : BitVec 32 := 64#32
  let v175 : BitVec 32 := Scalar.muli v174 c64_i32_93
  let v176 : BitVec 32 := Scalar.addi v77 v175
  v176
def k0_mult46 : BitVec 32 :=
  let c384_i32_94 : BitVec 32 := 384#32
  c384_i32_94
def k0_mult47 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_95 : BitVec 32 := 1#32
  let c1_i32_8 : BitVec 32 := 1#32
  let v15 : BitVec 32 := Scalar.shrsi v5 c1_i32_8
  let v179 : BitVec 32 := Scalar.subi c1_i32_95 v15
  let c32_i32_96 : BitVec 32 := 32#32
  let v180 : BitVec 32 := Scalar.muli v179 c32_i32_96
  let v181 : BitVec 32 := Scalar.addi v79 v180
  v181
def k0_mult48 : BitVec 32 :=
  let c448_i32_97 : BitVec 32 := 448#32
  c448_i32_97
def k0_mult49 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_98 : BitVec 32 := 1#32
  let c1_i32_10 : BitVec 32 := 1#32
  let v17 : BitVec 32 := Scalar.shrsi v8 c1_i32_10
  let v184 : BitVec 32 := Scalar.subi c1_i32_98 v17
  let c16_i32_99 : BitVec 32 := 16#32
  let v185 : BitVec 32 := Scalar.muli v184 c16_i32_99
  let v186 : BitVec 32 := Scalar.addi v81 v185
  v186
def k0_mult50 : BitVec 32 :=
  let c480_i32_100 : BitVec 32 := 480#32
  c480_i32_100
def k0_mult51 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_10 : BitVec 32 := 1#32
  let v17 : BitVec 32 := Scalar.shrsi v8 c1_i32_10
  let c16_i32_53 : BitVec 32 := 16#32
  let v82 : BitVec 32 := Scalar.muli v17 c16_i32_53
  let v83 : BitVec 32 := Scalar.addi v81 v82
  v83
def k0_mult52 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_10 : BitVec 32 := 1#32
  let v17 : BitVec 32 := Scalar.shrsi v8 c1_i32_10
  let c16_i32_53 : BitVec 32 := 16#32
  let v82 : BitVec 32 := Scalar.muli v17 c16_i32_53
  let v83 : BitVec 32 := Scalar.addi v81 v82
  v83
def k0_mult53 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  v81
def k0_mult54 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  v81
def k0_mult55 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  v79
def k0_mult56 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  v79
def k0_mult57 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  v77
def k0_mult58 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  v77
def k0_mult59 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  v75
def k0_mult60 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  v75
def k0_mult61 (d0 : Dev nD) : BitVec 32 :=
  let c512_i32_103 : BitVec 32 := 512#32
  let c1_i32_101 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v199 : BitVec 32 := Scalar.subi c1_i32_101 v11
  let c256_i32_102 : BitVec 32 := 256#32
  let v200 : BitVec 32 := Scalar.muli v199 c256_i32_102
  let v201 : BitVec 32 := Scalar.addi c512_i32_103 v200
  v201
def k0_mult62 : BitVec 32 :=
  let c512_i32_104 : BitVec 32 := 512#32
  c512_i32_104
def k0_mult63 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let c1_i32_105 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v204 : BitVec 32 := Scalar.subi c1_i32_105 v13
  let c128_i32_106 : BitVec 32 := 128#32
  let v205 : BitVec 32 := Scalar.muli v204 c128_i32_106
  let v206 : BitVec 32 := Scalar.addi v85 v205
  v206
def k0_mult64 : BitVec 32 :=
  let c768_i32_107 : BitVec 32 := 768#32
  c768_i32_107
def k0_mult65 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_108 : BitVec 32 := 1#32
  let c1_i32_8 : BitVec 32 := 1#32
  let v15 : BitVec 32 := Scalar.shrsi v5 c1_i32_8
  let v209 : BitVec 32 := Scalar.subi c1_i32_108 v15
  let c64_i32_109 : BitVec 32 := 64#32
  let v210 : BitVec 32 := Scalar.muli v209 c64_i32_109
  let v211 : BitVec 32 := Scalar.addi v87 v210
  v211
def k0_mult66 : BitVec 32 :=
  let c896_i32_110 : BitVec 32 := 896#32
  c896_i32_110
def k0_mult67 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_111 : BitVec 32 := 1#32
  let c1_i32_10 : BitVec 32 := 1#32
  let v17 : BitVec 32 := Scalar.shrsi v8 c1_i32_10
  let v214 : BitVec 32 := Scalar.subi c1_i32_111 v17
  let c32_i32_112 : BitVec 32 := 32#32
  let v215 : BitVec 32 := Scalar.muli v214 c32_i32_112
  let v216 : BitVec 32 := Scalar.addi v89 v215
  v216
def k0_mult68 : BitVec 32 :=
  let c960_i32_113 : BitVec 32 := 960#32
  c960_i32_113
def k0_mult69 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let c1_i32_114 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v219 : BitVec 32 := Scalar.subi c1_i32_114 v2
  let c16_i32_115 : BitVec 32 := 16#32
  let v220 : BitVec 32 := Scalar.muli v219 c16_i32_115
  let v221 : BitVec 32 := Scalar.addi v91 v220
  v221
def k0_mult70 : BitVec 32 :=
  let c992_i32_116 : BitVec 32 := 992#32
  c992_i32_116
def k0_mult71 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v92 : BitVec 32 := Scalar.muli v2 c16_i32_59
  let v93 : BitVec 32 := Scalar.addi v91 v92
  v93
def k0_mult72 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v92 : BitVec 32 := Scalar.muli v2 c16_i32_59
  let v93 : BitVec 32 := Scalar.addi v91 v92
  v93
def k0_mult73 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  v91
def k0_mult74 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  v91
def k0_mult75 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  v89
def k0_mult76 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  v89
def k0_mult77 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  v87
def k0_mult78 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  v87
def k0_mult79 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  v85
def k0_mult80 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  v85
def k0_off1 (d0 : Dev nD) : Fin 2 → Nat :=
  let c0_i32_62 : BitVec 32 := 0#32
  let c1_i32_60 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v94 : BitVec 32 := Scalar.subi c1_i32_60 v2
  let c256_i32_61 : BitVec 32 := 256#32
  let v95 : BitVec 32 := Scalar.muli v94 c256_i32_61
  let v96 : BitVec 32 := Scalar.addi c0_i32_62 v95
  let v97 : BitVec 32 := v96
  let c0_i32_126 : BitVec 32 := 0#32
  ![v97.toNat, 0]
def k0_dev6 (d0 : Dev nD) : Nat :=
  let c0_i32_122 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_121 : BitVec 32 := 16#32
  let v234 : BitVec 32 := Scalar.muli v9 c16_i32_121
  let v235 : BitVec 32 := Scalar.addi c0_i32_122 v234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_123 : BitVec 32 := 4#32
  let v236 : BitVec 32 := Scalar.muli v5 c4_i32_123
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v238 : BitVec 32 := Scalar.muli v8 c1_i32_124
  let v239 : BitVec 32 := Scalar.addi v237 v238
  v239.toNat
def k0_off2 (d0 : Dev nD) : Fin 2 → Nat :=
  let c512_i32_75 : BitVec 32 := 512#32
  let c1_i32_73 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v129 : BitVec 32 := Scalar.subi c1_i32_73 v11
  let c256_i32_74 : BitVec 32 := 256#32
  let v130 : BitVec 32 := Scalar.muli v129 c256_i32_74
  let v131 : BitVec 32 := Scalar.addi c512_i32_75 v130
  let v132 : BitVec 32 := v131
  let c0_i32_136 : BitVec 32 := 0#32
  ![v132.toNat, 0]
def k0_dev7 (d0 : Dev nD) : Nat :=
  let c0_i32_132 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_131 : BitVec 32 := 16#32
  let v246 : BitVec 32 := Scalar.muli v2 c16_i32_131
  let v247 : BitVec 32 := Scalar.addi c0_i32_132 v246
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_133 : BitVec 32 := 4#32
  let v248 : BitVec 32 := Scalar.muli v10 c4_i32_133
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v250 : BitVec 32 := Scalar.muli v8 c1_i32_134
  let v251 : BitVec 32 := Scalar.addi v249 v250
  v251.toNat
def k0_mult81 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  v55
def k0_off3 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v268 : BitVec 32 := v55
  let v269 : Index := Scalar.indexCast v268
  let c0_147 : Index := 0#32
  ![v269.toNat, 0]
def k0_mult82 : BitVec 32 :=
  let c0_i32_148 : BitVec 32 := 0#32
  c0_i32_148
def k0_off4 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let c1_i32_64 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v99 : BitVec 32 := Scalar.subi c1_i32_64 v11
  let c128_i32_65 : BitVec 32 := 128#32
  let v100 : BitVec 32 := Scalar.muli v99 c128_i32_65
  let v101 : BitVec 32 := Scalar.addi v55 v100
  let v102 : BitVec 32 := v101
  let c0_i32_160 : BitVec 32 := 0#32
  ![v102.toNat, 0]
def k0_dev8 (d0 : Dev nD) : Nat :=
  let c0_i32_156 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_155 : BitVec 32 := 16#32
  let v279 : BitVec 32 := Scalar.muli v2 c16_i32_155
  let v280 : BitVec 32 := Scalar.addi c0_i32_156 v279
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_157 : BitVec 32 := 4#32
  let v281 : BitVec 32 := Scalar.muli v10 c4_i32_157
  let v282 : BitVec 32 := Scalar.addi v280 v281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v283 : BitVec 32 := Scalar.muli v8 c1_i32_158
  let v284 : BitVec 32 := Scalar.addi v282 v283
  v284.toNat
def k0_mult83 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  v65
def k0_off5 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v301 : BitVec 32 := v65
  let v302 : Index := Scalar.indexCast v301
  let c0_171 : Index := 0#32
  ![v302.toNat, 0]
def k0_mult84 : BitVec 32 :=
  let c512_i32_172 : BitVec 32 := 512#32
  c512_i32_172
def k0_off6 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let c1_i32_77 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v134 : BitVec 32 := Scalar.subi c1_i32_77 v13
  let c128_i32_78 : BitVec 32 := 128#32
  let v135 : BitVec 32 := Scalar.muli v134 c128_i32_78
  let v136 : BitVec 32 := Scalar.addi v65 v135
  let v137 : BitVec 32 := v136
  let c0_i32_184 : BitVec 32 := 0#32
  ![v137.toNat, 0]
def k0_dev9 (d0 : Dev nD) : Nat :=
  let c0_i32_180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_179 : BitVec 32 := 16#32
  let v312 : BitVec 32 := Scalar.muli v2 c16_i32_179
  let v313 : BitVec 32 := Scalar.addi c0_i32_180 v312
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_181 : BitVec 32 := 4#32
  let v314 : BitVec 32 := Scalar.muli v5 c4_i32_181
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_182 : BitVec 32 := 1#32
  let v316 : BitVec 32 := Scalar.muli v12 c1_i32_182
  let v317 : BitVec 32 := Scalar.addi v315 v316
  v317.toNat
def k0_off7 (d0 : Dev nD) : Fin 2 → Nat :=
  let c0_i32_87 : BitVec 32 := 0#32
  let c1_i32_85 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v164 : BitVec 32 := Scalar.subi c1_i32_85 v2
  let c256_i32_86 : BitVec 32 := 256#32
  let v165 : BitVec 32 := Scalar.muli v164 c256_i32_86
  let v166 : BitVec 32 := Scalar.addi c0_i32_87 v165
  let v167 : BitVec 32 := v166
  let c512_i32_194 : BitVec 32 := 512#32
  ![v167.toNat, 512]
def k0_dev10 (d0 : Dev nD) : Nat :=
  let c0_i32_190 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_189 : BitVec 32 := 16#32
  let v324 : BitVec 32 := Scalar.muli v9 c16_i32_189
  let v325 : BitVec 32 := Scalar.addi c0_i32_190 v324
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_191 : BitVec 32 := 4#32
  let v326 : BitVec 32 := Scalar.muli v5 c4_i32_191
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v328 : BitVec 32 := Scalar.muli v8 c1_i32_192
  let v329 : BitVec 32 := Scalar.addi v327 v328
  v329.toNat
def k0_off8 (d0 : Dev nD) : Fin 2 → Nat :=
  let c512_i32_103 : BitVec 32 := 512#32
  let c1_i32_101 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v199 : BitVec 32 := Scalar.subi c1_i32_101 v11
  let c256_i32_102 : BitVec 32 := 256#32
  let v200 : BitVec 32 := Scalar.muli v199 c256_i32_102
  let v201 : BitVec 32 := Scalar.addi c512_i32_103 v200
  let v202 : BitVec 32 := v201
  let c512_i32_203 : BitVec 32 := 512#32
  ![v202.toNat, 512]
def k0_dev11 (d0 : Dev nD) : Nat :=
  let c0_i32_199 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_198 : BitVec 32 := 16#32
  let v336 : BitVec 32 := Scalar.muli v2 c16_i32_198
  let v337 : BitVec 32 := Scalar.addi c0_i32_199 v336
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_200 : BitVec 32 := 4#32
  let v338 : BitVec 32 := Scalar.muli v10 c4_i32_200
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v340 : BitVec 32 := Scalar.muli v8 c1_i32_201
  let v341 : BitVec 32 := Scalar.addi v339 v340
  v341.toNat
def k0_mult85 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  v57
def k0_off9 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v358 : BitVec 32 := v57
  let v359 : Index := Scalar.indexCast v358
  let c0_214 : Index := 0#32
  ![v359.toNat, 0]
def k0_mult86 : BitVec 32 :=
  let c256_i32_215 : BitVec 32 := 256#32
  c256_i32_215
def k0_off10 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let c1_i32_67 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v104 : BitVec 32 := Scalar.subi c1_i32_67 v13
  let c64_i32_68 : BitVec 32 := 64#32
  let v105 : BitVec 32 := Scalar.muli v104 c64_i32_68
  let v106 : BitVec 32 := Scalar.addi v57 v105
  let v107 : BitVec 32 := v106
  let c0_i32_227 : BitVec 32 := 0#32
  ![v107.toNat, 0]
def k0_dev12 (d0 : Dev nD) : Nat :=
  let c0_i32_223 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_222 : BitVec 32 := 16#32
  let v369 : BitVec 32 := Scalar.muli v2 c16_i32_222
  let v370 : BitVec 32 := Scalar.addi c0_i32_223 v369
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_224 : BitVec 32 := 4#32
  let v371 : BitVec 32 := Scalar.muli v5 c4_i32_224
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_225 : BitVec 32 := 1#32
  let v373 : BitVec 32 := Scalar.muli v12 c1_i32_225
  let v374 : BitVec 32 := Scalar.addi v372 v373
  v374.toNat
def k0_mult87 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  v67
def k0_off11 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let v391 : BitVec 32 := v67
  let v392 : Index := Scalar.indexCast v391
  let c0_238 : Index := 0#32
  ![v392.toNat, 0]
def k0_mult88 : BitVec 32 :=
  let c768_i32_239 : BitVec 32 := 768#32
  c768_i32_239
def k0_off12 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_79 : BitVec 32 := 1#32
  let c1_i32_8 : BitVec 32 := 1#32
  let v15 : BitVec 32 := Scalar.shrsi v5 c1_i32_8
  let v139 : BitVec 32 := Scalar.subi c1_i32_79 v15
  let c64_i32_80 : BitVec 32 := 64#32
  let v140 : BitVec 32 := Scalar.muli v139 c64_i32_80
  let v141 : BitVec 32 := Scalar.addi v67 v140
  let v142 : BitVec 32 := v141
  let c0_i32_251 : BitVec 32 := 0#32
  ![v142.toNat, 0]
def k0_dev13 (d0 : Dev nD) : Nat :=
  let c0_i32_247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_246 : BitVec 32 := 16#32
  let v402 : BitVec 32 := Scalar.muli v2 c16_i32_246
  let v403 : BitVec 32 := Scalar.addi c0_i32_247 v402
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_248 : BitVec 32 := 4#32
  let v404 : BitVec 32 := Scalar.muli v14 c4_i32_248
  let v405 : BitVec 32 := Scalar.addi v403 v404
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v406 : BitVec 32 := Scalar.muli v8 c1_i32_249
  let v407 : BitVec 32 := Scalar.addi v405 v406
  v407.toNat
def k0_mult89 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  v75
def k0_off13 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v424 : BitVec 32 := v75
  let v425 : Index := Scalar.indexCast v424
  let c512 : Index := 512#32
  ![v425.toNat, 512]
def k0_mult90 : BitVec 32 :=
  let c0_i32_262 : BitVec 32 := 0#32
  c0_i32_262
def k0_off14 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let c1_i32_89 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v169 : BitVec 32 := Scalar.subi c1_i32_89 v11
  let c128_i32_90 : BitVec 32 := 128#32
  let v170 : BitVec 32 := Scalar.muli v169 c128_i32_90
  let v171 : BitVec 32 := Scalar.addi v75 v170
  let v172 : BitVec 32 := v171
  let c512_i32_274 : BitVec 32 := 512#32
  ![v172.toNat, 512]
def k0_dev14 (d0 : Dev nD) : Nat :=
  let c0_i32_270 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_269 : BitVec 32 := 16#32
  let v435 : BitVec 32 := Scalar.muli v2 c16_i32_269
  let v436 : BitVec 32 := Scalar.addi c0_i32_270 v435
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_271 : BitVec 32 := 4#32
  let v437 : BitVec 32 := Scalar.muli v10 c4_i32_271
  let v438 : BitVec 32 := Scalar.addi v436 v437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v439 : BitVec 32 := Scalar.muli v8 c1_i32_272
  let v440 : BitVec 32 := Scalar.addi v438 v439
  v440.toNat
def k0_mult91 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  v85
def k0_off15 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v457 : BitVec 32 := v85
  let v458 : Index := Scalar.indexCast v457
  let c512_285 : Index := 512#32
  ![v458.toNat, 512]
def k0_mult92 : BitVec 32 :=
  let c512_i32_286 : BitVec 32 := 512#32
  c512_i32_286
def k0_off16 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let c1_i32_105 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v204 : BitVec 32 := Scalar.subi c1_i32_105 v13
  let c128_i32_106 : BitVec 32 := 128#32
  let v205 : BitVec 32 := Scalar.muli v204 c128_i32_106
  let v206 : BitVec 32 := Scalar.addi v85 v205
  let v207 : BitVec 32 := v206
  let c512_i32_298 : BitVec 32 := 512#32
  ![v207.toNat, 512]
def k0_dev15 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v468 : BitVec 32 := Scalar.muli v2 c16_i32_293
  let v469 : BitVec 32 := Scalar.addi c0_i32_294 v468
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v470 : BitVec 32 := Scalar.muli v5 c4_i32_295
  let v471 : BitVec 32 := Scalar.addi v469 v470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_296 : BitVec 32 := 1#32
  let v472 : BitVec 32 := Scalar.muli v12 c1_i32_296
  let v473 : BitVec 32 := Scalar.addi v471 v472
  v473.toNat
def k0_mult93 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  v59
def k0_off17 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let v490 : BitVec 32 := v59
  let v491 : Index := Scalar.indexCast v490
  let c0_309 : Index := 0#32
  ![v491.toNat, 0]
def k0_mult94 : BitVec 32 :=
  let c384_i32_310 : BitVec 32 := 384#32
  c384_i32_310
def k0_off18 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_69 : BitVec 32 := 1#32
  let c1_i32_8 : BitVec 32 := 1#32
  let v15 : BitVec 32 := Scalar.shrsi v5 c1_i32_8
  let v109 : BitVec 32 := Scalar.subi c1_i32_69 v15
  let c32_i32_70 : BitVec 32 := 32#32
  let v110 : BitVec 32 := Scalar.muli v109 c32_i32_70
  let v111 : BitVec 32 := Scalar.addi v59 v110
  let v112 : BitVec 32 := v111
  let c0_i32_322 : BitVec 32 := 0#32
  ![v112.toNat, 0]
def k0_dev16 (d0 : Dev nD) : Nat :=
  let c0_i32_318 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_317 : BitVec 32 := 16#32
  let v501 : BitVec 32 := Scalar.muli v2 c16_i32_317
  let v502 : BitVec 32 := Scalar.addi c0_i32_318 v501
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_319 : BitVec 32 := 4#32
  let v503 : BitVec 32 := Scalar.muli v14 c4_i32_319
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v505 : BitVec 32 := Scalar.muli v8 c1_i32_320
  let v506 : BitVec 32 := Scalar.addi v504 v505
  v506.toNat
def k0_mult95 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  v69
def k0_off19 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let v523 : BitVec 32 := v69
  let v524 : Index := Scalar.indexCast v523
  let c0_333 : Index := 0#32
  ![v524.toNat, 0]
def k0_mult96 : BitVec 32 :=
  let c896_i32_334 : BitVec 32 := 896#32
  c896_i32_334
def k0_off20 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_81 : BitVec 32 := 1#32
  let c1_i32_10 : BitVec 32 := 1#32
  let v17 : BitVec 32 := Scalar.shrsi v8 c1_i32_10
  let v144 : BitVec 32 := Scalar.subi c1_i32_81 v17
  let c32_i32_82 : BitVec 32 := 32#32
  let v145 : BitVec 32 := Scalar.muli v144 c32_i32_82
  let v146 : BitVec 32 := Scalar.addi v69 v145
  let v147 : BitVec 32 := v146
  let c0_i32_346 : BitVec 32 := 0#32
  ![v147.toNat, 0]
def k0_dev17 (d0 : Dev nD) : Nat :=
  let c0_i32_342 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_341 : BitVec 32 := 16#32
  let v534 : BitVec 32 := Scalar.muli v2 c16_i32_341
  let v535 : BitVec 32 := Scalar.addi c0_i32_342 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v536 : BitVec 32 := Scalar.muli v5 c4_i32_343
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_344 : BitVec 32 := 1#32
  let v538 : BitVec 32 := Scalar.muli v16 c1_i32_344
  let v539 : BitVec 32 := Scalar.addi v537 v538
  v539.toNat
def k0_mult97 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  v77
def k0_off21 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v556 : BitVec 32 := v77
  let v557 : Index := Scalar.indexCast v556
  let c512_357 : Index := 512#32
  ![v557.toNat, 512]
def k0_mult98 : BitVec 32 :=
  let c256_i32_358 : BitVec 32 := 256#32
  c256_i32_358
def k0_off22 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let c1_i32_92 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v174 : BitVec 32 := Scalar.subi c1_i32_92 v13
  let c64_i32_93 : BitVec 32 := 64#32
  let v175 : BitVec 32 := Scalar.muli v174 c64_i32_93
  let v176 : BitVec 32 := Scalar.addi v77 v175
  let v177 : BitVec 32 := v176
  let c512_i32_370 : BitVec 32 := 512#32
  ![v177.toNat, 512]
def k0_dev18 (d0 : Dev nD) : Nat :=
  let c0_i32_366 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_365 : BitVec 32 := 16#32
  let v567 : BitVec 32 := Scalar.muli v2 c16_i32_365
  let v568 : BitVec 32 := Scalar.addi c0_i32_366 v567
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_367 : BitVec 32 := 4#32
  let v569 : BitVec 32 := Scalar.muli v5 c4_i32_367
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_368 : BitVec 32 := 1#32
  let v571 : BitVec 32 := Scalar.muli v12 c1_i32_368
  let v572 : BitVec 32 := Scalar.addi v570 v571
  v572.toNat
def k0_mult99 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  v87
def k0_off23 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let v589 : BitVec 32 := v87
  let v590 : Index := Scalar.indexCast v589
  let c512_381 : Index := 512#32
  ![v590.toNat, 512]
def k0_mult100 : BitVec 32 :=
  let c768_i32_382 : BitVec 32 := 768#32
  c768_i32_382
def k0_off24 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_108 : BitVec 32 := 1#32
  let c1_i32_8 : BitVec 32 := 1#32
  let v15 : BitVec 32 := Scalar.shrsi v5 c1_i32_8
  let v209 : BitVec 32 := Scalar.subi c1_i32_108 v15
  let c64_i32_109 : BitVec 32 := 64#32
  let v210 : BitVec 32 := Scalar.muli v209 c64_i32_109
  let v211 : BitVec 32 := Scalar.addi v87 v210
  let v212 : BitVec 32 := v211
  let c512_i32_394 : BitVec 32 := 512#32
  ![v212.toNat, 512]
def k0_dev19 (d0 : Dev nD) : Nat :=
  let c0_i32_390 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_389 : BitVec 32 := 16#32
  let v600 : BitVec 32 := Scalar.muli v2 c16_i32_389
  let v601 : BitVec 32 := Scalar.addi c0_i32_390 v600
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_391 : BitVec 32 := 4#32
  let v602 : BitVec 32 := Scalar.muli v14 c4_i32_391
  let v603 : BitVec 32 := Scalar.addi v601 v602
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v604 : BitVec 32 := Scalar.muli v8 c1_i32_392
  let v605 : BitVec 32 := Scalar.addi v603 v604
  v605.toNat
def k0_mult101 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  v61
def k0_off25 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let v622 : BitVec 32 := v61
  let v623 : Index := Scalar.indexCast v622
  let c0_405 : Index := 0#32
  ![v623.toNat, 0]
def k0_mult102 : BitVec 32 :=
  let c448_i32_406 : BitVec 32 := 448#32
  c448_i32_406
def k0_off26 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_71 : BitVec 32 := 1#32
  let c1_i32_10 : BitVec 32 := 1#32
  let v17 : BitVec 32 := Scalar.shrsi v8 c1_i32_10
  let v114 : BitVec 32 := Scalar.subi c1_i32_71 v17
  let c16_i32_72 : BitVec 32 := 16#32
  let v115 : BitVec 32 := Scalar.muli v114 c16_i32_72
  let v116 : BitVec 32 := Scalar.addi v61 v115
  let v117 : BitVec 32 := v116
  let c0_i32_418 : BitVec 32 := 0#32
  ![v117.toNat, 0]
def k0_dev20 (d0 : Dev nD) : Nat :=
  let c0_i32_414 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_413 : BitVec 32 := 16#32
  let v633 : BitVec 32 := Scalar.muli v2 c16_i32_413
  let v634 : BitVec 32 := Scalar.addi c0_i32_414 v633
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_415 : BitVec 32 := 4#32
  let v635 : BitVec 32 := Scalar.muli v5 c4_i32_415
  let v636 : BitVec 32 := Scalar.addi v634 v635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_416 : BitVec 32 := 1#32
  let v637 : BitVec 32 := Scalar.muli v16 c1_i32_416
  let v638 : BitVec 32 := Scalar.addi v636 v637
  v638.toNat
def k0_mult103 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  v71
def k0_off27 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v655 : BitVec 32 := v71
  let v656 : Index := Scalar.indexCast v655
  let c0_429 : Index := 0#32
  ![v656.toNat, 0]
def k0_mult104 : BitVec 32 :=
  let c960_i32_430 : BitVec 32 := 960#32
  c960_i32_430
def k0_off28 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let c1_i32_83 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v149 : BitVec 32 := Scalar.subi c1_i32_83 v2
  let c16_i32_84 : BitVec 32 := 16#32
  let v150 : BitVec 32 := Scalar.muli v149 c16_i32_84
  let v151 : BitVec 32 := Scalar.addi v71 v150
  let v152 : BitVec 32 := v151
  let c0_i32_442 : BitVec 32 := 0#32
  ![v152.toNat, 0]
def k0_dev21 (d0 : Dev nD) : Nat :=
  let c0_i32_438 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_437 : BitVec 32 := 16#32
  let v666 : BitVec 32 := Scalar.muli v9 c16_i32_437
  let v667 : BitVec 32 := Scalar.addi c0_i32_438 v666
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_439 : BitVec 32 := 4#32
  let v668 : BitVec 32 := Scalar.muli v5 c4_i32_439
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v670 : BitVec 32 := Scalar.muli v8 c1_i32_440
  let v671 : BitVec 32 := Scalar.addi v669 v670
  v671.toNat
def k0_mult105 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  v79
def k0_off29 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let v688 : BitVec 32 := v79
  let v689 : Index := Scalar.indexCast v688
  let c512_453 : Index := 512#32
  ![v689.toNat, 512]
def k0_mult106 : BitVec 32 :=
  let c384_i32_454 : BitVec 32 := 384#32
  c384_i32_454
def k0_off30 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_95 : BitVec 32 := 1#32
  let c1_i32_8 : BitVec 32 := 1#32
  let v15 : BitVec 32 := Scalar.shrsi v5 c1_i32_8
  let v179 : BitVec 32 := Scalar.subi c1_i32_95 v15
  let c32_i32_96 : BitVec 32 := 32#32
  let v180 : BitVec 32 := Scalar.muli v179 c32_i32_96
  let v181 : BitVec 32 := Scalar.addi v79 v180
  let v182 : BitVec 32 := v181
  let c512_i32_466 : BitVec 32 := 512#32
  ![v182.toNat, 512]
def k0_dev22 (d0 : Dev nD) : Nat :=
  let c0_i32_462 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_461 : BitVec 32 := 16#32
  let v699 : BitVec 32 := Scalar.muli v2 c16_i32_461
  let v700 : BitVec 32 := Scalar.addi c0_i32_462 v699
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_463 : BitVec 32 := 4#32
  let v701 : BitVec 32 := Scalar.muli v14 c4_i32_463
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v703 : BitVec 32 := Scalar.muli v8 c1_i32_464
  let v704 : BitVec 32 := Scalar.addi v702 v703
  v704.toNat
def k0_mult107 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  v89
def k0_off31 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let v721 : BitVec 32 := v89
  let v722 : Index := Scalar.indexCast v721
  let c512_477 : Index := 512#32
  ![v722.toNat, 512]
def k0_mult108 : BitVec 32 :=
  let c896_i32_478 : BitVec 32 := 896#32
  c896_i32_478
def k0_off32 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_111 : BitVec 32 := 1#32
  let c1_i32_10 : BitVec 32 := 1#32
  let v17 : BitVec 32 := Scalar.shrsi v8 c1_i32_10
  let v214 : BitVec 32 := Scalar.subi c1_i32_111 v17
  let c32_i32_112 : BitVec 32 := 32#32
  let v215 : BitVec 32 := Scalar.muli v214 c32_i32_112
  let v216 : BitVec 32 := Scalar.addi v89 v215
  let v217 : BitVec 32 := v216
  let c512_i32_490 : BitVec 32 := 512#32
  ![v217.toNat, 512]
def k0_dev23 (d0 : Dev nD) : Nat :=
  let c0_i32_486 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_485 : BitVec 32 := 16#32
  let v732 : BitVec 32 := Scalar.muli v2 c16_i32_485
  let v733 : BitVec 32 := Scalar.addi c0_i32_486 v732
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_487 : BitVec 32 := 4#32
  let v734 : BitVec 32 := Scalar.muli v5 c4_i32_487
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_488 : BitVec 32 := 1#32
  let v736 : BitVec 32 := Scalar.muli v16 c1_i32_488
  let v737 : BitVec 32 := Scalar.addi v735 v736
  v737.toNat
def k0_mult109 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_10 : BitVec 32 := 1#32
  let v17 : BitVec 32 := Scalar.shrsi v8 c1_i32_10
  let c16_i32_42 : BitVec 32 := 16#32
  let v62 : BitVec 32 := Scalar.muli v17 c16_i32_42
  let v63 : BitVec 32 := Scalar.addi v61 v62
  v63
def k0_off33 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_10 : BitVec 32 := 1#32
  let v17 : BitVec 32 := Scalar.shrsi v8 c1_i32_10
  let c16_i32_42 : BitVec 32 := 16#32
  let v62 : BitVec 32 := Scalar.muli v17 c16_i32_42
  let v63 : BitVec 32 := Scalar.addi v61 v62
  let v754 : BitVec 32 := v63
  let v755 : Index := Scalar.indexCast v754
  let c0_501 : Index := 0#32
  ![v755.toNat, 0]
def k0_mult110 : BitVec 32 :=
  let c480_i32_502 : BitVec 32 := 480#32
  c480_i32_502
def k0_off34 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_10 : BitVec 32 := 1#32
  let v17 : BitVec 32 := Scalar.shrsi v8 c1_i32_10
  let c16_i32_42 : BitVec 32 := 16#32
  let v62 : BitVec 32 := Scalar.muli v17 c16_i32_42
  let v63 : BitVec 32 := Scalar.addi v61 v62
  let v120 : BitVec 32 := v63
  let c0_i32_513 : BitVec 32 := 0#32
  ![v120.toNat, 0]
def k0_dev24 (d0 : Dev nD) : Nat :=
  let c0_i32_510 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_509 : BitVec 32 := 16#32
  let v765 : BitVec 32 := Scalar.muli v2 c16_i32_509
  let v766 : BitVec 32 := Scalar.addi c0_i32_510 v765
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_511 : BitVec 32 := 4#32
  let v767 : BitVec 32 := Scalar.muli v5 c4_i32_511
  let v768 : BitVec 32 := Scalar.addi v766 v767
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_512 : BitVec 32 := 1#32
  let v769 : BitVec 32 := Scalar.muli v16 c1_i32_512
  let v770 : BitVec 32 := Scalar.addi v768 v769
  v770.toNat
def k0_mult111 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_10 : BitVec 32 := 1#32
  let v17 : BitVec 32 := Scalar.shrsi v8 c1_i32_10
  let c16_i32_42 : BitVec 32 := 16#32
  let v62 : BitVec 32 := Scalar.muli v17 c16_i32_42
  let v63 : BitVec 32 := Scalar.addi v61 v62
  v63
def k0_mult112 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_10 : BitVec 32 := 1#32
  let v17 : BitVec 32 := Scalar.shrsi v8 c1_i32_10
  let c16_i32_42 : BitVec 32 := 16#32
  let v62 : BitVec 32 := Scalar.muli v17 c16_i32_42
  let v63 : BitVec 32 := Scalar.addi v61 v62
  v63
def k0_mult113 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi v71 v72
  v73
def k0_off35 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi v71 v72
  let v794 : BitVec 32 := v73
  let v795 : Index := Scalar.indexCast v794
  let c0_527 : Index := 0#32
  ![v795.toNat, 0]
def k0_mult114 : BitVec 32 :=
  let c992_i32_528 : BitVec 32 := 992#32
  c992_i32_528
def k0_off36 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi v71 v72
  let v155 : BitVec 32 := v73
  let c0_i32_539 : BitVec 32 := 0#32
  ![v155.toNat, 0]
def k0_dev25 (d0 : Dev nD) : Nat :=
  let c0_i32_536 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_535 : BitVec 32 := 16#32
  let v805 : BitVec 32 := Scalar.muli v9 c16_i32_535
  let v806 : BitVec 32 := Scalar.addi c0_i32_536 v805
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_537 : BitVec 32 := 4#32
  let v807 : BitVec 32 := Scalar.muli v5 c4_i32_537
  let v808 : BitVec 32 := Scalar.addi v806 v807
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_538 : BitVec 32 := 1#32
  let v809 : BitVec 32 := Scalar.muli v8 c1_i32_538
  let v810 : BitVec 32 := Scalar.addi v808 v809
  v810.toNat
def k0_mult115 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi v71 v72
  v73
def k0_mult116 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi v71 v72
  v73
def k0_mult117 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  v81
def k0_off37 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let v834 : BitVec 32 := v81
  let v835 : Index := Scalar.indexCast v834
  let c512_553 : Index := 512#32
  ![v835.toNat, 512]
def k0_mult118 : BitVec 32 :=
  let c448_i32_554 : BitVec 32 := 448#32
  c448_i32_554
def k0_off38 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_98 : BitVec 32 := 1#32
  let c1_i32_10 : BitVec 32 := 1#32
  let v17 : BitVec 32 := Scalar.shrsi v8 c1_i32_10
  let v184 : BitVec 32 := Scalar.subi c1_i32_98 v17
  let c16_i32_99 : BitVec 32 := 16#32
  let v185 : BitVec 32 := Scalar.muli v184 c16_i32_99
  let v186 : BitVec 32 := Scalar.addi v81 v185
  let v187 : BitVec 32 := v186
  let c512_i32_566 : BitVec 32 := 512#32
  ![v187.toNat, 512]
def k0_dev26 (d0 : Dev nD) : Nat :=
  let c0_i32_562 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_561 : BitVec 32 := 16#32
  let v845 : BitVec 32 := Scalar.muli v2 c16_i32_561
  let v846 : BitVec 32 := Scalar.addi c0_i32_562 v845
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_563 : BitVec 32 := 4#32
  let v847 : BitVec 32 := Scalar.muli v5 c4_i32_563
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_564 : BitVec 32 := 1#32
  let v849 : BitVec 32 := Scalar.muli v16 c1_i32_564
  let v850 : BitVec 32 := Scalar.addi v848 v849
  v850.toNat
def k0_mult119 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  v91
def k0_off39 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v867 : BitVec 32 := v91
  let v868 : Index := Scalar.indexCast v867
  let c512_577 : Index := 512#32
  ![v868.toNat, 512]
def k0_mult120 : BitVec 32 :=
  let c960_i32_578 : BitVec 32 := 960#32
  c960_i32_578
def k0_off40 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let c1_i32_114 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v219 : BitVec 32 := Scalar.subi c1_i32_114 v2
  let c16_i32_115 : BitVec 32 := 16#32
  let v220 : BitVec 32 := Scalar.muli v219 c16_i32_115
  let v221 : BitVec 32 := Scalar.addi v91 v220
  let v222 : BitVec 32 := v221
  let c512_i32_590 : BitVec 32 := 512#32
  ![v222.toNat, 512]
def k0_dev27 (d0 : Dev nD) : Nat :=
  let c0_i32_586 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_585 : BitVec 32 := 16#32
  let v878 : BitVec 32 := Scalar.muli v9 c16_i32_585
  let v879 : BitVec 32 := Scalar.addi c0_i32_586 v878
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_587 : BitVec 32 := 4#32
  let v880 : BitVec 32 := Scalar.muli v5 c4_i32_587
  let v881 : BitVec 32 := Scalar.addi v879 v880
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_588 : BitVec 32 := 1#32
  let v882 : BitVec 32 := Scalar.muli v8 c1_i32_588
  let v883 : BitVec 32 := Scalar.addi v881 v882
  v883.toNat
def k0_off41 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let v122 : BitVec 32 := v61
  let c0_i32_610 : BitVec 32 := 0#32
  ![v122.toNat, 0]
def k0_dev28 (d0 : Dev nD) : Nat :=
  let c0_i32_607 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_606 : BitVec 32 := 16#32
  let v903 : BitVec 32 := Scalar.muli v2 c16_i32_606
  let v904 : BitVec 32 := Scalar.addi c0_i32_607 v903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_608 : BitVec 32 := 4#32
  let v905 : BitVec 32 := Scalar.muli v14 c4_i32_608
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_609 : BitVec 32 := 1#32
  let v907 : BitVec 32 := Scalar.muli v8 c1_i32_609
  let v908 : BitVec 32 := Scalar.addi v906 v907
  v908.toNat
def k0_mult121 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_601 : BitVec 32 := 1#32
  let c1_i32_10 : BitVec 32 := 1#32
  let v17 : BitVec 32 := Scalar.shrsi v8 c1_i32_10
  let v900 : BitVec 32 := Scalar.subi c1_i32_601 v17
  let c16_i32_602 : BitVec 32 := 16#32
  let v901 : BitVec 32 := Scalar.muli v900 c16_i32_602
  let v902 : BitVec 32 := Scalar.addi v61 v901
  v902
def k0_off42 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_601 : BitVec 32 := 1#32
  let c1_i32_10 : BitVec 32 := 1#32
  let v17 : BitVec 32 := Scalar.shrsi v8 c1_i32_10
  let v900 : BitVec 32 := Scalar.subi c1_i32_601 v17
  let c16_i32_602 : BitVec 32 := 16#32
  let v901 : BitVec 32 := Scalar.muli v900 c16_i32_602
  let v902 : BitVec 32 := Scalar.addi v61 v901
  let v915 : BitVec 32 := v902
  let v916 : Index := Scalar.indexCast v915
  let c0_612 : Index := 0#32
  ![v916.toNat, 0]
def k0_mult122 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_8 : BitVec 32 := 1#32
  let v15 : BitVec 32 := Scalar.shrsi v5 c1_i32_8
  let c32_i32 : BitVec 32 := 32#32
  let v60 : BitVec 32 := Scalar.muli v15 c32_i32
  let v61 : BitVec 32 := Scalar.addi v59 v60
  let c1_i32_601 : BitVec 32 := 1#32
  let c1_i32_10 : BitVec 32 := 1#32
  let v17 : BitVec 32 := Scalar.shrsi v8 c1_i32_10
  let v900 : BitVec 32 := Scalar.subi c1_i32_601 v17
  let c16_i32_602 : BitVec 32 := 16#32
  let v901 : BitVec 32 := Scalar.muli v900 c16_i32_602
  let v902 : BitVec 32 := Scalar.addi v61 v901
  v902
def k0_off43 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let v157 : BitVec 32 := v71
  let c0_i32_634 : BitVec 32 := 0#32
  ![v157.toNat, 0]
def k0_dev29 (d0 : Dev nD) : Nat :=
  let c0_i32_631 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_630 : BitVec 32 := 16#32
  let v935 : BitVec 32 := Scalar.muli v2 c16_i32_630
  let v936 : BitVec 32 := Scalar.addi c0_i32_631 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_632 : BitVec 32 := 4#32
  let v937 : BitVec 32 := Scalar.muli v5 c4_i32_632
  let v938 : BitVec 32 := Scalar.addi v936 v937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_633 : BitVec 32 := 1#32
  let v939 : BitVec 32 := Scalar.muli v16 c1_i32_633
  let v940 : BitVec 32 := Scalar.addi v938 v939
  v940.toNat
def k0_mult123 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let c1_i32_624 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v932 : BitVec 32 := Scalar.subi c1_i32_624 v2
  let c16_i32_625 : BitVec 32 := 16#32
  let v933 : BitVec 32 := Scalar.muli v932 c16_i32_625
  let v934 : BitVec 32 := Scalar.addi v71 v933
  v934
def k0_off44 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let c1_i32_624 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v932 : BitVec 32 := Scalar.subi c1_i32_624 v2
  let c16_i32_625 : BitVec 32 := 16#32
  let v933 : BitVec 32 := Scalar.muli v932 c16_i32_625
  let v934 : BitVec 32 := Scalar.addi v71 v933
  let v947 : BitVec 32 := v934
  let v948 : Index := Scalar.indexCast v947
  let c0_636 : Index := 0#32
  ![v948.toNat, 0]
def k0_mult124 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_10 : BitVec 32 := 1#32
  let v17 : BitVec 32 := Scalar.shrsi v8 c1_i32_10
  let c32_i32_46 : BitVec 32 := 32#32
  let v70 : BitVec 32 := Scalar.muli v17 c32_i32_46
  let v71 : BitVec 32 := Scalar.addi v69 v70
  let c1_i32_624 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v932 : BitVec 32 := Scalar.subi c1_i32_624 v2
  let c16_i32_625 : BitVec 32 := 16#32
  let v933 : BitVec 32 := Scalar.muli v932 c16_i32_625
  let v934 : BitVec 32 := Scalar.addi v71 v933
  v934
def k0_mult125 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_10 : BitVec 32 := 1#32
  let v17 : BitVec 32 := Scalar.shrsi v8 c1_i32_10
  let c16_i32_53 : BitVec 32 := 16#32
  let v82 : BitVec 32 := Scalar.muli v17 c16_i32_53
  let v83 : BitVec 32 := Scalar.addi v81 v82
  v83
def k0_off45 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_10 : BitVec 32 := 1#32
  let v17 : BitVec 32 := Scalar.shrsi v8 c1_i32_10
  let c16_i32_53 : BitVec 32 := 16#32
  let v82 : BitVec 32 := Scalar.muli v17 c16_i32_53
  let v83 : BitVec 32 := Scalar.addi v81 v82
  let v964 : BitVec 32 := v83
  let v965 : Index := Scalar.indexCast v964
  let c512_648 : Index := 512#32
  ![v965.toNat, 512]
def k0_mult126 : BitVec 32 :=
  let c480_i32_649 : BitVec 32 := 480#32
  c480_i32_649
def k0_off46 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_10 : BitVec 32 := 1#32
  let v17 : BitVec 32 := Scalar.shrsi v8 c1_i32_10
  let c16_i32_53 : BitVec 32 := 16#32
  let v82 : BitVec 32 := Scalar.muli v17 c16_i32_53
  let v83 : BitVec 32 := Scalar.addi v81 v82
  let v190 : BitVec 32 := v83
  let c512_i32_660 : BitVec 32 := 512#32
  ![v190.toNat, 512]
def k0_dev30 (d0 : Dev nD) : Nat :=
  let c0_i32_657 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_656 : BitVec 32 := 16#32
  let v975 : BitVec 32 := Scalar.muli v2 c16_i32_656
  let v976 : BitVec 32 := Scalar.addi c0_i32_657 v975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_658 : BitVec 32 := 4#32
  let v977 : BitVec 32 := Scalar.muli v5 c4_i32_658
  let v978 : BitVec 32 := Scalar.addi v976 v977
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_659 : BitVec 32 := 1#32
  let v979 : BitVec 32 := Scalar.muli v16 c1_i32_659
  let v980 : BitVec 32 := Scalar.addi v978 v979
  v980.toNat
def k0_mult127 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_10 : BitVec 32 := 1#32
  let v17 : BitVec 32 := Scalar.shrsi v8 c1_i32_10
  let c16_i32_53 : BitVec 32 := 16#32
  let v82 : BitVec 32 := Scalar.muli v17 c16_i32_53
  let v83 : BitVec 32 := Scalar.addi v81 v82
  v83
def k0_mult128 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_10 : BitVec 32 := 1#32
  let v17 : BitVec 32 := Scalar.shrsi v8 c1_i32_10
  let c16_i32_53 : BitVec 32 := 16#32
  let v82 : BitVec 32 := Scalar.muli v17 c16_i32_53
  let v83 : BitVec 32 := Scalar.addi v81 v82
  v83
def k0_mult129 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v92 : BitVec 32 := Scalar.muli v2 c16_i32_59
  let v93 : BitVec 32 := Scalar.addi v91 v92
  v93
def k0_off47 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v92 : BitVec 32 := Scalar.muli v2 c16_i32_59
  let v93 : BitVec 32 := Scalar.addi v91 v92
  let v1004 : BitVec 32 := v93
  let v1005 : Index := Scalar.indexCast v1004
  let c512_674 : Index := 512#32
  ![v1005.toNat, 512]
def k0_mult130 : BitVec 32 :=
  let c992_i32_675 : BitVec 32 := 992#32
  c992_i32_675
def k0_off48 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v92 : BitVec 32 := Scalar.muli v2 c16_i32_59
  let v93 : BitVec 32 := Scalar.addi v91 v92
  let v225 : BitVec 32 := v93
  let c512_i32_686 : BitVec 32 := 512#32
  ![v225.toNat, 512]
def k0_dev31 (d0 : Dev nD) : Nat :=
  let c0_i32_683 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_682 : BitVec 32 := 16#32
  let v1015 : BitVec 32 := Scalar.muli v9 c16_i32_682
  let v1016 : BitVec 32 := Scalar.addi c0_i32_683 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_684 : BitVec 32 := 4#32
  let v1017 : BitVec 32 := Scalar.muli v5 c4_i32_684
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_685 : BitVec 32 := 1#32
  let v1019 : BitVec 32 := Scalar.muli v8 c1_i32_685
  let v1020 : BitVec 32 := Scalar.addi v1018 v1019
  v1020.toNat
def k0_mult131 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v92 : BitVec 32 := Scalar.muli v2 c16_i32_59
  let v93 : BitVec 32 := Scalar.addi v91 v92
  v93
def k0_mult132 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v92 : BitVec 32 := Scalar.muli v2 c16_i32_59
  let v93 : BitVec 32 := Scalar.addi v91 v92
  v93
def k0_off49 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let v124 : BitVec 32 := v59
  let c0_i32_709 : BitVec 32 := 0#32
  ![v124.toNat, 0]
def k0_dev32 (d0 : Dev nD) : Nat :=
  let c0_i32_706 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_705 : BitVec 32 := 16#32
  let v1047 : BitVec 32 := Scalar.muli v2 c16_i32_705
  let v1048 : BitVec 32 := Scalar.addi c0_i32_706 v1047
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_707 : BitVec 32 := 4#32
  let v1049 : BitVec 32 := Scalar.muli v5 c4_i32_707
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_708 : BitVec 32 := 1#32
  let v1051 : BitVec 32 := Scalar.muli v12 c1_i32_708
  let v1052 : BitVec 32 := Scalar.addi v1050 v1051
  v1052.toNat
def k0_mult133 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_700 : BitVec 32 := 1#32
  let c1_i32_8 : BitVec 32 := 1#32
  let v15 : BitVec 32 := Scalar.shrsi v5 c1_i32_8
  let v1044 : BitVec 32 := Scalar.subi c1_i32_700 v15
  let c32_i32_701 : BitVec 32 := 32#32
  let v1045 : BitVec 32 := Scalar.muli v1044 c32_i32_701
  let v1046 : BitVec 32 := Scalar.addi v59 v1045
  v1046
def k0_off50 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_700 : BitVec 32 := 1#32
  let c1_i32_8 : BitVec 32 := 1#32
  let v15 : BitVec 32 := Scalar.shrsi v5 c1_i32_8
  let v1044 : BitVec 32 := Scalar.subi c1_i32_700 v15
  let c32_i32_701 : BitVec 32 := 32#32
  let v1045 : BitVec 32 := Scalar.muli v1044 c32_i32_701
  let v1046 : BitVec 32 := Scalar.addi v59 v1045
  let v1059 : BitVec 32 := v1046
  let v1060 : Index := Scalar.indexCast v1059
  let c0_711 : Index := 0#32
  ![v1060.toNat, 0]
def k0_mult134 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32 : BitVec 32 := 64#32
  let v58 : BitVec 32 := Scalar.muli v13 c64_i32
  let v59 : BitVec 32 := Scalar.addi v57 v58
  let c1_i32_700 : BitVec 32 := 1#32
  let c1_i32_8 : BitVec 32 := 1#32
  let v15 : BitVec 32 := Scalar.shrsi v5 c1_i32_8
  let v1044 : BitVec 32 := Scalar.subi c1_i32_700 v15
  let c32_i32_701 : BitVec 32 := 32#32
  let v1045 : BitVec 32 := Scalar.muli v1044 c32_i32_701
  let v1046 : BitVec 32 := Scalar.addi v59 v1045
  v1046
def k0_off51 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let v159 : BitVec 32 := v69
  let c0_i32_733 : BitVec 32 := 0#32
  ![v159.toNat, 0]
def k0_dev33 (d0 : Dev nD) : Nat :=
  let c0_i32_730 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_729 : BitVec 32 := 16#32
  let v1079 : BitVec 32 := Scalar.muli v2 c16_i32_729
  let v1080 : BitVec 32 := Scalar.addi c0_i32_730 v1079
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_731 : BitVec 32 := 4#32
  let v1081 : BitVec 32 := Scalar.muli v14 c4_i32_731
  let v1082 : BitVec 32 := Scalar.addi v1080 v1081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v1083 : BitVec 32 := Scalar.muli v8 c1_i32_732
  let v1084 : BitVec 32 := Scalar.addi v1082 v1083
  v1084.toNat
def k0_mult135 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_723 : BitVec 32 := 1#32
  let c1_i32_10 : BitVec 32 := 1#32
  let v17 : BitVec 32 := Scalar.shrsi v8 c1_i32_10
  let v1076 : BitVec 32 := Scalar.subi c1_i32_723 v17
  let c32_i32_724 : BitVec 32 := 32#32
  let v1077 : BitVec 32 := Scalar.muli v1076 c32_i32_724
  let v1078 : BitVec 32 := Scalar.addi v69 v1077
  v1078
def k0_off52 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_723 : BitVec 32 := 1#32
  let c1_i32_10 : BitVec 32 := 1#32
  let v17 : BitVec 32 := Scalar.shrsi v8 c1_i32_10
  let v1076 : BitVec 32 := Scalar.subi c1_i32_723 v17
  let c32_i32_724 : BitVec 32 := 32#32
  let v1077 : BitVec 32 := Scalar.muli v1076 c32_i32_724
  let v1078 : BitVec 32 := Scalar.addi v69 v1077
  let v1091 : BitVec 32 := v1078
  let v1092 : Index := Scalar.indexCast v1091
  let c0_735 : Index := 0#32
  ![v1092.toNat, 0]
def k0_mult136 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_8 : BitVec 32 := 1#32
  let v15 : BitVec 32 := Scalar.shrsi v5 c1_i32_8
  let c64_i32_45 : BitVec 32 := 64#32
  let v68 : BitVec 32 := Scalar.muli v15 c64_i32_45
  let v69 : BitVec 32 := Scalar.addi v67 v68
  let c1_i32_723 : BitVec 32 := 1#32
  let c1_i32_10 : BitVec 32 := 1#32
  let v17 : BitVec 32 := Scalar.shrsi v8 c1_i32_10
  let v1076 : BitVec 32 := Scalar.subi c1_i32_723 v17
  let c32_i32_724 : BitVec 32 := 32#32
  let v1077 : BitVec 32 := Scalar.muli v1076 c32_i32_724
  let v1078 : BitVec 32 := Scalar.addi v69 v1077
  v1078
def k0_off53 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let v192 : BitVec 32 := v81
  let c512_i32_757 : BitVec 32 := 512#32
  ![v192.toNat, 512]
def k0_dev34 (d0 : Dev nD) : Nat :=
  let c0_i32_754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_753 : BitVec 32 := 16#32
  let v1111 : BitVec 32 := Scalar.muli v2 c16_i32_753
  let v1112 : BitVec 32 := Scalar.addi c0_i32_754 v1111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_755 : BitVec 32 := 4#32
  let v1113 : BitVec 32 := Scalar.muli v14 c4_i32_755
  let v1114 : BitVec 32 := Scalar.addi v1112 v1113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_756 : BitVec 32 := 1#32
  let v1115 : BitVec 32 := Scalar.muli v8 c1_i32_756
  let v1116 : BitVec 32 := Scalar.addi v1114 v1115
  v1116.toNat
def k0_mult137 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_747 : BitVec 32 := 1#32
  let c1_i32_10 : BitVec 32 := 1#32
  let v17 : BitVec 32 := Scalar.shrsi v8 c1_i32_10
  let v1108 : BitVec 32 := Scalar.subi c1_i32_747 v17
  let c16_i32_748 : BitVec 32 := 16#32
  let v1109 : BitVec 32 := Scalar.muli v1108 c16_i32_748
  let v1110 : BitVec 32 := Scalar.addi v81 v1109
  v1110
def k0_off54 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_747 : BitVec 32 := 1#32
  let c1_i32_10 : BitVec 32 := 1#32
  let v17 : BitVec 32 := Scalar.shrsi v8 c1_i32_10
  let v1108 : BitVec 32 := Scalar.subi c1_i32_747 v17
  let c16_i32_748 : BitVec 32 := 16#32
  let v1109 : BitVec 32 := Scalar.muli v1108 c16_i32_748
  let v1110 : BitVec 32 := Scalar.addi v81 v1109
  let v1123 : BitVec 32 := v1110
  let v1124 : Index := Scalar.indexCast v1123
  let c512_759 : Index := 512#32
  ![v1124.toNat, 512]
def k0_mult138 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_8 : BitVec 32 := 1#32
  let v15 : BitVec 32 := Scalar.shrsi v5 c1_i32_8
  let c32_i32_52 : BitVec 32 := 32#32
  let v80 : BitVec 32 := Scalar.muli v15 c32_i32_52
  let v81 : BitVec 32 := Scalar.addi v79 v80
  let c1_i32_747 : BitVec 32 := 1#32
  let c1_i32_10 : BitVec 32 := 1#32
  let v17 : BitVec 32 := Scalar.shrsi v8 c1_i32_10
  let v1108 : BitVec 32 := Scalar.subi c1_i32_747 v17
  let c16_i32_748 : BitVec 32 := 16#32
  let v1109 : BitVec 32 := Scalar.muli v1108 c16_i32_748
  let v1110 : BitVec 32 := Scalar.addi v81 v1109
  v1110
def k0_off55 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let v227 : BitVec 32 := v91
  let c512_i32_781 : BitVec 32 := 512#32
  ![v227.toNat, 512]
def k0_dev35 (d0 : Dev nD) : Nat :=
  let c0_i32_778 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_777 : BitVec 32 := 16#32
  let v1143 : BitVec 32 := Scalar.muli v2 c16_i32_777
  let v1144 : BitVec 32 := Scalar.addi c0_i32_778 v1143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_779 : BitVec 32 := 4#32
  let v1145 : BitVec 32 := Scalar.muli v5 c4_i32_779
  let v1146 : BitVec 32 := Scalar.addi v1144 v1145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_780 : BitVec 32 := 1#32
  let v1147 : BitVec 32 := Scalar.muli v16 c1_i32_780
  let v1148 : BitVec 32 := Scalar.addi v1146 v1147
  v1148.toNat
def k0_mult139 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let c1_i32_771 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1140 : BitVec 32 := Scalar.subi c1_i32_771 v2
  let c16_i32_772 : BitVec 32 := 16#32
  let v1141 : BitVec 32 := Scalar.muli v1140 c16_i32_772
  let v1142 : BitVec 32 := Scalar.addi v91 v1141
  v1142
def k0_off56 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let c1_i32_771 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1140 : BitVec 32 := Scalar.subi c1_i32_771 v2
  let c16_i32_772 : BitVec 32 := 16#32
  let v1141 : BitVec 32 := Scalar.muli v1140 c16_i32_772
  let v1142 : BitVec 32 := Scalar.addi v91 v1141
  let v1155 : BitVec 32 := v1142
  let v1156 : Index := Scalar.indexCast v1155
  let c512_783 : Index := 512#32
  ![v1156.toNat, 512]
def k0_mult140 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_10 : BitVec 32 := 1#32
  let v17 : BitVec 32 := Scalar.shrsi v8 c1_i32_10
  let c32_i32_58 : BitVec 32 := 32#32
  let v90 : BitVec 32 := Scalar.muli v17 c32_i32_58
  let v91 : BitVec 32 := Scalar.addi v89 v90
  let c1_i32_771 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1140 : BitVec 32 := Scalar.subi c1_i32_771 v2
  let c16_i32_772 : BitVec 32 := 16#32
  let v1141 : BitVec 32 := Scalar.muli v1140 c16_i32_772
  let v1142 : BitVec 32 := Scalar.addi v91 v1141
  v1142
def k0_off57 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let v126 : BitVec 32 := v57
  let c0_i32_804 : BitVec 32 := 0#32
  ![v126.toNat, 0]
def k0_dev36 (d0 : Dev nD) : Nat :=
  let c0_i32_801 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_800 : BitVec 32 := 16#32
  let v1175 : BitVec 32 := Scalar.muli v2 c16_i32_800
  let v1176 : BitVec 32 := Scalar.addi c0_i32_801 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_802 : BitVec 32 := 4#32
  let v1177 : BitVec 32 := Scalar.muli v10 c4_i32_802
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_803 : BitVec 32 := 1#32
  let v1179 : BitVec 32 := Scalar.muli v8 c1_i32_803
  let v1180 : BitVec 32 := Scalar.addi v1178 v1179
  v1180.toNat
def k0_mult141 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let c1_i32_795 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1172 : BitVec 32 := Scalar.subi c1_i32_795 v13
  let c64_i32_796 : BitVec 32 := 64#32
  let v1173 : BitVec 32 := Scalar.muli v1172 c64_i32_796
  let v1174 : BitVec 32 := Scalar.addi v57 v1173
  v1174
def k0_off58 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let c1_i32_795 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1172 : BitVec 32 := Scalar.subi c1_i32_795 v13
  let c64_i32_796 : BitVec 32 := 64#32
  let v1173 : BitVec 32 := Scalar.muli v1172 c64_i32_796
  let v1174 : BitVec 32 := Scalar.addi v57 v1173
  let v1187 : BitVec 32 := v1174
  let v1188 : Index := Scalar.indexCast v1187
  let c0_806 : Index := 0#32
  ![v1188.toNat, 0]
def k0_mult142 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32 : BitVec 32 := 128#32
  let v56 : BitVec 32 := Scalar.muli v11 c128_i32
  let v57 : BitVec 32 := Scalar.addi v55 v56
  let c1_i32_795 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1172 : BitVec 32 := Scalar.subi c1_i32_795 v13
  let c64_i32_796 : BitVec 32 := 64#32
  let v1173 : BitVec 32 := Scalar.muli v1172 c64_i32_796
  let v1174 : BitVec 32 := Scalar.addi v57 v1173
  v1174
def k0_off59 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let v161 : BitVec 32 := v67
  let c0_i32_828 : BitVec 32 := 0#32
  ![v161.toNat, 0]
def k0_dev37 (d0 : Dev nD) : Nat :=
  let c0_i32_825 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_824 : BitVec 32 := 16#32
  let v1207 : BitVec 32 := Scalar.muli v2 c16_i32_824
  let v1208 : BitVec 32 := Scalar.addi c0_i32_825 v1207
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_826 : BitVec 32 := 4#32
  let v1209 : BitVec 32 := Scalar.muli v5 c4_i32_826
  let v1210 : BitVec 32 := Scalar.addi v1208 v1209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_827 : BitVec 32 := 1#32
  let v1211 : BitVec 32 := Scalar.muli v12 c1_i32_827
  let v1212 : BitVec 32 := Scalar.addi v1210 v1211
  v1212.toNat
def k0_mult143 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_818 : BitVec 32 := 1#32
  let c1_i32_8 : BitVec 32 := 1#32
  let v15 : BitVec 32 := Scalar.shrsi v5 c1_i32_8
  let v1204 : BitVec 32 := Scalar.subi c1_i32_818 v15
  let c64_i32_819 : BitVec 32 := 64#32
  let v1205 : BitVec 32 := Scalar.muli v1204 c64_i32_819
  let v1206 : BitVec 32 := Scalar.addi v67 v1205
  v1206
def k0_off60 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_818 : BitVec 32 := 1#32
  let c1_i32_8 : BitVec 32 := 1#32
  let v15 : BitVec 32 := Scalar.shrsi v5 c1_i32_8
  let v1204 : BitVec 32 := Scalar.subi c1_i32_818 v15
  let c64_i32_819 : BitVec 32 := 64#32
  let v1205 : BitVec 32 := Scalar.muli v1204 c64_i32_819
  let v1206 : BitVec 32 := Scalar.addi v67 v1205
  let v1219 : BitVec 32 := v1206
  let v1220 : Index := Scalar.indexCast v1219
  let c0_830 : Index := 0#32
  ![v1220.toNat, 0]
def k0_mult144 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_44 : BitVec 32 := 128#32
  let v66 : BitVec 32 := Scalar.muli v13 c128_i32_44
  let v67 : BitVec 32 := Scalar.addi v65 v66
  let c1_i32_818 : BitVec 32 := 1#32
  let c1_i32_8 : BitVec 32 := 1#32
  let v15 : BitVec 32 := Scalar.shrsi v5 c1_i32_8
  let v1204 : BitVec 32 := Scalar.subi c1_i32_818 v15
  let c64_i32_819 : BitVec 32 := 64#32
  let v1205 : BitVec 32 := Scalar.muli v1204 c64_i32_819
  let v1206 : BitVec 32 := Scalar.addi v67 v1205
  v1206
def k0_off61 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let v194 : BitVec 32 := v79
  let c512_i32_852 : BitVec 32 := 512#32
  ![v194.toNat, 512]
def k0_dev38 (d0 : Dev nD) : Nat :=
  let c0_i32_849 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_848 : BitVec 32 := 16#32
  let v1239 : BitVec 32 := Scalar.muli v2 c16_i32_848
  let v1240 : BitVec 32 := Scalar.addi c0_i32_849 v1239
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_850 : BitVec 32 := 4#32
  let v1241 : BitVec 32 := Scalar.muli v5 c4_i32_850
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_851 : BitVec 32 := 1#32
  let v1243 : BitVec 32 := Scalar.muli v12 c1_i32_851
  let v1244 : BitVec 32 := Scalar.addi v1242 v1243
  v1244.toNat
def k0_mult145 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_842 : BitVec 32 := 1#32
  let c1_i32_8 : BitVec 32 := 1#32
  let v15 : BitVec 32 := Scalar.shrsi v5 c1_i32_8
  let v1236 : BitVec 32 := Scalar.subi c1_i32_842 v15
  let c32_i32_843 : BitVec 32 := 32#32
  let v1237 : BitVec 32 := Scalar.muli v1236 c32_i32_843
  let v1238 : BitVec 32 := Scalar.addi v79 v1237
  v1238
def k0_off62 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_842 : BitVec 32 := 1#32
  let c1_i32_8 : BitVec 32 := 1#32
  let v15 : BitVec 32 := Scalar.shrsi v5 c1_i32_8
  let v1236 : BitVec 32 := Scalar.subi c1_i32_842 v15
  let c32_i32_843 : BitVec 32 := 32#32
  let v1237 : BitVec 32 := Scalar.muli v1236 c32_i32_843
  let v1238 : BitVec 32 := Scalar.addi v79 v1237
  let v1251 : BitVec 32 := v1238
  let v1252 : Index := Scalar.indexCast v1251
  let c512_854 : Index := 512#32
  ![v1252.toNat, 512]
def k0_mult146 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c64_i32_51 : BitVec 32 := 64#32
  let v78 : BitVec 32 := Scalar.muli v13 c64_i32_51
  let v79 : BitVec 32 := Scalar.addi v77 v78
  let c1_i32_842 : BitVec 32 := 1#32
  let c1_i32_8 : BitVec 32 := 1#32
  let v15 : BitVec 32 := Scalar.shrsi v5 c1_i32_8
  let v1236 : BitVec 32 := Scalar.subi c1_i32_842 v15
  let c32_i32_843 : BitVec 32 := 32#32
  let v1237 : BitVec 32 := Scalar.muli v1236 c32_i32_843
  let v1238 : BitVec 32 := Scalar.addi v79 v1237
  v1238
def k0_off63 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let v229 : BitVec 32 := v89
  let c512_i32_876 : BitVec 32 := 512#32
  ![v229.toNat, 512]
def k0_dev39 (d0 : Dev nD) : Nat :=
  let c0_i32_873 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_872 : BitVec 32 := 16#32
  let v1271 : BitVec 32 := Scalar.muli v2 c16_i32_872
  let v1272 : BitVec 32 := Scalar.addi c0_i32_873 v1271
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_874 : BitVec 32 := 4#32
  let v1273 : BitVec 32 := Scalar.muli v14 c4_i32_874
  let v1274 : BitVec 32 := Scalar.addi v1272 v1273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_875 : BitVec 32 := 1#32
  let v1275 : BitVec 32 := Scalar.muli v8 c1_i32_875
  let v1276 : BitVec 32 := Scalar.addi v1274 v1275
  v1276.toNat
def k0_mult147 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_866 : BitVec 32 := 1#32
  let c1_i32_10 : BitVec 32 := 1#32
  let v17 : BitVec 32 := Scalar.shrsi v8 c1_i32_10
  let v1268 : BitVec 32 := Scalar.subi c1_i32_866 v17
  let c32_i32_867 : BitVec 32 := 32#32
  let v1269 : BitVec 32 := Scalar.muli v1268 c32_i32_867
  let v1270 : BitVec 32 := Scalar.addi v89 v1269
  v1270
def k0_off64 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_866 : BitVec 32 := 1#32
  let c1_i32_10 : BitVec 32 := 1#32
  let v17 : BitVec 32 := Scalar.shrsi v8 c1_i32_10
  let v1268 : BitVec 32 := Scalar.subi c1_i32_866 v17
  let c32_i32_867 : BitVec 32 := 32#32
  let v1269 : BitVec 32 := Scalar.muli v1268 c32_i32_867
  let v1270 : BitVec 32 := Scalar.addi v89 v1269
  let v1283 : BitVec 32 := v1270
  let v1284 : Index := Scalar.indexCast v1283
  let c512_878 : Index := 512#32
  ![v1284.toNat, 512]
def k0_mult148 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_8 : BitVec 32 := 1#32
  let v15 : BitVec 32 := Scalar.shrsi v5 c1_i32_8
  let c64_i32_57 : BitVec 32 := 64#32
  let v88 : BitVec 32 := Scalar.muli v15 c64_i32_57
  let v89 : BitVec 32 := Scalar.addi v87 v88
  let c1_i32_866 : BitVec 32 := 1#32
  let c1_i32_10 : BitVec 32 := 1#32
  let v17 : BitVec 32 := Scalar.shrsi v8 c1_i32_10
  let v1268 : BitVec 32 := Scalar.subi c1_i32_866 v17
  let c32_i32_867 : BitVec 32 := 32#32
  let v1269 : BitVec 32 := Scalar.muli v1268 c32_i32_867
  let v1270 : BitVec 32 := Scalar.addi v89 v1269
  v1270
def k0_off65 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let v128 : BitVec 32 := v55
  let c0_i32_899 : BitVec 32 := 0#32
  ![v128.toNat, 0]
def k0_dev40 (d0 : Dev nD) : Nat :=
  let c0_i32_896 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_895 : BitVec 32 := 16#32
  let v1303 : BitVec 32 := Scalar.muli v9 c16_i32_895
  let v1304 : BitVec 32 := Scalar.addi c0_i32_896 v1303
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_897 : BitVec 32 := 4#32
  let v1305 : BitVec 32 := Scalar.muli v5 c4_i32_897
  let v1306 : BitVec 32 := Scalar.addi v1304 v1305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_898 : BitVec 32 := 1#32
  let v1307 : BitVec 32 := Scalar.muli v8 c1_i32_898
  let v1308 : BitVec 32 := Scalar.addi v1306 v1307
  v1308.toNat
def k0_mult149 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let c1_i32_890 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1300 : BitVec 32 := Scalar.subi c1_i32_890 v11
  let c128_i32_891 : BitVec 32 := 128#32
  let v1301 : BitVec 32 := Scalar.muli v1300 c128_i32_891
  let v1302 : BitVec 32 := Scalar.addi v55 v1301
  v1302
def k0_off66 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let c1_i32_890 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1300 : BitVec 32 := Scalar.subi c1_i32_890 v11
  let c128_i32_891 : BitVec 32 := 128#32
  let v1301 : BitVec 32 := Scalar.muli v1300 c128_i32_891
  let v1302 : BitVec 32 := Scalar.addi v55 v1301
  let v1315 : BitVec 32 := v1302
  let v1316 : Index := Scalar.indexCast v1315
  let c0_901 : Index := 0#32
  ![v1316.toNat, 0]
def k0_mult150 (d0 : Dev nD) : BitVec 32 :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v54 : BitVec 32 := Scalar.muli v2 c256_i32
  let v55 : BitVec 32 := Scalar.addi c0_i32_41 v54
  let c1_i32_890 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1300 : BitVec 32 := Scalar.subi c1_i32_890 v11
  let c128_i32_891 : BitVec 32 := 128#32
  let v1301 : BitVec 32 := Scalar.muli v1300 c128_i32_891
  let v1302 : BitVec 32 := Scalar.addi v55 v1301
  v1302
def k0_off67 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let v163 : BitVec 32 := v65
  let c0_i32_923 : BitVec 32 := 0#32
  ![v163.toNat, 0]
def k0_dev41 (d0 : Dev nD) : Nat :=
  let c0_i32_920 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_919 : BitVec 32 := 16#32
  let v1335 : BitVec 32 := Scalar.muli v2 c16_i32_919
  let v1336 : BitVec 32 := Scalar.addi c0_i32_920 v1335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_921 : BitVec 32 := 4#32
  let v1337 : BitVec 32 := Scalar.muli v10 c4_i32_921
  let v1338 : BitVec 32 := Scalar.addi v1336 v1337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_922 : BitVec 32 := 1#32
  let v1339 : BitVec 32 := Scalar.muli v8 c1_i32_922
  let v1340 : BitVec 32 := Scalar.addi v1338 v1339
  v1340.toNat
def k0_mult151 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let c1_i32_913 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1332 : BitVec 32 := Scalar.subi c1_i32_913 v13
  let c128_i32_914 : BitVec 32 := 128#32
  let v1333 : BitVec 32 := Scalar.muli v1332 c128_i32_914
  let v1334 : BitVec 32 := Scalar.addi v65 v1333
  v1334
def k0_off68 (d0 : Dev nD) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let c1_i32_913 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1332 : BitVec 32 := Scalar.subi c1_i32_913 v13
  let c128_i32_914 : BitVec 32 := 128#32
  let v1333 : BitVec 32 := Scalar.muli v1332 c128_i32_914
  let v1334 : BitVec 32 := Scalar.addi v65 v1333
  let v1347 : BitVec 32 := v1334
  let v1348 : Index := Scalar.indexCast v1347
  let c0_925 : Index := 0#32
  ![v1348.toNat, 0]
def k0_mult152 (d0 : Dev nD) : BitVec 32 :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_43 : BitVec 32 := 256#32
  let v64 : BitVec 32 := Scalar.muli v11 c256_i32_43
  let v65 : BitVec 32 := Scalar.addi c512_i32 v64
  let c1_i32_913 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1332 : BitVec 32 := Scalar.subi c1_i32_913 v13
  let c128_i32_914 : BitVec 32 := 128#32
  let v1333 : BitVec 32 := Scalar.muli v1332 c128_i32_914
  let v1334 : BitVec 32 := Scalar.addi v65 v1333
  v1334
def k0_off69 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let v196 : BitVec 32 := v77
  let c512_i32_947 : BitVec 32 := 512#32
  ![v196.toNat, 512]
def k0_dev42 (d0 : Dev nD) : Nat :=
  let c0_i32_944 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_943 : BitVec 32 := 16#32
  let v1367 : BitVec 32 := Scalar.muli v2 c16_i32_943
  let v1368 : BitVec 32 := Scalar.addi c0_i32_944 v1367
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_945 : BitVec 32 := 4#32
  let v1369 : BitVec 32 := Scalar.muli v10 c4_i32_945
  let v1370 : BitVec 32 := Scalar.addi v1368 v1369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_946 : BitVec 32 := 1#32
  let v1371 : BitVec 32 := Scalar.muli v8 c1_i32_946
  let v1372 : BitVec 32 := Scalar.addi v1370 v1371
  v1372.toNat
def k0_mult153 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let c1_i32_937 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1364 : BitVec 32 := Scalar.subi c1_i32_937 v13
  let c64_i32_938 : BitVec 32 := 64#32
  let v1365 : BitVec 32 := Scalar.muli v1364 c64_i32_938
  let v1366 : BitVec 32 := Scalar.addi v77 v1365
  v1366
def k0_off70 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let c1_i32_937 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1364 : BitVec 32 := Scalar.subi c1_i32_937 v13
  let c64_i32_938 : BitVec 32 := 64#32
  let v1365 : BitVec 32 := Scalar.muli v1364 c64_i32_938
  let v1366 : BitVec 32 := Scalar.addi v77 v1365
  let v1379 : BitVec 32 := v1366
  let v1380 : Index := Scalar.indexCast v1379
  let c512_949 : Index := 512#32
  ![v1380.toNat, 512]
def k0_mult154 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c128_i32_50 : BitVec 32 := 128#32
  let v76 : BitVec 32 := Scalar.muli v11 c128_i32_50
  let v77 : BitVec 32 := Scalar.addi v75 v76
  let c1_i32_937 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1364 : BitVec 32 := Scalar.subi c1_i32_937 v13
  let c64_i32_938 : BitVec 32 := 64#32
  let v1365 : BitVec 32 := Scalar.muli v1364 c64_i32_938
  let v1366 : BitVec 32 := Scalar.addi v77 v1365
  v1366
def k0_off71 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let v231 : BitVec 32 := v87
  let c512_i32_971 : BitVec 32 := 512#32
  ![v231.toNat, 512]
def k0_dev43 (d0 : Dev nD) : Nat :=
  let c0_i32_968 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_967 : BitVec 32 := 16#32
  let v1399 : BitVec 32 := Scalar.muli v2 c16_i32_967
  let v1400 : BitVec 32 := Scalar.addi c0_i32_968 v1399
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_969 : BitVec 32 := 4#32
  let v1401 : BitVec 32 := Scalar.muli v5 c4_i32_969
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_970 : BitVec 32 := 1#32
  let v1403 : BitVec 32 := Scalar.muli v12 c1_i32_970
  let v1404 : BitVec 32 := Scalar.addi v1402 v1403
  v1404.toNat
def k0_mult155 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_961 : BitVec 32 := 1#32
  let c1_i32_8 : BitVec 32 := 1#32
  let v15 : BitVec 32 := Scalar.shrsi v5 c1_i32_8
  let v1396 : BitVec 32 := Scalar.subi c1_i32_961 v15
  let c64_i32_962 : BitVec 32 := 64#32
  let v1397 : BitVec 32 := Scalar.muli v1396 c64_i32_962
  let v1398 : BitVec 32 := Scalar.addi v87 v1397
  v1398
def k0_off72 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_961 : BitVec 32 := 1#32
  let c1_i32_8 : BitVec 32 := 1#32
  let v15 : BitVec 32 := Scalar.shrsi v5 c1_i32_8
  let v1396 : BitVec 32 := Scalar.subi c1_i32_961 v15
  let c64_i32_962 : BitVec 32 := 64#32
  let v1397 : BitVec 32 := Scalar.muli v1396 c64_i32_962
  let v1398 : BitVec 32 := Scalar.addi v87 v1397
  let v1411 : BitVec 32 := v1398
  let v1412 : Index := Scalar.indexCast v1411
  let c512_973 : Index := 512#32
  ![v1412.toNat, 512]
def k0_mult156 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let c128_i32_56 : BitVec 32 := 128#32
  let v86 : BitVec 32 := Scalar.muli v13 c128_i32_56
  let v87 : BitVec 32 := Scalar.addi v85 v86
  let c1_i32_961 : BitVec 32 := 1#32
  let c1_i32_8 : BitVec 32 := 1#32
  let v15 : BitVec 32 := Scalar.shrsi v5 c1_i32_8
  let v1396 : BitVec 32 := Scalar.subi c1_i32_961 v15
  let c64_i32_962 : BitVec 32 := 64#32
  let v1397 : BitVec 32 := Scalar.muli v1396 c64_i32_962
  let v1398 : BitVec 32 := Scalar.addi v87 v1397
  v1398
def k0_mult157 (d0 : Dev nD) : BitVec 32 :=
  let c0_i32_987 : BitVec 32 := 0#32
  let c1_i32_985 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1428 : BitVec 32 := Scalar.subi c1_i32_985 v2
  let c256_i32_986 : BitVec 32 := 256#32
  let v1429 : BitVec 32 := Scalar.muli v1428 c256_i32_986
  let v1430 : BitVec 32 := Scalar.addi c0_i32_987 v1429
  v1430
def k0_off73 (d0 : Dev nD) : Fin 2 → Nat :=
  let c0_i32_987 : BitVec 32 := 0#32
  let c1_i32_985 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1428 : BitVec 32 := Scalar.subi c1_i32_985 v2
  let c256_i32_986 : BitVec 32 := 256#32
  let v1429 : BitVec 32 := Scalar.muli v1428 c256_i32_986
  let v1430 : BitVec 32 := Scalar.addi c0_i32_987 v1429
  let v1431 : BitVec 32 := v1430
  let v1432 : Index := Scalar.indexCast v1431
  let c0_988 : Index := 0#32
  ![v1432.toNat, 0]
def k0_mult158 (d0 : Dev nD) : BitVec 32 :=
  let c0_i32_987 : BitVec 32 := 0#32
  let c1_i32_985 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1428 : BitVec 32 := Scalar.subi c1_i32_985 v2
  let c256_i32_986 : BitVec 32 := 256#32
  let v1429 : BitVec 32 := Scalar.muli v1428 c256_i32_986
  let v1430 : BitVec 32 := Scalar.addi c0_i32_987 v1429
  v1430
def k0_mult159 (d0 : Dev nD) : BitVec 32 :=
  let c512_i32_1002 : BitVec 32 := 512#32
  let c1_i32_1000 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1448 : BitVec 32 := Scalar.subi c1_i32_1000 v11
  let c256_i32_1001 : BitVec 32 := 256#32
  let v1449 : BitVec 32 := Scalar.muli v1448 c256_i32_1001
  let v1450 : BitVec 32 := Scalar.addi c512_i32_1002 v1449
  v1450
def k0_off74 (d0 : Dev nD) : Fin 2 → Nat :=
  let c512_i32_1002 : BitVec 32 := 512#32
  let c1_i32_1000 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1448 : BitVec 32 := Scalar.subi c1_i32_1000 v11
  let c256_i32_1001 : BitVec 32 := 256#32
  let v1449 : BitVec 32 := Scalar.muli v1448 c256_i32_1001
  let v1450 : BitVec 32 := Scalar.addi c512_i32_1002 v1449
  let v1451 : BitVec 32 := v1450
  let v1452 : Index := Scalar.indexCast v1451
  let c0_1003 : Index := 0#32
  ![v1452.toNat, 0]
def k0_mult160 (d0 : Dev nD) : BitVec 32 :=
  let c512_i32_1002 : BitVec 32 := 512#32
  let c1_i32_1000 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1448 : BitVec 32 := Scalar.subi c1_i32_1000 v11
  let c256_i32_1001 : BitVec 32 := 256#32
  let v1449 : BitVec 32 := Scalar.muli v1448 c256_i32_1001
  let v1450 : BitVec 32 := Scalar.addi c512_i32_1002 v1449
  v1450
def k0_off75 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let v198 : BitVec 32 := v75
  let c512_i32_1025 : BitVec 32 := 512#32
  ![v198.toNat, 512]
def k0_dev44 (d0 : Dev nD) : Nat :=
  let c0_i32_1022 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1021 : BitVec 32 := 16#32
  let v1471 : BitVec 32 := Scalar.muli v9 c16_i32_1021
  let v1472 : BitVec 32 := Scalar.addi c0_i32_1022 v1471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1023 : BitVec 32 := 4#32
  let v1473 : BitVec 32 := Scalar.muli v5 c4_i32_1023
  let v1474 : BitVec 32 := Scalar.addi v1472 v1473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1475 : BitVec 32 := Scalar.muli v8 c1_i32_1024
  let v1476 : BitVec 32 := Scalar.addi v1474 v1475
  v1476.toNat
def k0_mult161 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let c1_i32_1015 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1468 : BitVec 32 := Scalar.subi c1_i32_1015 v11
  let c128_i32_1016 : BitVec 32 := 128#32
  let v1469 : BitVec 32 := Scalar.muli v1468 c128_i32_1016
  let v1470 : BitVec 32 := Scalar.addi v75 v1469
  v1470
def k0_off76 (d0 : Dev nD) : Fin 2 → Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let c1_i32_1015 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1468 : BitVec 32 := Scalar.subi c1_i32_1015 v11
  let c128_i32_1016 : BitVec 32 := 128#32
  let v1469 : BitVec 32 := Scalar.muli v1468 c128_i32_1016
  let v1470 : BitVec 32 := Scalar.addi v75 v1469
  let v1483 : BitVec 32 := v1470
  let v1484 : Index := Scalar.indexCast v1483
  let c512_1027 : Index := 512#32
  ![v1484.toNat, 512]
def k0_mult162 (d0 : Dev nD) : BitVec 32 :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_48 : BitVec 32 := 256#32
  let v74 : BitVec 32 := Scalar.muli v2 c256_i32_48
  let v75 : BitVec 32 := Scalar.addi c0_i32_49 v74
  let c1_i32_1015 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1468 : BitVec 32 := Scalar.subi c1_i32_1015 v11
  let c128_i32_1016 : BitVec 32 := 128#32
  let v1469 : BitVec 32 := Scalar.muli v1468 c128_i32_1016
  let v1470 : BitVec 32 := Scalar.addi v75 v1469
  v1470
def k0_off77 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let v233 : BitVec 32 := v85
  let c512_i32_1049 : BitVec 32 := 512#32
  ![v233.toNat, 512]
def k0_dev45 (d0 : Dev nD) : Nat :=
  let c0_i32_1046 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1045 : BitVec 32 := 16#32
  let v1503 : BitVec 32 := Scalar.muli v2 c16_i32_1045
  let v1504 : BitVec 32 := Scalar.addi c0_i32_1046 v1503
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_1047 : BitVec 32 := 4#32
  let v1505 : BitVec 32 := Scalar.muli v10 c4_i32_1047
  let v1506 : BitVec 32 := Scalar.addi v1504 v1505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1507 : BitVec 32 := Scalar.muli v8 c1_i32_1048
  let v1508 : BitVec 32 := Scalar.addi v1506 v1507
  v1508.toNat
def k0_mult163 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let c1_i32_1039 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1500 : BitVec 32 := Scalar.subi c1_i32_1039 v13
  let c128_i32_1040 : BitVec 32 := 128#32
  let v1501 : BitVec 32 := Scalar.muli v1500 c128_i32_1040
  let v1502 : BitVec 32 := Scalar.addi v85 v1501
  v1502
def k0_off78 (d0 : Dev nD) : Fin 2 → Nat :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let c1_i32_1039 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1500 : BitVec 32 := Scalar.subi c1_i32_1039 v13
  let c128_i32_1040 : BitVec 32 := 128#32
  let v1501 : BitVec 32 := Scalar.muli v1500 c128_i32_1040
  let v1502 : BitVec 32 := Scalar.addi v85 v1501
  let v1515 : BitVec 32 := v1502
  let v1516 : Index := Scalar.indexCast v1515
  let c512_1051 : Index := 512#32
  ![v1516.toNat, 512]
def k0_mult164 (d0 : Dev nD) : BitVec 32 :=
  let c512_i32_55 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let c256_i32_54 : BitVec 32 := 256#32
  let v84 : BitVec 32 := Scalar.muli v11 c256_i32_54
  let v85 : BitVec 32 := Scalar.addi c512_i32_55 v84
  let c1_i32_1039 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.andi v8 c1_i32_6
  let v1500 : BitVec 32 := Scalar.subi c1_i32_1039 v13
  let c128_i32_1040 : BitVec 32 := 128#32
  let v1501 : BitVec 32 := Scalar.muli v1500 c128_i32_1040
  let v1502 : BitVec 32 := Scalar.addi v85 v1501
  v1502
def k0_mult165 (d0 : Dev nD) : BitVec 32 :=
  let c0_i32_1065 : BitVec 32 := 0#32
  let c1_i32_1063 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1532 : BitVec 32 := Scalar.subi c1_i32_1063 v2
  let c256_i32_1064 : BitVec 32 := 256#32
  let v1533 : BitVec 32 := Scalar.muli v1532 c256_i32_1064
  let v1534 : BitVec 32 := Scalar.addi c0_i32_1065 v1533
  v1534
def k0_off79 (d0 : Dev nD) : Fin 2 → Nat :=
  let c0_i32_1065 : BitVec 32 := 0#32
  let c1_i32_1063 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1532 : BitVec 32 := Scalar.subi c1_i32_1063 v2
  let c256_i32_1064 : BitVec 32 := 256#32
  let v1533 : BitVec 32 := Scalar.muli v1532 c256_i32_1064
  let v1534 : BitVec 32 := Scalar.addi c0_i32_1065 v1533
  let v1535 : BitVec 32 := v1534
  let v1536 : Index := Scalar.indexCast v1535
  let c512_1066 : Index := 512#32
  ![v1536.toNat, 512]
def k0_mult166 (d0 : Dev nD) : BitVec 32 :=
  let c0_i32_1065 : BitVec 32 := 0#32
  let c1_i32_1063 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1532 : BitVec 32 := Scalar.subi c1_i32_1063 v2
  let c256_i32_1064 : BitVec 32 := 256#32
  let v1533 : BitVec 32 := Scalar.muli v1532 c256_i32_1064
  let v1534 : BitVec 32 := Scalar.addi c0_i32_1065 v1533
  v1534
def k0_mult167 (d0 : Dev nD) : BitVec 32 :=
  let c512_i32_1080 : BitVec 32 := 512#32
  let c1_i32_1078 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1552 : BitVec 32 := Scalar.subi c1_i32_1078 v11
  let c256_i32_1079 : BitVec 32 := 256#32
  let v1553 : BitVec 32 := Scalar.muli v1552 c256_i32_1079
  let v1554 : BitVec 32 := Scalar.addi c512_i32_1080 v1553
  v1554
def k0_off80 (d0 : Dev nD) : Fin 2 → Nat :=
  let c512_i32_1080 : BitVec 32 := 512#32
  let c1_i32_1078 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1552 : BitVec 32 := Scalar.subi c1_i32_1078 v11
  let c256_i32_1079 : BitVec 32 := 256#32
  let v1553 : BitVec 32 := Scalar.muli v1552 c256_i32_1079
  let v1554 : BitVec 32 := Scalar.addi c512_i32_1080 v1553
  let v1555 : BitVec 32 := v1554
  let v1556 : Index := Scalar.indexCast v1555
  let c512_1081 : Index := 512#32
  ![v1556.toNat, 512]
def k0_mult168 (d0 : Dev nD) : BitVec 32 :=
  let c512_i32_1080 : BitVec 32 := 512#32
  let c1_i32_1078 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.andi v5 c1_i32_4
  let v1552 : BitVec 32 := Scalar.subi c1_i32_1078 v11
  let c256_i32_1079 : BitVec 32 := 256#32
  let v1553 : BitVec 32 := Scalar.muli v1552 c256_i32_1079
  let v1554 : BitVec 32 := Scalar.addi c512_i32_1080 v1553
  v1554
def k0_dev46 (d0 : Dev nD) : Nat :=
  let c0_i32_1365_r0 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1364_r0 : BitVec 32 := 16#32
  let v1723_r0 : BitVec 32 := Scalar.muli v9 c16_i32_1364_r0
  let v1724_r0 : BitVec 32 := Scalar.addi c0_i32_1365_r0 v1723_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1366_r0 : BitVec 32 := 4#32
  let v1725_r0 : BitVec 32 := Scalar.muli v5 c4_i32_1366_r0
  let v1726_r0 : BitVec 32 := Scalar.addi v1724_r0 v1725_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1367_r0 : BitVec 32 := 1#32
  let v1727_r0 : BitVec 32 := Scalar.muli v8 c1_i32_1367_r0
  let v1728_r0 : BitVec 32 := Scalar.addi v1726_r0 v1727_r0
  v1728_r0.toNat
def k0_dev47 (d0 : Dev nD) : Nat :=
  let c0_i32_1370_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1369_r0 : BitVec 32 := 16#32
  let v1729_r0 : BitVec 32 := Scalar.muli v2 c16_i32_1369_r0
  let v1730_r0 : BitVec 32 := Scalar.addi c0_i32_1370_r0 v1729_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_1371_r0 : BitVec 32 := 4#32
  let v1731_r0 : BitVec 32 := Scalar.muli v10 c4_i32_1371_r0
  let v1732_r0 : BitVec 32 := Scalar.addi v1730_r0 v1731_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1372_r0 : BitVec 32 := 1#32
  let v1733_r0 : BitVec 32 := Scalar.muli v8 c1_i32_1372_r0
  let v1734_r0 : BitVec 32 := Scalar.addi v1732_r0 v1733_r0
  v1734_r0.toNat
def k0_dev48 (d0 : Dev nD) : Nat :=
  let c0_i32_1375_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1374_r0 : BitVec 32 := 16#32
  let v1735_r0 : BitVec 32 := Scalar.muli v2 c16_i32_1374_r0
  let v1736_r0 : BitVec 32 := Scalar.addi c0_i32_1375_r0 v1735_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1376_r0 : BitVec 32 := 4#32
  let v1737_r0 : BitVec 32 := Scalar.muli v5 c4_i32_1376_r0
  let v1738_r0 : BitVec 32 := Scalar.addi v1736_r0 v1737_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.xori v8 c1_i32_5
  let c1_i32_1377_r0 : BitVec 32 := 1#32
  let v1739_r0 : BitVec 32 := Scalar.muli v12 c1_i32_1377_r0
  let v1740_r0 : BitVec 32 := Scalar.addi v1738_r0 v1739_r0
  v1740_r0.toNat
def k0_dev49 (d0 : Dev nD) : Nat :=
  let c0_i32_1380_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1379_r0 : BitVec 32 := 16#32
  let v1741_r0 : BitVec 32 := Scalar.muli v2 c16_i32_1379_r0
  let v1742_r0 : BitVec 32 := Scalar.addi c0_i32_1380_r0 v1741_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v14 : BitVec 32 := Scalar.xori v5 c2_i32_7
  let c4_i32_1381_r0 : BitVec 32 := 4#32
  let v1743_r0 : BitVec 32 := Scalar.muli v14 c4_i32_1381_r0
  let v1744_r0 : BitVec 32 := Scalar.addi v1742_r0 v1743_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1382_r0 : BitVec 32 := 1#32
  let v1745_r0 : BitVec 32 := Scalar.muli v8 c1_i32_1382_r0
  let v1746_r0 : BitVec 32 := Scalar.addi v1744_r0 v1745_r0
  v1746_r0.toNat
def k0_dev50 (d0 : Dev nD) : Nat :=
  let c0_i32_1385_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1384_r0 : BitVec 32 := 16#32
  let v1747_r0 : BitVec 32 := Scalar.muli v2 c16_i32_1384_r0
  let v1748_r0 : BitVec 32 := Scalar.addi c0_i32_1385_r0 v1747_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1386_r0 : BitVec 32 := 4#32
  let v1749_r0 : BitVec 32 := Scalar.muli v5 c4_i32_1386_r0
  let v1750_r0 : BitVec 32 := Scalar.addi v1748_r0 v1749_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v16 : BitVec 32 := Scalar.xori v8 c2_i32_9
  let c1_i32_1387_r0 : BitVec 32 := 1#32
  let v1751_r0 : BitVec 32 := Scalar.muli v16 c1_i32_1387_r0
  let v1752_r0 : BitVec 32 := Scalar.addi v1750_r0 v1751_r0
  v1752_r0.toNat
abbrev stage0_0 : Fin 1 → Memref sig .tc .vmem S1x1x1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4x4x1024x1024 : Shape := ⟨5, ![2, 4, 4, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x4x4x1024x1024, .bf16⟩
  | .hbm, ⟨1, _⟩ => ⟨S2x4x4x1024x1024, .f32⟩
  | .hbm, ⟨2, _⟩ => ⟨S_, .f32⟩
  | .hbm, ⟨3, _⟩ => ⟨S1024x1024, .f32⟩
  | _, _ => ⟨S2x4x4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/- The mesh of 32 devices and the row blocks the kernel moves.

   A device's number is the word `ix iy₁ iy₀ iz₁ iz₀` of five bits, and the five exchanges each flip one of
   them. Four flows (a half of the rows by a half of the columns each) halve their block of rows five times,
   in one of two orders of the bits, and double it again five times. -/
module

public import proofs.«01_k».proof.Proof.Gen.KernelIdeal

@[expose] public section

namespace Cert.KernelIdeal.Ring

open Cert.KernelIdeal Idealize.ShloMosaic

/-- The bit of the device number that exchange `j` flips: `x`, `y`'s low, `z`'s low, `y`'s high, `z`'s high. -/
def bitOf : Fin 5 → ℕ := ![4, 2, 0, 3, 1]

/-- A device's bit at exchange `j`. -/
def bit (j : Fin 5) (c : Dev nD) : ℕ := c.val / 2 ^ bitOf j % 2

/-- The neighbour across exchange `j`. -/
def peer (j : Fin 5) (c : Dev nD) : Dev nD := ⟨(c.val ^^^ 2 ^ bitOf j) % 32, Nat.mod_lt _ (by decide)⟩

/-- The exchange flow `f` makes at its level `k`: the even flows start with `x`, the odd ones end with it. -/
def ord (f : Fin 4) (k : ℕ) : Fin 5 := if f.val % 2 = 0 then ⟨k % 5, Nat.mod_lt _ (by decide)⟩ else ⟨(k + 1) % 5, Nat.mod_lt _ (by decide)⟩

/-- The level of a flow's step `t`: up to the fourth, then down again. -/
def lvl (t : ℕ) : ℕ := if t < 5 then t else 9 - t

/-- The neighbour of flow `f`'s step `t`. -/
def pr (f : Fin 4) (t : ℕ) (c : Dev nD) : Dev nD := peer (ord f (lvl t)) c

/-- The first row and the first column of a flow. -/
def rowB (f : Fin 4) : ℕ := 512 * (f.val % 2)
def colB (f : Fin 4) : ℕ := 512 * (f.val / 2)

/-- The first row of the block of `2 ^ (9 - k)` rows that device `c` keeps at level `k`. -/
def off (f : Fin 4) : ℕ → Dev nD → ℕ
  | 0, _ => rowB f
  | k + 1, c => off f k c + bit (ord f k) c * 2 ^ (8 - k)

/-- The first row of the half it gives away at level `k`. -/
def sib (f : Fin 4) (k : ℕ) (c : Dev nD) : ℕ := off f k c + (1 - bit (ord f k) c) * 2 ^ (8 - k)

/-- The first row, in the receive buffer, of what level `k` brings. -/
def rst (f : Fin 4) (k : ℕ) : ℕ := rowB f + 512 - 2 ^ (9 - k)

/-! ## Facts decided over the mesh -/

theorem peer_peer : ∀ (j : Fin 5) (c : Dev nD), peer j (peer j c) = c := by decide +kernel
theorem bit_peer : ∀ (j : Fin 5) (c : Dev nD), bit j (peer j c) = 1 - bit j c := by decide +kernel
theorem bit_le : ∀ (j : Fin 5) (c : Dev nD), bit j c ≤ 1 := by decide +kernel
theorem peer_ne : ∀ (j : Fin 5) (c : Dev nD), peer j c ≠ c := by decide +kernel

/-- A neighbour keeps the same block as long as its exchange has not come. -/
theorem off_peer' : ∀ (f : Fin 4) (k : Fin 5) (c : Dev nD), off f k.val (peer (ord f k.val) c) = off f k.val c := by decide +kernel
theorem off_peer (f : Fin 4) {k : ℕ} (hk : k < 5) (c : Dev nD) : off f k (peer (ord f k) c) = off f k c := off_peer' f ⟨k, hk⟩ c

/-- The neighbour's kept half is the half given away, and conversely. -/
theorem off_succ_peer (f : Fin 4) {k : ℕ} (hk : k < 5) (c : Dev nD) : off f (k + 1) (peer (ord f k) c) = sib f k c := by
  simp only [off, sib, off_peer f hk, bit_peer]
theorem sib_peer (f : Fin 4) {k : ℕ} (hk : k < 5) (c : Dev nD) : sib f k (peer (ord f k) c) = off f (k + 1) c := by
  rw [← off_succ_peer f hk, peer_peer]

theorem off_bounds' : ∀ (f : Fin 4) (k : Fin 6) (c : Dev nD), rowB f ≤ off f k.val c ∧ off f k.val c + 2 ^ (9 - k.val) ≤ rowB f + 512 := by decide +kernel
theorem off_bounds (f : Fin 4) {k : ℕ} (hk : k < 6) (c : Dev nD) : rowB f ≤ off f k c ∧ off f k c + 2 ^ (9 - k) ≤ rowB f + 512 := off_bounds' f ⟨k, hk⟩ c

theorem two_halves {k : ℕ} (hk : k < 5) : 2 ^ (9 - k) = 2 ^ (8 - k) + 2 ^ (8 - k) := by
  have : 9 - k = (8 - k) + 1 := by omega
  rw [this]; omega

/-- The two halves of a level's block. -/
theorem halves (f : Fin 4) (k : ℕ) (c : Dev nD) :
    (off f (k + 1) c = off f k c ∧ sib f k c = off f k c + 2 ^ (8 - k)) ∨ (off f (k + 1) c = off f k c + 2 ^ (8 - k) ∧ sib f k c = off f k c) := by
  have := bit_le (ord f k) c
  have : bit (ord f k) c = 0 ∨ bit (ord f k) c = 1 := by omega
  rcases this with h | h <;> simp [off, sib, h]

/-- The flow of an element, and the device that ends up summing it. -/
def flowOf (i : S1024x1024.Idx) : Fin 4 := ⟨((i 0).val / 512 + 2 * ((i 1).val / 512)) % 4, Nat.mod_lt _ (by decide)⟩
def own (f : Fin 4) (r : ℕ) : Dev nD :=
  ⟨((r / 256 % 2) * 2 ^ bitOf (ord f 0) + (r / 128 % 2) * 2 ^ bitOf (ord f 1) + (r / 64 % 2) * 2 ^ bitOf (ord f 2)
    + (r / 32 % 2) * 2 ^ bitOf (ord f 3) + (r / 16 % 2) * 2 ^ bitOf (ord f 4)) % 32, Nat.mod_lt _ (by decide)⟩

theorem own_off' : ∀ (f : Fin 4) (c : Dev nD) (d : Fin 16), own f (off f 5 c + d.val) = c := by decide +kernel
theorem own_off (f : Fin 4) (c : Dev nD) {r : ℕ} (h : off f 5 c ≤ r) (h' : r < off f 5 c + 16) : own f r = c := by
  have := own_off' f c ⟨r - off f 5 c, by omega⟩
  simpa [Nat.add_sub_cancel' h] using this

/-! ## Blocks of rows -/

/-- The block of `n` rows from `r`, over the 512 columns from `q`. -/
def rg (r n q : ℕ) : Finset S1024x1024.Idx :=
  Finset.univ.filter fun i => (r ≤ (i 0).val ∧ (i 0).val < r + n) ∧ (q ≤ (i 1).val ∧ (i 1).val < q + 512)

theorem mem_rg {r n q : ℕ} {i : S1024x1024.Idx} :
    i ∈ rg r n q ↔ (r ≤ (i 0).val ∧ (i 0).val < r + n) ∧ (q ≤ (i 1).val ∧ (i 1).val < q + 512) := by
  simp [rg]

/-- The block a kept level holds, the half given away, and the receive buffer's slot. -/
abbrev R (f : Fin 4) (k : ℕ) (c : Dev nD) : Finset S1024x1024.Idx := rg (off f k c) (2 ^ (9 - k)) (colB f)
abbrev Sb (f : Fin 4) (k : ℕ) (c : Dev nD) : Finset S1024x1024.Idx := rg (sib f k c) (2 ^ (8 - k)) (colB f)
abbrev V (f : Fin 4) (k : ℕ) : Finset S1024x1024.Idx := rg (rst f k) (2 ^ (8 - k)) (colB f)

theorem R_succ (f : Fin 4) (k : ℕ) (c : Dev nD) : R f (k + 1) c = rg (off f (k + 1) c) (2 ^ (8 - k)) (colB f) := by
  unfold R; rw [show 9 - (k + 1) = 8 - k by omega]

theorem R_eq_union (f : Fin 4) {k : ℕ} (hk : k < 5) (c : Dev nD) : R f k c = R f (k + 1) c ∪ Sb f k c := by
  rw [R_succ]
  ext i
  simp only [R, Sb, Finset.mem_union, mem_rg]
  have h2 := two_halves hk
  rcases halves f k c with ⟨h, h'⟩ | ⟨h, h'⟩ <;> omega

theorem disj_halves (f : Fin 4) {k : ℕ} (hk : k < 5) (c : Dev nD) : Disjoint (R f (k + 1) c) (Sb f k c) := by
  rw [R_succ, Finset.disjoint_left]
  intro i
  simp only [Sb, mem_rg]
  rcases halves f k c with ⟨h, h'⟩ | ⟨h, h'⟩ <;> omega

theorem R_subset (f : Fin 4) {k : ℕ} (hk : k < 5) (c : Dev nD) : R f (k + 1) c ⊆ R f k c := by
  rw [R_eq_union f hk]; exact Finset.subset_union_left
theorem Sb_subset (f : Fin 4) {k : ℕ} (hk : k < 5) (c : Dev nD) : Sb f k c ⊆ R f k c := by
  rw [R_eq_union f hk]; exact Finset.subset_union_right

theorem R_peer (f : Fin 4) {k : ℕ} (hk : k < 5) (c : Dev nD) : R f (k + 1) (peer (ord f k) c) = Sb f k c := by
  rw [R_succ, off_succ_peer f hk]
theorem Sb_peer (f : Fin 4) {k : ℕ} (hk : k < 5) (c : Dev nD) : Sb f k (peer (ord f k) c) = R f (k + 1) c := by
  rw [R_succ, Sb, sib_peer f hk]

theorem mem_R_zero {f : Fin 4} {c : Dev nD} {i : S1024x1024.Idx} : i ∈ R f 0 c ↔ flowOf i = f := by
  have h0 : (i 0).val < 1024 := (i 0).isLt
  have h1 : (i 1).val < 1024 := (i 1).isLt
  simp only [R, mem_rg, off, rowB, colB, flowOf, Fin.ext_iff]
  have := f.isLt
  omega

theorem R_zero_disj {f f' : Fin 4} (h : f ≠ f') (c c' : Dev nD) : Disjoint (R f 0 c) (R f' 0 c') := by
  rw [Finset.disjoint_left]; intro i hi hi'
  exact h ((mem_R_zero.mp hi).symm.trans (mem_R_zero.mp hi'))

theorem R_sub_zero (f : Fin 4) {k : ℕ} (hk : k < 6) (c : Dev nD) : R f k c ⊆ R f 0 c := by
  intro i
  have := off_bounds f hk c
  simp only [R, mem_rg, off]
  omega

theorem flow_of_mem_R {f : Fin 4} {k : ℕ} (hk : k < 6) {c : Dev nD} {i : S1024x1024.Idx} (h : i ∈ R f k c) : flowOf i = f :=
  mem_R_zero.mp (R_sub_zero f hk c h)

theorem own_of_mem {f : Fin 4} {c : Dev nD} {i : S1024x1024.Idx} (h : i ∈ R f 5 c) : own f (i 0).val = c := by
  simp only [R, mem_rg] at h
  exact own_off f c h.1.1 (by omega)

/-- The receive slots of distinct flows and levels are disjoint. -/
theorem rst_facts : ∀ (f : Fin 4) (k : Fin 5), rowB f ≤ rst f k.val ∧ rst f k.val + 2 ^ (8 - k.val) ≤ rowB f + 512
    ∧ ∀ k' : Fin 5, k.val < k'.val → rst f k.val + 2 ^ (8 - k.val) ≤ rst f k'.val := by decide +kernel

theorem V_disj : ∀ p ∈ (Finset.univ : Finset (Fin 4 × Fin 5)), ∀ p' ∈ (Finset.univ : Finset (Fin 4 × Fin 5)), p ≠ p' → Disjoint (V p.1 p.2.val) (V p'.1 p'.2.val) := by
  rintro ⟨f, k⟩ - ⟨f', k'⟩ - h
  rw [Finset.disjoint_left]
  intro i hi hi'
  simp only [V, mem_rg] at hi hi'
  have a := rst_facts f k
  have b := rst_facts f' k'
  have hf : f = f' := by
    have := a.1; have := a.2.1; have := b.1; have := b.2.1
    apply Fin.ext
    simp only [rowB, colB] at *
    have := f.isLt; have := f'.isLt
    omega
  subst hf
  apply h
  have : k = k' := by
    apply Fin.ext
    rcases Nat.lt_trichotomy k.val k'.val with h1 | h1 | h1
    · have := a.2.2 k' h1; omega
    · exact h1
    · have := b.2.2 k h1; omega
  rw [this]

/-! ## The printed rectangles -/

/-- A printed row rectangle covers its block. -/
theorem set_unit {n r q : ℕ} (o : Fin 2 → ℕ) (ho : o = ![r, q]) (inb : ∀ a, o a + (![n, 512] : Fin 2 → ℕ) a ≤ S1024x1024.size a) :
    (Rect.unit (s := S1024x1024) o ![n, 512] inb).set = rg r n q := by
  subst ho
  ext i
  rw [Rect.mem_set_unit, mem_rg, Fin.forall_fin_two]
  rfl

end Cert.KernelIdeal.Ring
-- ==== Proof.Protocol.lean ====
/- The kernel's protocol: the values its buffers hold, what each semaphore's signal hands over, what each
   device owes at launch, and the order of the waits. -/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchanges' ghost state (a cell's duties are named by the five neighbours), beside the pipeline's. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The launch's memory: the given contents, every counter at zero. -/
def s₀ : MemSt nD τ sig (Elt F) := ⟨m, fun _ => 0, ρ⟩

/-! ## Semaphore cells -/

abbrev barS : Sem sig := sig.barrier 0 rfl
abbrev finS : Sem sig := cc0_scoped0.sem

def sSem (f : Fin 4) (t : ℕ) : DmaSem sig := ⟨2 + 10 * f.val + t % 10, by have := f.isLt; show _ < 82; omega⟩
def rSem (f : Fin 4) (t : ℕ) : DmaSem sig := ⟨42 + 10 * f.val + t % 10, by have := f.isLt; show _ < 82; omega⟩

abbrev barC (c : Dev nD) : GSem nD τ sig := ((c : Thread nD τ), .reg barS)
abbrev finC (c : Dev nD) : GSem nD τ sig := ((c : Thread nD τ), .reg finS)
abbrev sC (c : Dev nD) (f : Fin 4) (t : ℕ) : GSem nD τ sig := ((c : Thread nD τ), .dma (sSem f t))
abbrev rC (c : Dev nD) (f : Fin 4) (t : ℕ) : GSem nD τ sig := ((c : Thread nD τ), .dma (rSem f t))

theorem bar_ne_fin : barS ≠ finS := by decide

/-- The flow and the step a DMA semaphore belongs to. -/
def fOf (q : DmaSem sig) : Fin 4 := ⟨(q.val - 2) / 10 % 4, Nat.mod_lt _ (by decide)⟩
def tOf (q : DmaSem sig) : ℕ := (q.val - 2) % 10

theorem fOf_s (f : Fin 4) (t : ℕ) : fOf (sSem f t) = f := by
  apply Fin.ext; have := f.isLt; simp only [fOf, sSem]; omega
theorem fOf_r (f : Fin 4) (t : ℕ) : fOf (rSem f t) = f := by
  apply Fin.ext; have := f.isLt; simp only [fOf, rSem]; omega
theorem tOf_s (f : Fin 4) {t : ℕ} (ht : t < 10) : tOf (sSem f t) = t := by
  have := f.isLt; simp only [tOf, sSem]; omega
theorem tOf_r (f : Fin 4) {t : ℕ} (ht : t < 10) : tOf (rSem f t) = t := by
  have := f.isLt; simp only [tOf, rSem]; omega
theorem s_lt (f : Fin 4) (t : ℕ) : (sSem f t).val < 42 := by have := f.isLt; simp only [sSem]; omega
theorem r_ge (f : Fin 4) (t : ℕ) : ¬ (rSem f t).val < 42 := by have := f.isLt; simp only [rSem]; omega
theorem s_ge (f : Fin 4) (t : ℕ) : 2 ≤ (sSem f t).val := by have := f.isLt; simp only [sSem]; omega
theorem r_ge' (f : Fin 4) (t : ℕ) : 2 ≤ (rSem f t).val := by have := f.isLt; simp only [rSem]; omega

/-- The credit of a transfer of `n` rows, and of a flow's step `t`. -/
def crd (n : ℕ) : ℕ := sig.dmaCredit .tc (Kind.tc.table .vmem) (cc0_scratch0 : Ref sig .tc).idx ⟨2, ![n, 512]⟩ .bf16
def amt (t : ℕ) : ℕ := crd (2 ^ (8 - lvl t))

theorem amt_pos (t : ℕ) : 0 < amt t := by
  refine sig.dmaCredit_pos _ _ _ _ _ ?_
  show 0 < Shape.numel ⟨2, ![2 ^ (8 - lvl t), 512]⟩
  simp only [Shape.numel, Fin.prod_univ_two, Matrix.cons_val_zero, Matrix.cons_val_one]
  exact Nat.mul_pos (Nat.pow_pos (by decide)) (by decide)

/-! ## Values -/

abbrev A16 (F : FTy → Type) : Type := S1024x1024.Idx → Elt F .bf16
abbrev A32 (F : FTy → Type) : Type := S1024x1024.Idx → Elt F .f32

/-- The element at row `r`, column `q`. -/
def mkI (r q : ℕ) : S1024x1024.Idx := fun
  | 0 => ⟨r % 1024, Nat.mod_lt _ (by decide)⟩
  | 1 => ⟨q % 1024, Nat.mod_lt _ (by decide)⟩

theorem mkI_row {r : ℕ} (q : ℕ) (h : r < 1024) : (mkI r q 0).val = r := Nat.mod_eq_of_lt h
theorem mkI_col (r : ℕ) {q : ℕ} (h : q < 1024) : (mkI r q 1).val = q := Nat.mod_eq_of_lt h
theorem mkI_self (i : S1024x1024.Idx) : mkI (i 0).val (i 1).val = i := by
  funext a
  match a with
  | 0 => exact Fin.ext (Nat.mod_eq_of_lt (i 0).isLt)
  | 1 => exact Fin.ext (Nat.mod_eq_of_lt (i 1).isLt)

/-- Device `c`'s operand as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- What a device's block holds at level `k`: the operand summed over the `2 ^ k` devices the exchanges so far joined. -/
def acc (f : Fin 4) : ℕ → Dev nD → A16 F
  | 0, c => k0_pay1 (xstg m ρ c)
  | k + 1, c => fun i => FloatOps.addf (acc f k c i) (acc f k (peer (ord f k) c) i)

/-- The finished sums, an element of each from the device that ends up with it. -/
def Gv : A16 F := fun i => acc m ρ (flowOf i) 5 (own (flowOf i) (i 0).val) i

theorem Gv_eq {f : Fin 4} {c : Dev nD} {i : S1024x1024.Idx} (h : i ∈ R f 5 c) : acc m ρ f 5 c i = Gv m ρ i := by
  unfold Gv
  rw [flow_of_mem_R (by decide) h, own_of_mem h]

/-- What level `k` brings into the receive buffer: the neighbour's values of the rows kept. -/
def rv (f : Fin 4) (k : ℕ) (c : Dev nD) : A16 F := fun i =>
  acc m ρ f k (peer (ord f k) c) (mkI ((i 0).val - rst f k + off f (k + 1) c) (i 1).val)

/-- The result: the sums widened. -/
def outV : A32 F := fun i => FloatOps.extf .f32 bitsLt_bf16_f32 (Gv m ρ i)

/-! ## Buffers -/

/-- Elements of the running sum of device `c`. -/
abbrev aP (c : Dev nD) (S : Finset S1024x1024.Idx) (q : PosShare TreeShare) (v : A16 F) : sProp 𝕄 :=
  (((c : Thread nD τ).loc cc0_scratch0) ↦[S]{q} v : sProp 𝕄)
/-- Elements of its receive buffer. -/
abbrev rP (c : Dev nD) (S : Finset S1024x1024.Idx) (v : A16 F) : sProp 𝕄 :=
  (((c : Thread nD τ).loc cc0_scratch1) ↦[S]{fullShare} v : sProp 𝕄)

/-- The share kept after `n` blocks of the second half are on their way, and the share the next one carries. -/
def remN : ℕ → PosShare TreeShare
  | 0 => fullShare
  | n + 1 => (remN n).right
def qN (n : ℕ) : PosShare TreeShare := (remN n).left

/-! ## The schedule -/

/-- The level at which flow `f` makes exchange `j`. -/
def kOf (f : Fin 4) (j : Fin 5) : Fin 5 := if f.val % 2 = 0 then j else ⟨(j.val + 4) % 5, Nat.mod_lt _ (by decide)⟩
theorem ord_kOf : ∀ (f : Fin 4) (j : Fin 5), ord f (kOf f j).val = j := by decide
theorem kOf_ord : ∀ (f : Fin 4) (k : Fin 5), kOf f (ord f k.val) = k := by decide

/-- The neighbour's receive slots a barrier signal hands over: those its device will write in this exchange. -/
def barPay (c : Dev nD) (j : Fin 5) : sProp 𝕄 :=
  bigSep Finset.univ fun f : Fin 4 => iprop(∃ v, rP (F := F) (peer j c) (V f (kOf f j).val) v)

/-- What a landing hands over: going up, the neighbour's rows in the receive slot and the neighbour's own elements
    they came from (which the device writes on the way down); going down, the finished rows of the other half. -/
def recvPay (c : Dev nD) (f : Fin 4) (t : ℕ) : sProp 𝕄 :=
  if t < 5 then iprop(rP c (V f t) (rv m ρ f t c) ∗ ∃ v, aP (F := F) (pr f t c) (Sb f t (pr f t c)) fullShare v)
  else aP c (Sb f (9 - t) c) fullShare (Gv m ρ)

/-- What a completed send gives back: going up nothing, going down the share of the rows it read. -/
def sendPay (c : Dev nD) (f : Fin 4) (t : ℕ) : sProp 𝕄 :=
  if t < 5 then iprop(emp) else aP c (R f (10 - t) c) (qN (t - 5)) (Gv m ρ)

def Rd : Rounds.Schedule (GSem nD τ sig) (Fin 5) 𝕄 where
  duties g r := if r = 0 ∧ g.1.2 = .tc then (match g.2 with
    | .reg _ => Finset.univ
    | .dma q => if 2 ≤ q.val then {0} else ∅) else ∅
  unitless _ := False
  amount g _ _ := match g.2 with
    | .reg _ => 1
    | .dma q => amt (tOf q)
  payload g _ d := match g.2 with
    | .reg s => if s = barS then barPay g.1.1 d else iprop(emp)
    | .dma q => if q.val < 42 then sendPay m ρ g.1.1 (fOf q) (tOf q) else recvPay m ρ g.1.1 (fOf q) (tOf q)
  amount_pos g _ _ _ := match g with
    | (_, .reg _) => Nat.one_pos
    | (_, .dma q) => amt_pos (tOf q)

instance sendPay_storable (c : Dev nD) (f : Fin 4) (t : ℕ) : BI.Storable (upEmb : UEmb _ 𝕄) (sendPay m ρ c f t) := by
  unfold sendPay; split <;> infer_instance
instance recvPay_storable (c : Dev nD) (f : Fin 4) (t : ℕ) : BI.Storable (upEmb : UEmb _ 𝕄) (recvPay m ρ c f t) := by
  unfold recvPay; split <;> infer_instance
omit [FloatOps F] in
instance barPay_storable (c : Dev nD) (j : Fin 5) : BI.Storable (upEmb : UEmb _ 𝕄) (barPay (F := F) c j) := by
  unfold barPay; infer_instance

instance Rd_payload_storable (g : GSem nD τ sig) (r : ℕ) (d : Fin 5) : BI.Storable (upEmb : UEmb _ 𝕄) ((Rd m ρ).payload g r d) := by
  obtain ⟨th, sm⟩ := g
  cases sm with
  | reg s =>
    show BI.Storable upEmb (if s = barS then barPay (F := F) th.1 d else iprop(emp))
    split <;> infer_instance
  | dma q =>
    show BI.Storable upEmb (if q.val < 42 then sendPay m ρ th.1 (fOf q) (tOf q) else recvPay m ρ th.1 (fOf q) (tOf q))
    split <;> infer_instance

section Sched
variable (c : Dev nD) (f : Fin 4)

theorem duties_reg (s : Sem sig) : (Rd m ρ).duties ((c : Thread nD τ), .reg s) 0 = Finset.univ := by
  dsimp only [Rd]; exact if_pos ⟨rfl, rfl⟩
theorem duties_s (t : ℕ) : (Rd m ρ).duties (sC c f t) 0 = {0} := by
  dsimp only [Rd]; rw [if_pos ⟨rfl, rfl⟩, if_pos (s_ge f t)]
theorem duties_r (t : ℕ) : (Rd m ρ).duties (rC c f t) 0 = {0} := by
  dsimp only [Rd]; rw [if_pos ⟨rfl, rfl⟩, if_pos (r_ge' f t)]
theorem duties_later (g : GSem nD τ sig) : ∀ r, 1 ≤ r → (Rd m ρ).duties g r = ∅ :=
  fun r hr => by dsimp only [Rd]; exact if_neg fun h => by omega

theorem amount_reg (s : Sem sig) (d : Fin 5) : (Rd m ρ).amount ((c : Thread nD τ), .reg s) 0 d = 1 := rfl
theorem amount_s {t : ℕ} (ht : t < 10) (d : Fin 5) : (Rd m ρ).amount (sC c f t) 0 d = amt t := by
  dsimp only [Rd]; rw [tOf_s f ht]
theorem amount_r {t : ℕ} (ht : t < 10) (d : Fin 5) : (Rd m ρ).amount (rC c f t) 0 d = amt t := by
  dsimp only [Rd]; rw [tOf_r f ht]

theorem expect_reg (s : Sem sig) : (Rd m ρ).expect ((c : Thread nD τ), .reg s) 0 = 5 := by
  unfold Schedule.expect Schedule.amountOf
  rw [duties_reg, Finset.sum_congr rfl fun d _ => amount_reg m ρ c s d, Finset.sum_const, Finset.card_univ, Fintype.card_fin, smul_eq_mul]
theorem expect_s {t : ℕ} (ht : t < 10) : (Rd m ρ).expect (sC c f t) 0 = amt t := by
  unfold Schedule.expect Schedule.amountOf; rw [duties_s, Finset.sum_singleton, amount_s m ρ c f ht]
theorem expect_r {t : ℕ} (ht : t < 10) : (Rd m ρ).expect (rC c f t) 0 = amt t := by
  unfold Schedule.expect Schedule.amountOf; rw [duties_r, Finset.sum_singleton, amount_r m ρ c f ht]

theorem payload_bar (j : Fin 5) : (Rd m ρ).payload (barC c) 0 j = barPay c j := by dsimp only [Rd]; exact if_pos rfl
theorem payload_fin (j : Fin 5) : (Rd m ρ).payload (finC c) 0 j = iprop(emp) := by
  dsimp only [Rd]; exact if_neg bar_ne_fin.symm
theorem payload_s {t : ℕ} (ht : t < 10) (d : Fin 5) : (Rd m ρ).payload (sC c f t) 0 d = sendPay m ρ c f t := by
  dsimp only [Rd]; rw [if_pos (s_lt f t), fOf_s, tOf_s f ht]
theorem payload_r {t : ℕ} (ht : t < 10) (d : Fin 5) : (Rd m ρ).payload (rC c f t) 0 d = recvPay m ρ c f t := by
  dsimp only [Rd]; rw [if_neg (r_ge f t), fOf_r, tOf_r f ht]

theorem rest_s {t : ℕ} (ht : t < 10) :
    bigSep ((Rd m ρ).duties (sC c f t) 0 \ ∅) (fun d => (Rd m ρ).payload (sC c f t) 0 d) = sendPay m ρ c f t := by
  rw [Finset.sdiff_empty, duties_s, bigSep_singleton, payload_s m ρ c f ht]
theorem rest_r {t : ℕ} (ht : t < 10) :
    bigSep ((Rd m ρ).duties (rC c f t) 0 \ ∅) (fun d => (Rd m ρ).payload (rC c f t) 0 d) = recvPay m ρ c f t := by
  rw [Finset.sdiff_empty, duties_r, bigSep_singleton, payload_r m ρ c f ht]
theorem rest_bar :
    bigSep ((Rd m ρ).duties (barC c) 0 \ ∅) (fun d => (Rd m ρ).payload (barC c) 0 d) = bigSep Finset.univ (barPay (F := F) c) := by
  rw [Finset.sdiff_empty, duties_reg]; exact bigSep_congr fun j _ => payload_bar m ρ c j

end Sched

/-! ## What a device owes -/

theorem Ico_peel {n N : ℕ} (h : n < N) : Finset.Ico n N = insert n (Finset.Ico (n + 1) N) := by
  ext x; simp only [Finset.mem_Ico, Finset.mem_insert]; omega
theorem not_mem_Ico_succ (n N : ℕ) : n ∉ Finset.Ico (n + 1) N := by simp only [Finset.mem_Ico]; omega

/-- Flow `f`'s landings from step `t` on. -/
def ob (c : Dev nD) (f : Fin 4) (t : ℕ) : CellTallies nD τ sig Unit :=
  ∑ t' ∈ Finset.Ico t 10, tallyAt (rC (pr f t' c) f t') () (amt t')

/-- The neighbours in the order the kernel signals them. -/
def nb (n : ℕ) : Fin 5 := ⟨n % 5, Nat.mod_lt _ (by decide)⟩

def obBar (c : Dev nD) (n : ℕ) : CellTallies nD τ sig Unit := ∑ j ∈ Finset.Ico n 5, tallyAt (barC (peer (nb j) c)) () 1
def obFin (c : Dev nD) (n : ℕ) : CellTallies nD τ sig Unit := ∑ j ∈ Finset.Ico n 5, tallyAt (finC (peer (nb j) c)) () 1

/-- While the flows run, with `a f` transfers of flow `f` started: the remaining landings and the closing signals. -/
def Ow (c : Dev nD) (a : Fin 4 → ℕ) : CellTallies nD τ sig Unit := obFin c 0 + ∑ f, ob c f (a f)

/-- At launch: besides, the opening signals. -/
def O₀ (c : Dev nD) : CellTallies nD τ sig Unit := Ow c (fun _ => 0) + obBar c 0

theorem ob_peel (c : Dev nD) (f : Fin 4) {t : ℕ} (ht : t < 10) :
    ob c f t = ob c f (t + 1) + tallyAt (rC (pr f t c) f t) () (amt t) := by
  unfold ob; rw [Ico_peel ht, Finset.sum_insert (not_mem_Ico_succ _ _), add_comm]
theorem obBar_peel (c : Dev nD) {n : ℕ} (hn : n < 5) : obBar c n = obBar c (n + 1) + tallyAt (barC (peer (nb n) c)) () 1 := by
  unfold obBar; rw [Ico_peel hn, Finset.sum_insert (not_mem_Ico_succ _ _), add_comm]
theorem obFin_peel (c : Dev nD) {n : ℕ} (hn : n < 5) : obFin c n = obFin c (n + 1) + tallyAt (finC (peer (nb n) c)) () 1 := by
  unfold obFin; rw [Ico_peel hn, Finset.sum_insert (not_mem_Ico_succ _ _), add_comm]
theorem obBar_done (c : Dev nD) : obBar c 5 = 0 := rfl
theorem obFin_done (c : Dev nD) : obFin c 5 = 0 := rfl

theorem Ow_peel (c : Dev nD) (a : Fin 4 → ℕ) (f : Fin 4) {t : ℕ} (ha : a f = t) (ht : t < 10) :
    Ow c a = Ow c (Function.update a f (t + 1)) + tallyAt (rC (pr f t c) f t) () (amt t) := by
  unfold Ow
  rw [add_assoc]; congr 1
  rw [← Finset.add_sum_erase _ _ (Finset.mem_univ f), ← Finset.add_sum_erase _ (fun g => ob c g (Function.update a f (t + 1) g)) (Finset.mem_univ f),
    Function.update_self, ha, ob_peel c f ht, add_right_comm]
  congr 2
  exact Finset.sum_congr rfl fun g hg => by rw [Function.update_of_ne (Finset.ne_of_mem_erase hg)]

theorem Ow_done (c : Dev nD) (a : Fin 4 → ℕ) (ha : ∀ f, 10 ≤ a f) : Ow c a = obFin c 0 := by
  unfold Ow
  rw [Finset.sum_eq_zero, add_zero]
  intro f _; unfold ob; rw [Finset.Ico_eq_empty (by have := ha f; omega), Finset.sum_empty]

/-! ## The order of the waits -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A landing's place in the order: its step, one later for the two flows that start late. -/
def pos (f : Fin 4) (t : ℕ) : ℕ := 2 + 4 * (t + f.val / 2) + f.val

/-- Staging and sends lowest, then the barrier, the landings in order, the closing signals. -/
def lv (g : GSem nD τ sig) (_ : Unit) : ℕ := match g.2 with
  | .reg s => if s = barS then 1 else 1000
  | .dma q => if q.val < 42 then 0 else pos (fOf q) (tOf q)

theorem lv_bar (c : Dev nD) : lv (barC c) () = 1 := by dsimp only [lv]; exact if_pos rfl
theorem lv_fin (c : Dev nD) : lv (finC c) () = 1000 := by dsimp only [lv]; exact if_neg bar_ne_fin.symm
theorem lv_s (c : Dev nD) (f : Fin 4) (t : ℕ) : lv (sC c f t) () = 0 := by dsimp only [lv]; exact if_pos (s_lt f t)
theorem lv_r (c : Dev nD) (f : Fin 4) {t : ℕ} (ht : t < 10) : lv (rC c f t) () = pos f t := by
  dsimp only [lv]; rw [if_neg (r_ge f t), fOf_r, tOf_r f ht]

theorem tally_pos {g g' : GSem nD τ sig} {n : ℕ} {u : Unit} (h : 0 < tallyAt g () n g' u) : g' = g := by
  rw [tallyAt_apply] at h
  by_contra hn
  rw [if_neg fun h' => hn h'.1] at h
  exact absurd h (lt_irrefl _)

theorem sum_pos {ι : Type} {s : Finset ι} {T : ι → CellTallies nD τ sig Unit} {g : GSem nD τ sig} {u : Unit}
    (h : 0 < (∑ i ∈ s, T i) g u) : ∃ i ∈ s, 0 < T i g u := by
  by_contra hn
  simp only [not_exists, not_and, Nat.not_lt, Nat.le_zero] at hn
  rw [Finset.sum_apply, Finsupp.finset_sum_apply, Finset.sum_eq_zero hn] at h
  exact absurd h (lt_irrefl _)

/-- The cells a device may owe while its flows run: closing cells and landings not yet started. -/
theorem Ow_pos {c : Dev nD} {a : Fin 4 → ℕ} {g : GSem nD τ sig} {u : Unit} (h : 0 < Ow c a g u) :
    (∃ c', g = finC c') ∨ ∃ c' f t, a f ≤ t ∧ t < 10 ∧ g = rC c' f t := by
  unfold Ow obFin at h
  rw [Pi.add_apply, Finsupp.add_apply] at h
  rcases Nat.eq_zero_or_pos ((∑ j ∈ Finset.Ico 0 5, tallyAt (finC (peer (nb j) c)) () 1) g u) with h0 | h0
  · rw [h0, zero_add] at h
    obtain ⟨f, -, h⟩ := sum_pos h
    obtain ⟨t, ht, h⟩ := sum_pos h
    rw [Finset.mem_Ico] at ht
    exact .inr ⟨_, f, t, ht.1, ht.2, tally_pos h⟩
  · obtain ⟨j, -, h⟩ := sum_pos h0
    exact .inl ⟨_, tally_pos h⟩

/-- A device may wait on a cell placed below everything it owes. -/
theorem mayWait_of (c : Dev nD) (sm : SemLoc sig) (O : CellTallies nD τ sig Unit)
    (hO : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

/-- Landing `(f, t)` may be awaited when every landing still to be started comes later in the order. -/
theorem mayWait_recv (c : Dev nD) (f : Fin 4) {t : ℕ} (ht : t < 10) (a : Fin 4 → ℕ) (ha : ∀ f', a f' < 10 → pos f t < pos f' (a f')) :
    (levAts L lv : sProp 𝕄) ⊢ MayWait (c : Thread nD τ) (.dma (rSem f t)) () (Ow c a) :=
  mayWait_of c _ _ fun g u hg => by
    have e : lv ((c : Thread nD τ), .dma (rSem f t)) () = pos f t := lv_r c f ht
    rcases Ow_pos hg with ⟨c', rfl⟩ | ⟨c', f', t', h1, h2, rfl⟩
    · refine ⟨rfl, ?_⟩; rw [e, lv_fin]; have := f.isLt; unfold pos; omega
    · refine ⟨rfl, ?_⟩; rw [e, lv_r c' f' h2]; have := ha f' (by omega); unfold pos at *; omega

end Cert.KernelIdeal.Ring
-- ==== Proof.State.lean ====
/- The states a device's flows pass through, and how its buffers are cut and joined. -/
module

public import proofs.«01_k».proof.Proof.Protocol

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Shares -/

/-- The finished half split over the shares: what is left after `n` sends, and the `n` shares sent. -/
theorem aP_shares (c : Dev nD) (S : Finset S1024x1024.Idx) (v : A16 F) :
    ∀ n, (aP c S fullShare v : sProp 𝕄) ⊣⊢ iprop(aP c S (remN n) v ∗ bigSep (Finset.range n) fun i => aP c S (qN i) v)
  | 0 => by rw [Finset.range_zero, bigSep_empty]; exact (sep_emp (PROP := sProp 𝕄)).symm
  | n + 1 => by
    refine (aP_shares c S v n).trans ?_
    rw [Finset.range_add_one, bigSep_insert Finset.notMem_range_self]
    have h : (aP c S (remN n) v : sProp 𝕄) ⊣⊢ iprop(aP c S (qN n) v ∗ aP c S (remN (n + 1)) v) :=
      pointsTo_share (PosShare.mem_left_op_right (remN n))
    show iprop(aP c S (remN n) v ∗ bigSep (Finset.range n) fun i => aP c S (qN i) v)
      ⊣⊢ iprop(aP c S (remN (n + 1)) v ∗ aP c S (qN n) v ∗ bigSep (Finset.range n) fun i => aP c S (qN i) v)
    constructor
    · iintro ⟨H, HB⟩
      ihave H' := h.1 $$ H
      icases H' with ⟨Hl, Hr⟩
      isplitl [Hr]; · iexact Hr
      isplitl [Hl]; · iexact Hl
      iexact HB
    · iintro ⟨Hr, Hl, HB⟩
      isplitl [Hr Hl]
      · iapply h.2; isplitl [Hl]; · iexact Hl
        iexact Hr
      · iexact HB

/-! ## A channel: flow `f`'s step `t` on device `c` -/

/-- Before the start: the duties it will pay, its two counters' positions, its landing's credit, and going up the
    neighbour's slot. -/
def X0 (c : Dev nD) (f : Fin 4) (t : ℕ) : sProp 𝕄 :=
  iprop(dutyTok ER (sC c f t) 0 0 ∗ dutyTok ER (rC (pr f t c) f t) 0 0 ∗ atPos ER (sC c f t) 0 ∅ 0 ∗ atPos ER (rC c f t) 0 ∅ 0
    ∗ cred (tallyAt (rC c f t) () (amt t)) ∗ if t < 5 then iprop(∃ v, rP (F := F) (pr f t c) (V f t) v) else iprop(emp))

/-- Started, its landing not awaited. -/
def X1 (c : Dev nD) (f : Fin 4) (t : ℕ) : sProp 𝕄 :=
  iprop(cred (tallyAt (sC c f t) () (amt t)) ∗ atPos ER (sC c f t) 0 ∅ 0 ∗ atPos ER (rC c f t) 0 ∅ 0 ∗ cred (tallyAt (rC c f t) () (amt t)))

/-- What a landing leaves: going up the slot's contents, going down the shares of the finished half not in use below. -/
def D2 (c : Dev nD) (f : Fin 4) (t : ℕ) : sProp 𝕄 :=
  if t < 5 then rP c (V f t) (rv m ρ f t c)
  else bigSep (Finset.range (t - 4)) fun i => aP c (Sb f (9 - t) c) (qN i) (Gv m ρ)

/-- Its landing awaited. -/
def X2 (c : Dev nD) (f : Fin 4) (t : ℕ) : sProp 𝕄 :=
  iprop(cred (tallyAt (sC c f t) () (amt t)) ∗ atPos ER (sC c f t) 0 ∅ 0 ∗ semVal (rC c f t) 0 ∗ D2 m ρ c f t)

/-- Both ends awaited. -/
def X3 (c : Dev nD) (f : Fin 4) (t : ℕ) : sProp 𝕄 :=
  iprop(semVal (sC c f t) 0 ∗ semVal (rC c f t) 0 ∗ D2 m ρ c f t ∗ sendPay m ρ c f t)

def Fut (c : Dev nD) (f : Fin 4) (t : ℕ) : sProp 𝕄 := bigSep (Finset.Ico t 10) (X0 (F := F) c f)
def Pst (c : Dev nD) (f : Fin 4) (t : ℕ) : sProp 𝕄 := bigSep (Finset.range t) (X2 m ρ c f)
/-- The neighbours' elements collected on the way up, to be written on the way down. -/
def Stk (c : Dev nD) (f : Fin 4) (k : ℕ) : sProp 𝕄 :=
  bigSep (Finset.range k) fun j => iprop(∃ v, aP (F := F) (peer (ord f j) c) (Sb f j (peer (ord f j) c)) fullShare v)

/-! ## A flow -/

/-- A flow's phases: at level `k` going up, its send started, its landing arrived; `n` levels down, its send started;
    all landed and `d` sends awaited. -/
inductive Ph where
  | rs (k : ℕ) | rsSent (k : ℕ) | rsGot (k : ℕ) | ag (n : ℕ) | agSent (n : ℕ) | fin (d : ℕ)
  deriving DecidableEq

/-- How many transfers are started. -/
def sent : Ph → ℕ
  | .rs k => k | .rsSent k => k + 1 | .rsGot k => k + 1 | .ag n => 5 + n | .agSent n => 6 + n | .fin _ => 10

def Fl (c : Dev nD) (f : Fin 4) : Ph → sProp 𝕄
  | .rs k => iprop(Fut (F := F) c f k ∗ Pst m ρ c f k ∗ Stk (F := F) c f k ∗ aP c (R f k c) fullShare (acc m ρ f k c))
  | .rsSent k => iprop(X1 (F := F) c f k ∗ Fut (F := F) c f (k + 1) ∗ Pst m ρ c f k ∗ Stk (F := F) c f k ∗ aP c (R f (k + 1) c) fullShare (acc m ρ f k c))
  | .rsGot k => iprop(Fut (F := F) c f (k + 1) ∗ Pst m ρ c f (k + 1) ∗ Stk (F := F) c f (k + 1) ∗ aP c (R f (k + 1) c) fullShare (acc m ρ f k c))
  | .ag n => iprop(Fut (F := F) c f (5 + n) ∗ Pst m ρ c f (5 + n) ∗ Stk (F := F) c f (5 - n) ∗ aP c (R f (5 - n) c) (remN n) (Gv m ρ))
  | .agSent n => iprop(X1 (F := F) c f (5 + n) ∗ Fut (F := F) c f (6 + n) ∗ Pst m ρ c f (5 + n) ∗ Stk (F := F) c f (4 - n) ∗ aP c (R f (5 - n) c) (remN (n + 1)) (Gv m ρ))
  | .fin d => iprop(bigSep (Finset.Ico d 10) (X2 m ρ c f) ∗ bigSep (Finset.range d) (X3 m ρ c f) ∗ aP c (R f 0 c) (remN 5) (Gv m ρ))

/-- The top of the way up is the bottom of the way down. -/
theorem Fl_turn (c : Dev nD) (f : Fin 4) : Fl m ρ c f (.rs 5) = Fl m ρ c f (.ag 0) := by
  have h : (aP c (R f 5 c) fullShare (acc m ρ f 5 c) : sProp 𝕄) = aP c (R f 5 c) fullShare (Gv m ρ) :=
    pointsTo_congr fun i hi => Gv_eq m ρ hi
  show iprop(_ ∗ _ ∗ _ ∗ aP c (R f 5 c) fullShare (acc m ρ f 5 c)) = iprop(_ ∗ _ ∗ _ ∗ aP c (R f 5 c) fullShare (Gv m ρ))
  rw [h]

theorem Ico_self (n : ℕ) : Finset.Ico n n = ∅ := Finset.Ico_self n
theorem range_Ico (n : ℕ) : Finset.range n = Finset.Ico 0 n := by ext x; simp only [Finset.mem_Ico, Finset.mem_range, Nat.zero_le, true_and]

/-- All landed is no send awaited. -/
theorem Fl_last (c : Dev nD) (f : Fin 4) : Fl m ρ c f (.ag 5) ⊢ Fl m ρ c f (.fin 0) := by
  show iprop(Fut (F := F) c f 10 ∗ Pst m ρ c f 10 ∗ Stk (F := F) c f 0 ∗ aP c (R f 0 c) (remN 5) (Gv m ρ))
    ⊢ iprop(bigSep (Finset.Ico 0 10) (X2 m ρ c f) ∗ bigSep (Finset.range 0) (X3 m ρ c f) ∗ aP c (R f 0 c) (remN 5) (Gv m ρ))
  unfold Fut Pst Stk
  rw [Ico_self, Finset.range_zero, bigSep_empty, bigSep_empty, bigSep_empty, range_Ico]
  iintro ⟨-, H, -, HA⟩
  isplitl [H]; · iexact H
  isplitr; · iempintro
  iexact HA

/-- A flow's next step, taken out of those to come; its last level, out of the stack; a step added to those past. -/
theorem Fut_peel (c : Dev nD) (f : Fin 4) {t : ℕ} (h : t < 10) : Fut (F := F) c f t = iprop(X0 (F := F) c f t ∗ Fut (F := F) c f (t + 1)) := by
  unfold Fut; rw [Ico_peel h, bigSep_insert (not_mem_Ico_succ _ _)]; rfl
theorem Pst_push (c : Dev nD) (f : Fin 4) (t : ℕ) : Pst m ρ c f (t + 1) = iprop(X2 m ρ c f t ∗ Pst m ρ c f t) := by
  unfold Pst; rw [Finset.range_add_one, bigSep_insert Finset.notMem_range_self]; rfl
theorem Stk_push (c : Dev nD) (f : Fin 4) (k : ℕ) : Stk (F := F) c f (k + 1)
    = iprop((∃ v, aP (F := F) (peer (ord f k) c) (Sb f k (peer (ord f k) c)) fullShare v) ∗ Stk (F := F) c f k) := by
  unfold Stk; rw [Finset.range_add_one, bigSep_insert Finset.notMem_range_self]; rfl

/-- The block of a level, in its two halves. -/
theorem aP_halves (c : Dev nD) (f : Fin 4) {k : ℕ} (hk : k < 5) (q : PosShare TreeShare) (v : A16 F) :
    (aP c (R f k c) q v : sProp 𝕄) ⊣⊢ iprop(aP c (R f (k + 1) c) q v ∗ aP c (Sb f k c) q v) := by
  rw [R_eq_union f hk]; exact pointsTo_union (disj_halves f hk c)

/-! ## Views -/

abbrev unitR (o : Fin 2 → ℕ) (n : ℕ) (inb : ∀ a, o a + (![n, 512] : Fin 2 → ℕ) a ≤ S1024x1024.size a) : Rect S1024x1024 :=
  Rect.unit (s := S1024x1024) o ![n, 512] inb

/-- The element under an index of a printed rectangle. -/
theorem emb_unit {n r q : ℕ} {o : Fin 2 → ℕ} (ho : o = ![r, q]) (inb : ∀ a, o a + (![n, 512] : Fin 2 → ℕ) a ≤ S1024x1024.size a)
    (j : (unitR o n inb).shape.Idx) : (unitR o n inb).emb j = mkI (r + (j 0).val) (q + (j 1).val) := by
  subst ho
  have h0 : (j 0).val < n := (j 0).isLt
  have h1 : (j 1).val < 512 := (j 1).isLt
  have i0 : r + n ≤ 1024 := inb 0
  have i1 : q + 512 ≤ 1024 := inb 1
  funext a
  apply Fin.ext
  rw [Rect.emb_apply]
  match a with
  | 0 => show r + 1 * (j 0).val = (r + (j 0).val) % 1024; rw [Nat.mod_eq_of_lt (by omega)]; omega
  | 1 => show q + 1 * (j 1).val = (q + (j 1).val) % 1024; rw [Nat.mod_eq_of_lt (by omega)]; omega

/-- Where an element of a printed rectangle sits in another of the same size. -/
theorem exists_unit {n r q : ℕ} {o : Fin 2 → ℕ} (ho : o = ![r, q]) (inb : ∀ a, o a + (![n, 512] : Fin 2 → ℕ) a ≤ S1024x1024.size a)
    {i : S1024x1024.Idx} (hi : i ∈ rg r n q) : ∃ j : (unitR o n inb).shape.Idx, (unitR o n inb).emb j = i ∧ (i 0).val = r + (j 0).val ∧ (i 1).val = q + (j 1).val := by
  rw [← set_unit o ho inb, ← Rect.map_emb_univ] at hi
  obtain ⟨j, -, e⟩ := Finset.mem_map.mp hi
  subst ho
  refine ⟨j, e, ?_, ?_⟩
  · rw [← e, Rect.emb_apply]; show r + 1 * (j 0).val = _; omega
  · rw [← e, Rect.emb_apply]; show q + 1 * (j 1).val = _; omega

abbrev slA (o : Fin 2 → ℕ) (n : ℕ) (inb : ∀ a, o a + (![n, 512] : Fin 2 → ℕ) a ≤ S1024x1024.size a) : Memref sig .tc .vmem ⟨2, ![n, 512]⟩ .bf16 :=
  (Memref.whole cc0_scratch0).slice (unitR o n inb) (fun _ => rfl)
abbrev slB (o : Fin 2 → ℕ) (n : ℕ) (inb : ∀ a, o a + (![n, 512] : Fin 2 → ℕ) a ≤ S1024x1024.size a) : Memref sig .tc .vmem ⟨2, ![n, 512]⟩ .bf16 :=
  (Memref.whole cc0_scratch1).slice (unitR o n inb) (fun _ => rfl)

/-- A transfer of `n` rows of either buffer credits the same. -/
theorem crd_B (n : ℕ) : sig.dmaCredit .tc (Kind.tc.table .vmem) (cc0_scratch1 : Ref sig .tc).idx ⟨2, ![n, 512]⟩ .bf16 = crd n := by
  unfold crd; rfl
theorem crd_slB (o : Fin 2 → ℕ) (n : ℕ) (inb : ∀ a, o a + (![n, 512] : Fin 2 → ℕ) a ≤ S1024x1024.size a) : (slB o n inb).view.dmaCredit = crd n := crd_B n
theorem crd_slA (o : Fin 2 → ℕ) (n : ℕ) (inb : ∀ a, o a + (![n, 512] : Fin 2 → ℕ) a ≤ S1024x1024.size a) : (slA o n inb).view.dmaCredit = crd n := by
  unfold crd; rfl

section Slices
variable {n r q r' q' : ℕ} {o o' : Fin 2 → ℕ} (ho : o = ![r, q]) (ho' : o' = ![r', q])
  (inb : ∀ a, o a + (![n, 512] : Fin 2 → ℕ) a ≤ S1024x1024.size a) (inb' : ∀ a, o' a + (![n, 512] : Fin 2 → ℕ) a ≤ S1024x1024.size a)
include ho

theorem slA_set {N : ℕ} (hn : n = N) : (slA o n inb).view.set = rg r N q := by
  subst hn; exact (View.set_slice_whole _ _).trans (set_unit o ho inb)
theorem slB_set {N : ℕ} (hn : n = N) : (slB o n inb).view.set = rg r N q := by
  subst hn; exact (View.set_slice_whole _ _).trans (set_unit o ho inb)

include ho'
/-- A transfer up writes, at each row of the slot, the sender's row at the same place of its block. -/
theorem send_up (fs fd : A16 F) {i : S1024x1024.Idx} (hi : i ∈ rg r' n q) :
    (slB o' n inb').view.write (Elt F) fd ((slA o n inb).view.read (Elt F) fs) Finset.univ i = fs (mkI ((i 0).val - r' + r) (i 1).val) := by
  obtain ⟨j, e, h0, h1⟩ := exists_unit ho' inb' hi
  conv_lhs => rw [← e]
  refine ((slB o' n inb').view.write_emb_of_mem _ _ (Finset.mem_univ j)).trans ?_
  show fs ((unitR o n inb).emb j) = _
  rw [emb_unit ho inb, h0, h1]
  congr 2; omega
omit ho'

/-- A transfer down writes the elements it reads. -/
theorem send_down (fs fd : A16 F) {i : S1024x1024.Idx} (hi : i ∈ rg r n q) :
    (slA o n inb).view.write (Elt F) fd ((slA o n inb).view.read (Elt F) fs) Finset.univ i = fs i := by
  obtain ⟨j, e, -, -⟩ := exists_unit ho inb hi
  conv_lhs => rw [← e]
  refine ((slA o n inb).view.write_emb_of_mem _ _ (Finset.mem_univ j)).trans ?_
  show fs ((unitR o n inb).emb j) = _
  rw [e]

end Slices

end Cert.KernelIdeal.Ring
-- ==== Proof.Buffers.lean ====
/- How the buffers and channels are dealt to the four flows at the start, and gathered again at the end. -/
module

public import proofs.«01_k».proof.Proof.State

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions -/

theorem range_fin (n : ℕ) (Φ : ℕ → sProp 𝕄) : bigSep (Finset.range n) Φ = bigSep Finset.univ fun t : Fin n => Φ t.val := by
  have e : (Finset.univ : Finset (Fin n)).map Fin.valEmbedding = Finset.range n := by
    ext x; simp only [Finset.mem_map, Finset.mem_univ, true_and, Finset.mem_range, Fin.valEmbedding_apply]
    exact ⟨fun ⟨a, h⟩ => h ▸ a.isLt, fun h => ⟨⟨x, h⟩, rfl⟩⟩
  rw [← e, bigSep_map]; rfl

/-- Ten steps are the five up and the five down. -/
theorem split_ten (Φ : ℕ → sProp 𝕄) : (bigSep Finset.univ fun t : Fin 10 => Φ t.val)
    = iprop((bigSep Finset.univ fun k : Fin 5 => Φ k.val) ∗ bigSep Finset.univ fun k : Fin 5 => Φ (5 + k.val)) := by
  rw [bigSep_univ_equiv (finSumFinEquiv (m := 5) (n := 5)) (fun t : Fin 10 => Φ t.val), bigSep_univ_sum]
  rfl

theorem bigSep_emp {I : Type} [DecidableEq I] (S : Finset I) : (emp : sProp 𝕄) ⊢ bigSep S fun _ => iprop(emp) := BI.bigSep_of_persistent S _

/-! ## The running sum -/

theorem aP_union {T : Type} (c : Dev nD) (S : Finset T) (B : T → Finset S1024x1024.Idx) (v : A16 F)
    (h : ∀ t ∈ S, ∀ t' ∈ S, t ≠ t' → Disjoint (B t) (B t')) :
    (aP c (S.biUnion B) fullShare v : sProp 𝕄) = bigSep S fun t => aP c (B t) fullShare v :=
  pointsTo_biUnion (ℓ := (c : Thread nD τ).loc cc0_scratch0) S B h
theorem rP_union {T : Type} (c : Dev nD) (S : Finset T) (B : T → Finset S1024x1024.Idx) (v : A16 F)
    (h : ∀ t ∈ S, ∀ t' ∈ S, t ≠ t' → Disjoint (B t) (B t')) :
    (rP c (S.biUnion B) v : sProp 𝕄) = bigSep S fun t => rP c (B t) v :=
  pointsTo_biUnion (ℓ := (c : Thread nD τ).loc cc0_scratch1) S B h

theorem rP_join {T : Type} (c : Dev nD) (S : Finset T) (B : T → Finset S1024x1024.Idx) (vs : T → A16 F) (v : A16 F)
    (h : ∀ t ∈ S, ∀ t' ∈ S, t ≠ t' → Disjoint (B t) (B t')) :
    (bigSep S fun t => rP c (B t) (vs t)) ⊢ iprop(∃ g, (rP c (S.biUnion B) g : sProp 𝕄)) := by
  iintro H
  ihave H := (pointsTo_biUnion_join (ℓ := (c : Thread nD τ).loc cc0_scratch1) S B vs v h) $$ H
  icases H with ⟨%g, -, H⟩
  iexists g; iexact H

/-- A device's whole running sum is its four flows' blocks. -/
theorem aP_flows (c : Dev nD) (v : A16 F) :
    (aP c Finset.univ fullShare v : sProp 𝕄) = bigSep Finset.univ fun f => aP c (R f 0 c) fullShare v := by
  have e : Finset.univ.biUnion (fun f => R f 0 c) = Finset.univ :=
    Finset.eq_univ_iff_forall.mpr fun i => Finset.mem_biUnion.mpr ⟨flowOf i, Finset.mem_univ _, mem_R_zero.mpr rfl⟩
  have h : (aP c (Finset.univ.biUnion fun f => R f 0 c) fullShare v : sProp 𝕄) = bigSep Finset.univ fun f => aP c (R f 0 c) fullShare v :=
    aP_union c Finset.univ (fun f => R f 0 c) v fun f _ f' _ h => R_zero_disj h c c
  rwa [e] at h

/-! ## The receive buffer -/

def Vall : Finset S1024x1024.Idx := Finset.univ.biUnion fun p : Fin 4 × Fin 5 => V p.1 p.2.val

/-- A device's twenty receive slots, and the rest of its receive buffer. -/
def slots (c : Dev nD) : sProp 𝕄 :=
  bigSep Finset.univ fun f : Fin 4 => bigSep Finset.univ fun k : Fin 5 => iprop(∃ v, rP (F := F) c (V f k.val) v)
def rRest (c : Dev nD) : sProp 𝕄 := iprop(∃ v, rP (F := F) c (Finset.univ \ Vall) v)

theorem slots_open (c : Dev nD) (v : A16 F) : (rP c Finset.univ v : sProp 𝕄) ⊢ iprop(slots (F := F) c ∗ rRest (F := F) c) := by
  refine (pointsTo_split_subset (Finset.subset_univ Vall)).1.trans (BIClass.sep_mono ?_ (exists_intro v))
  have h : (rP c Vall v : sProp 𝕄) = bigSep Finset.univ fun p : Fin 4 × Fin 5 => rP c (V p.1 p.2.val) v :=
    rP_union c Finset.univ (fun p : Fin 4 × Fin 5 => V p.1 p.2.val) v V_disj
  show (rP c Vall v : sProp 𝕄) ⊢ _
  unfold slots
  rw [h, bigSep_univ_prod]
  exact bigSep_mono fun f _ => bigSep_mono fun k _ => (exists_intro (Φ := fun v => rP (F := F) c (V f k.val) v) v)

theorem slots_close (c : Dev nD) : iprop(slots (F := F) c ∗ rRest (F := F) c) ⊢ iprop(∃ v, (rP c Finset.univ v : sProp 𝕄)) := by
  unfold slots rRest
  rw [← bigSep_univ_prod (fun p : Fin 4 × Fin 5 => iprop(∃ v, rP (F := F) c (V p.1 p.2.val) v))]
  iintro ⟨HS, ⟨%v, HR⟩⟩
  haveI : Nonempty (A16 F) := ⟨v⟩
  ihave HS := (BI.bigSep_exists_pi Finset.univ fun (p : Fin 4 × Fin 5) (v : A16 F) => rP (F := F) c (V p.1 p.2.val) v) $$ HS
  icases HS with ⟨%vs, HS⟩
  ihave HS := (rP_join c Finset.univ (fun p : Fin 4 × Fin 5 => V p.1 p.2.val) vs v V_disj) $$ HS
  icases HS with ⟨%g, HS⟩
  iexists _
  iapply (pointsTo_join_subset (Finset.subset_univ Vall))
  isplitl [HS]; · iexact HS
  iexact HR

/-- A flow's levels against the exchanges. -/
def kE (f : Fin 4) : Fin 5 ≃ Fin 5 := ⟨kOf f, fun k => ord f k.val, ord_kOf f, kOf_ord f⟩

/-- A device's slots are what its five opening signals hand over, -/
theorem slots_pay (c : Dev nD) : slots (F := F) c = bigSep Finset.univ fun j => barPay (F := F) (peer j c) j := by
  unfold slots barPay
  rw [bigSep_univ_comm fun (j : Fin 5) (f : Fin 4) => iprop(∃ v, rP (F := F) (peer j (peer j c)) (V f (kOf f j).val) v)]
  refine bigSep_congr fun f _ => (bigSep_univ_equiv (kE f) _).trans (bigSep_congr fun j _ => ?_)
  rw [peer_peer]; rfl

/-- and what those it receives hand over is, flow by flow and level by level, its neighbours' slots. -/
theorem pay_slots (c : Dev nD) : bigSep Finset.univ (barPay (F := F) c)
    = bigSep Finset.univ fun f : Fin 4 => bigSep Finset.univ fun k : Fin 5 => iprop(∃ v, rP (F := F) (pr f k.val c) (V f k.val) v) := by
  unfold barPay
  rw [bigSep_univ_comm fun (j : Fin 5) (f : Fin 4) => iprop(∃ v, rP (F := F) (peer j c) (V f (kOf f j).val) v)]
  refine bigSep_congr fun f _ => (bigSep_univ_equiv (kE f).symm _).trans (bigSep_congr fun k _ => ?_)
  show iprop(∃ v, rP (F := F) (peer (ord f k.val) c) (V f (kOf f (ord f k.val)).val) v) = _
  rw [kOf_ord, show pr f k.val c = peer (ord f k.val) c by unfold pr lvl; rw [if_pos k.isLt]]

/-! ## The start -/

/-- A channel before the opening handshake: without the neighbour's slot. -/
def X00 (c : Dev nD) (f : Fin 4) (t : ℕ) : sProp 𝕄 :=
  iprop(dutyTok ER (sC c f t) 0 0 ∗ dutyTok ER (rC (pr f t c) f t) 0 0 ∗ atPos ER (sC c f t) 0 ∅ 0 ∗ atPos ER (rC c f t) 0 ∅ 0
    ∗ cred (tallyAt (rC c f t) () (amt t)))
def Chans (c : Dev nD) : sProp 𝕄 := bigSep Finset.univ fun f : Fin 4 => bigSep Finset.univ fun t : Fin 10 => X00 (F := F) c f t.val

theorem X0_of (c : Dev nD) (f : Fin 4) (t : ℕ) :
    iprop(X00 (F := F) c f t ∗ if t < 5 then iprop(∃ v, rP (F := F) (pr f t c) (V f t) v) else iprop(emp)) ⊢ X0 (F := F) c f t := by
  unfold X0 X00
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

theorem Fut_start (c : Dev nD) (f : Fin 4) :
    iprop((bigSep Finset.univ fun t : Fin 10 => X00 (F := F) c f t.val) ∗ bigSep Finset.univ fun k : Fin 5 => iprop(∃ v, rP (F := F) (pr f k.val c) (V f k.val) v))
      ⊢ Fut (F := F) c f 0 := by
  unfold Fut
  rw [← range_Ico, range_fin]
  refine BI.Entails.trans ?_ (bigSep_mono fun t _ => X0_of c f t.val)
  rw [bigSep_sep', split_ten fun t => if t < 5 then iprop(∃ v, rP (F := F) (pr f t c) (V f t) v) else iprop(emp)]
  show iprop((bigSep Finset.univ fun t : Fin 10 => X00 (F := F) c f t.val) ∗ bigSep Finset.univ fun k : Fin 5 => iprop(∃ v, rP (F := F) (pr f k.val c) (V f k.val) v))
    ⊢ iprop((bigSep Finset.univ fun t : Fin 10 => X00 (F := F) c f t.val) ∗ (bigSep Finset.univ fun k : Fin 5 => if k.val < 5 then iprop(∃ v, rP (F := F) (pr f k.val c) (V f k.val) v) else iprop(emp))
      ∗ bigSep Finset.univ fun k : Fin 5 => if 5 + k.val < 5 then iprop(∃ v, rP (F := F) (pr f (5 + k.val) c) (V f (5 + k.val)) v) else iprop(emp))
  iintro ⟨H1, H2⟩
  isplitl [H1]; · iexact H1
  isplitl [H2]
  · iapply (Entails.of_eq (bigSep_congr fun (k : Fin 5) _ => (if_pos k.isLt).symm)); iexact H2
  · iapply (Entails.of_eq (bigSep_congr (Φ := fun _ => iprop(emp)) fun (k : Fin 5) _ => (if_neg (by omega)).symm))
    iapply bigSep_emp; iempintro

/-- The channels, the neighbours' slots and the operand make the four flows at the bottom of the way up. -/
theorem flows_start (c : Dev nD) :
    iprop(Chans (F := F) c ∗ (bigSep Finset.univ (barPay (F := F) c)) ∗ aP c Finset.univ fullShare (k0_pay1 (xstg m ρ c)))
      ⊢ bigSep Finset.univ fun f => Fl m ρ c f (![.rs 0, .rs 0, .rs 0, .rs 0] f) := by
  unfold Chans
  rw [pay_slots, aP_flows, ← bigSep_sep', ← bigSep_sep']
  refine bigSep_mono fun f _ => ?_
  have e : (![.rs 0, .rs 0, .rs 0, .rs 0] : Fin 4 → Ph) f = .rs 0 := by fin_cases f <;> rfl
  rw [e]
  show _ ⊢ iprop(Fut (F := F) c f 0 ∗ Pst m ρ c f 0 ∗ Stk (F := F) c f 0 ∗ aP c (R f 0 c) fullShare (acc m ρ f 0 c))
  unfold Pst Stk
  rw [Finset.range_zero, bigSep_empty, bigSep_empty]
  iintro ⟨H1, H2, H3⟩
  isplitl [H1 H2]
  · iapply (Fut_start c f); isplitl [H1]; · iexact H1
    iexact H2
  isplitr; · iempintro
  isplitr; · iempintro
  iexact H3

/-! ## The end -/

/-- The shares sent on the way down, with the halves they were sent of, make the whole block at each share. -/
theorem shares_back (c : Dev nD) (f : Fin 4) : ∀ n, n ≤ 5 →
    bigSep (Finset.range n) (fun j => iprop(D2 m ρ c f (5 + j) ∗ sendPay m ρ c f (5 + j)))
      ⊢ bigSep (Finset.range n) fun i => aP c (R f (5 - n) c) (qN i) (Gv m ρ)
  | 0, _ => by rw [Finset.range_zero, bigSep_empty, bigSep_empty]
  | n + 1, hn => by
    have ih := shares_back c f n (by omega)
    have hD : D2 m ρ c f (5 + n) = bigSep (Finset.range (n + 1)) fun i => aP c (Sb f (5 - (n + 1)) c) (qN i) (Gv m ρ) := by
      unfold D2; rw [if_neg (by omega), show 5 + n - 4 = n + 1 by omega, show 9 - (5 + n) = 5 - (n + 1) by omega]
    have hS : sendPay m ρ c f (5 + n) = aP c (R f (5 - n) c) (qN n) (Gv m ρ) := by
      unfold sendPay; rw [if_neg (by omega), show 10 - (5 + n) = 5 - n by omega, show 5 + n - 5 = n by omega]
    have hJ : ∀ i ∈ Finset.range (n + 1), iprop(aP c (R f (5 - n) c) (qN i) (Gv m ρ) ∗ aP c (Sb f (5 - (n + 1)) c) (qN i) (Gv m ρ))
        ⊢ aP c (R f (5 - (n + 1)) c) (qN i) (Gv m ρ) := fun i _ => by
      have := (aP_halves (F := F) c f (k := 4 - n) (by omega) (qN i) (Gv m ρ)).2
      rwa [show 4 - n + 1 = 5 - n by omega, show 4 - n = 5 - (n + 1) by omega] at this
    refine BI.Entails.trans ?_ (bigSep_mono hJ)
    rw [bigSep_sep' (Finset.range (n + 1)) (fun i => aP c (R f (5 - n) c) (qN i) (Gv m ρ)), ← hD]
    rw [Finset.range_add_one, bigSep_insert Finset.notMem_range_self, bigSep_insert Finset.notMem_range_self, hS]
    show iprop((D2 m ρ c f (5 + n) ∗ aP c (R f (5 - n) c) (qN n) (Gv m ρ)) ∗ bigSep (Finset.range n) (fun j => iprop(D2 m ρ c f (5 + j) ∗ sendPay m ρ c f (5 + j))))
      ⊢ iprop((aP c (R f (5 - n) c) (qN n) (Gv m ρ) ∗ bigSep (Finset.range n) fun i => aP c (R f (5 - n) c) (qN i) (Gv m ρ)) ∗ D2 m ρ c f (5 + n))
    iintro ⟨⟨H1, H2⟩, H3⟩
    isplitl [H2 H3]
    · isplitl [H2]; · iexact H2
      iapply ih; iexact H3
    · iexact H1

/-- A finished flow: its counters at zero, its slots, its block of the running sum. -/
theorem flow_end (c : Dev nD) (f : Fin 4) :
    Fl m ρ c f (.fin 10) ⊢ iprop((bigSep Finset.univ fun t : Fin 10 => iprop(semVal (sC c f t.val) 0 ∗ semVal (rC c f t.val) 0))
      ∗ (bigSep Finset.univ fun k : Fin 5 => iprop(∃ v, rP (F := F) c (V f k.val) v)) ∗ aP c (R f 0 c) fullShare (Gv m ρ)) := by
  show iprop(bigSep (Finset.Ico 10 10) (X2 m ρ c f) ∗ bigSep (Finset.range 10) (X3 m ρ c f) ∗ aP c (R f 0 c) (remN 5) (Gv m ρ)) ⊢ _
  have hX : bigSep (Finset.range 10) (X3 m ρ c f) ⊢ bigSep Finset.univ fun t : Fin 10 =>
      iprop((semVal (sC c f t.val) 0 ∗ semVal (rC c f t.val) 0) ∗ (D2 m ρ c f t.val ∗ sendPay m ρ c f t.val)) := by
    rw [range_fin]
    refine bigSep_mono fun t _ => ?_
    show iprop(semVal (sC c f t.val) 0 ∗ semVal (rC c f t.val) 0 ∗ D2 m ρ c f t.val ∗ sendPay m ρ c f t.val) ⊢ iprop((semVal (sC c f t.val) 0 ∗ semVal (rC c f t.val) 0) ∗ (D2 m ρ c f t.val ∗ sendPay m ρ c f t.val))
    iintro ⟨H1, H2, H3, H4⟩
    isplitl [H1 H2]
    · isplitl [H1] <;> iassumption
    · isplitl [H3] <;> iassumption
  have hV : ∀ k ∈ (Finset.univ : Finset (Fin 5)), iprop(D2 m ρ c f k.val ∗ sendPay m ρ c f k.val) ⊢ iprop(∃ v, rP (F := F) c (V f k.val) v) := fun k _ => by
    unfold D2; rw [if_pos k.isLt]
    iintro ⟨H, -⟩; iexists _; iexact H
  have hV' : (bigSep Finset.univ fun k : Fin 5 => iprop(D2 m ρ c f k.val ∗ sendPay m ρ c f k.val)) ⊢ bigSep Finset.univ fun k : Fin 5 => iprop(∃ v, rP (F := F) c (V f k.val) v) := bigSep_mono hV
  iintro ⟨-, H, HA⟩
  ihave H := hX $$ H
  ihave H := (Entails.of_eq (bigSep_sep' Finset.univ (fun t : Fin 10 => iprop(semVal (sC c f t.val) 0 ∗ semVal (rC c f t.val) 0)) fun t : Fin 10 => iprop(D2 m ρ c f t.val ∗ sendPay m ρ c f t.val))) $$ H
  icases H with ⟨HS, H⟩
  ihave H := (Entails.of_eq (split_ten fun t => iprop(D2 m ρ c f t ∗ sendPay m ρ c f t))) $$ H
  icases H with ⟨HV, HD⟩
  isplitl [HS]; · iexact HS
  isplitl [HV]
  · iapply hV'; iexact HV
  iapply (aP_shares c (R f 0 c) (Gv m ρ) 5).2
  isplitl [HA]; · iexact HA
  iapply (shares_back m ρ c f 5 (le_refl _))
  iapply (Entails.of_eq (range_fin 5 fun j => iprop(D2 m ρ c f (5 + j) ∗ sendPay m ρ c f (5 + j))).symm); iexact HD

/-- All four flows finished: every counter at zero, the slots, the whole running sum. -/
theorem flows_end (c : Dev nD) :
    (bigSep Finset.univ fun f => Fl m ρ c f (![.fin 10, .fin 10, .fin 10, .fin 10] f))
      ⊢ iprop((bigSep Finset.univ fun f : Fin 4 => bigSep Finset.univ fun t : Fin 10 => iprop(semVal (sC c f t.val) 0 ∗ semVal (rC c f t.val) 0))
        ∗ slots (F := F) c ∗ aP c Finset.univ fullShare (Gv m ρ)) := by
  unfold slots
  rw [aP_flows, ← bigSep_sep', ← bigSep_sep']
  refine bigSep_mono fun f _ => ?_
  have e : (![.fin 10, .fin 10, .fin 10, .fin 10] : Fin 4 → Ph) f = .fin 10 := by fin_cases f <;> rfl
  rw [e]
  exact flow_end m ρ c f

end Cert.KernelIdeal.Ring
-- ==== Proof.Steps.lean ====
/- One step of one flow at a time: a send, a landing awaited, an accumulation, a widened block, a send awaited. -/
module

public import proofs.«01_k».proof.Proof.State

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The whole state of a device while its flows run -/

/-- A device's cells: the barrier's, the closing one, and the two of each step of each flow. -/
abbrev CIx : Type := Bool ⊕ (Bool × Fin 4 × Fin 10)

def kcell (c : Dev nD) : CIx → GSem nD τ sig
  | .inl false => barC c
  | .inl true => finC c
  | .inr (false, f, t) => sC c f t.val
  | .inr (true, f, t) => rC c f t.val

/-- Every cell's invariant, and that it is at its first round. -/
def records (K : Dev nD × CIx → ℕ) : sProp 𝕄 :=
  iprop((bigSep Finset.univ fun p : Dev nD × CIx => cellInv ER (Rd m ρ) (K p) (kcell p.1 p.2))
    ∗ bigSep Finset.univ fun p : Dev nD × CIx => reached ER (kcell p.1 p.2) 0)

instance records_persistent (K : Dev nD × CIx → ℕ) : BI.Persistent (records m ρ K) := by unfold records; infer_instance

theorem records_at (K : Dev nD × CIx → ℕ) (p : Dev nD × CIx) :
    records m ρ K ⊢ iprop(cellInv ER (Rd m ρ) (K p) (kcell p.1 p.2) ∗ reached ER (kcell p.1 p.2) 0) :=
  BIClass.sep_mono (bigSep_elim (Finset.mem_univ p)) (bigSep_elim (Finset.mem_univ p))

def tFin {t : ℕ} (ht : t < 10) : Fin 10 := ⟨t, ht⟩
theorem rec_s (K : Dev nD × CIx → ℕ) (c : Dev nD) (f : Fin 4) {t : ℕ} (ht : t < 10) :
    records m ρ K ⊢ iprop(cellInv ER (Rd m ρ) (K (c, .inr (false, f, tFin ht))) (sC c f t) ∗ reached ER (sC c f t) 0) :=
  records_at m ρ K (c, .inr (false, f, tFin ht))
theorem rec_r (K : Dev nD × CIx → ℕ) (c : Dev nD) (f : Fin 4) {t : ℕ} (ht : t < 10) :
    records m ρ K ⊢ iprop(cellInv ER (Rd m ρ) (K (c, .inr (true, f, tFin ht))) (rC c f t) ∗ reached ER (rC c f t) 0) :=
  records_at m ρ K (c, .inr (true, f, tFin ht))

/-- The result buffer. -/
abbrev oP (c : Dev nD) (v : A32 F) : sProp 𝕄 := (((c : Thread nD τ).loc cc0_stg1_0) ↦{fullShare} v : sProp 𝕄)

/-- How much of it is written: of each flow the block of level `lvs f` (none at level 6). -/
def Done (c : Dev nD) (lvs : Fin 4 → ℕ) (v : A32 F) : Prop := ∀ f, lvs f ≤ 5 → ∀ i ∈ R f (lvs f) c, v i = outV m ρ i
def Out (c : Dev nD) (lvs : Fin 4 → ℕ) : sProp 𝕄 := iprop(∃ v, ⌜Done m ρ c lvs v⌝ ∗ oP c v)

/-- A device in the middle of the exchanges: the cells' records, the order of the waits, what it owes, the result
    buffer, its four flows, and what it keeps aside. -/
def St (K : Dev nD × CIx → ℕ) (c : Dev nD) (Xt : sProp 𝕄) (ph : Fin 4 → Ph) (lvs : Fin 4 → ℕ) : sProp 𝕄 :=
  iprop(records m ρ K ∗ levAts L lv ∗ (∃ W, owes (c : Thread nD τ) (Ow c fun f => sent (ph f)) W) ∗ Out m ρ c lvs
    ∗ (bigSep Finset.univ fun f => Fl m ρ c f (ph f)) ∗ Xt)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CIx → ℕ) (c : Dev nD) {ph : Fin 4 → Ph} {lvs : Fin 4 → ℕ} {α : Type}

/-- The other flows. -/
def Rst (ph : Fin 4 → Ph) (f : Fin 4) : sProp 𝕄 := bigSep (Finset.univ.erase f) fun g => Fl m ρ c g (ph g)

theorem flows_at (ph : Fin 4 → Ph) (f : Fin 4) :
    (bigSep Finset.univ fun f => Fl m ρ c f (ph f)) = iprop(Fl m ρ c f (ph f) ∗ Rst m ρ c ph f) := by
  rw [bigSep_erase (Finset.mem_univ f)]; rfl

theorem Rst_update (ph : Fin 4 → Ph) (f : Fin 4) (p : Ph) : Rst m ρ c (Function.update ph f p) f = Rst m ρ c ph f :=
  bigSep_congr fun g hg => by rw [Function.update_of_ne (Finset.ne_of_mem_erase hg)]

theorem flows_update (ph : Fin 4 → Ph) (f : Fin 4) (p : Ph) :
    (bigSep Finset.univ fun g => Fl m ρ c g (Function.update ph f p g)) = iprop(Fl m ρ c f p ∗ Rst m ρ c ph f) := by
  rw [flows_at m ρ c (Function.update ph f p) f, Rst_update, Function.update_self]

theorem sent_update (ph : Fin 4 → Ph) (f : Fin 4) (p : Ph) :
    (fun g => sent (Function.update ph f p g)) = Function.update (fun g => sent (ph g)) f (sent p) :=
  funext fun g => Function.apply_update (fun _ => sent) ph f p g

/-- Within a flow, between transfers: a flow's own change of phase. -/
theorem St_flow {Xt : sProp 𝕄} (f : Fin 4) {p p' : Ph} (hp : ph f = p) (hs : sent p = sent p') (h : Fl m ρ c f p ⊢ Fl m ρ c f p') :
    St m ρ K c Xt ph lvs ⊢ St m ρ K c Xt (Function.update ph f p') lvs := by
  unfold St
  rw [flows_at m ρ c ph f, flows_update, sent_update, ← hs, ← hp, Function.update_eq_self, hp]
  iintro ⟨HR, HL, HO, Hout, ⟨HF, Hr⟩, HX⟩
  isplitl [HR]; · iexact HR
  isplitl [HL]; · iexact HL
  isplitl [HO]; · iexact HO
  isplitl [Hout]; · iexact Hout
  isplitl [HF Hr]
  · isplitl [HF]; · iapply h; iexact HF
    iexact Hr
  · iexact HX

/-! ## Sends -/

/-- The transfer up, at one channel: both duties and the neighbour's slot for a credit on its own send. -/
theorem wp_up {Q : α → sProp 𝕄} (f : Fin 4) {k : ℕ} (hk : k < 5) (hlt : k < 10) {n : ℕ} (hn : n = 2 ^ (8 - k))
    {o o' : Fin 2 → ℕ} (ho : o = ![sib f k c, colB f]) (ho' : o' = ![rst f k, colB f])
    {p : Dev nD} (hpr : p = pr f k c)
    {inb : ∀ a, o a + (![n, 512] : Fin 2 → ℕ) a ≤ S1024x1024.size a} {inb' : ∀ a, o' a + (![n, 512] : Fin 2 → ℕ) a ≤ S1024x1024.size a}
    {s r : DmaSem sig} (hs : s = sSem f k) (hr : r = rSem f k)
    {hsc : (slB o' n inb' : Memref sig (Dev.tc p : Thread nD τ).2.kind .vmem ⟨2, ![n, 512]⟩ .bf16).view.ref.isScScratch = false}
    {hsrc : (slA o n inb).view.WordExact} {hdst : (slB o' n inb').view.WordExact}
    {hsem : DmaTarget.Typed .vmem (.dma r) (.remote (Dev.tc p : Thread nD τ) (slB o' n inb') (.dma s) hsc)}
    {k' : PUnit → Prog (TpuEff nD τ sig (Elt F) Λ₀ .tc) α} (fd : A16 F) (O : CellTallies nD τ sig Unit) (W : Waits sig Unit) :
    iprop(cellInv ER (Rd m ρ) (K (c, .inr (false, f, tFin hlt))) (sC c f k) ∗ cellInv ER (Rd m ρ) (K (pr f k c, .inr (true, f, tFin hlt))) (rC (pr f k c) f k)
        ∗ ((slA o n inb).view.loc (c : Thread nD τ) ↦[(slA o n inb).view.set]{fullShare} acc m ρ f k c)
        ∗ ((slB o' n inb').view.loc (pr f k c : Thread nD τ) ↦[(slB o' n inb').view.set]{fullShare} fd)
        ∗ owes (c : Thread nD τ) (O + tallyAt (rC (pr f k c) f k) () (amt k)) W
        ∗ dutyTok ER (sC c f k) 0 0 ∗ reached ER (sC c f k) 0 ∗ dutyTok ER (rC (pr f k c) f k) 0 0 ∗ reached ER (rC (pr f k c) f k) 0)
      ⊢ iprop(((cred (tallyAt (sC c f k) () (amt k)) ∗ owes (c : Thread nD τ) O W) -∗ WP c (k' ⟨⟩) Q)
          -∗ WP c (.op (.enqueueDma (slA o n inb) (.remote (Dev.tc p : Thread nD τ) (slB o' n inb') (.dma s) hsc) (.dma r) hsrc hdst hsem) k') Q) := by
  have hlv : lvl k = k := if_pos hk
  have hpr' : pr f k c = peer (ord f k) c := by unfold pr; rw [hlv]
  obtain rfl := hs; obtain rfl := hr; obtain rfl := hpr
  have hN : crd n = amt k := by unfold amt; rw [hlv, hn]
  refine Rounds.wp_send_landing_pointsTo 𝒱₀ ER (Rd m ρ) (c : Thread nD τ) none (κ₁ := K (c, .inr (false, f, tFin hlt))) (κ₂ := K (pr f k c, .inr (true, f, tFin hlt)))
    (r₁ := 0) (r₂ := 0) (d₁ := 0) (d₂ := 0)
    (by rw [duties_s]; exact Finset.mem_singleton_self _) (by rw [duties_r]; exact Finset.mem_singleton_self _)
    () () (amt k) ?_ (amount_s m ρ c f hlt 0) (amount_r m ρ (pr f k c) f hlt 0) O rfl (W := W) ?_ ?_
  · exact (crd_slB o' n inb').trans hN
  · rw [payload_s m ρ c f hlt]; unfold sendPay; rw [if_pos hk]
  · rw [payload_r m ρ _ f hlt, slA_set ho inb rfl, slB_set ho' inb' rfl]; unfold recvPay; rw [if_pos hk]
    have e : pr f k (pr f k c) = c := by unfold pr; rw [peer_peer]
    rw [e, V, Sb, ← hn]
    refine BIClass.sep_mono (Entails.of_eq (pointsTo_congr fun i hi => ?_)) ?_
    · rw [send_up ho ho' inb inb' _ _ hi]
      unfold rv
      rw [hpr', peer_peer, off_succ_peer f hk]
    · iintro H; iexists _; iexact H

/-- Flow `f` sends half its block up at level `k`. -/
theorem step_send_up {Xt : sProp 𝕄} {Q : α → sProp 𝕄} (f : Fin 4) (k : ℕ) (hk : k < 5) (hp : ph f = .rs k) {n : ℕ} (hn : n = 2 ^ (8 - k))
    {o : Dev nD → Fin 2 → ℕ} (ho : ∀ c, o c = ![sib f k c, colB f]) {o' : Fin 2 → ℕ} (ho' : o' = ![rst f k, colB f])
    {p : Dev nD → Dev nD} (hpr : ∀ c, p c = pr f k c)
    {inb : ∀ a, o c a + (![n, 512] : Fin 2 → ℕ) a ≤ S1024x1024.size a} {inb' : ∀ a, o' a + (![n, 512] : Fin 2 → ℕ) a ≤ S1024x1024.size a}
    {s r : DmaSem sig} (hs : s = sSem f k) (hr : r = rSem f k)
    {hsc : (slB o' n inb' : Memref sig (Dev.tc (p c) : Thread nD τ).2.kind .vmem ⟨2, ![n, 512]⟩ .bf16).view.ref.isScScratch = false}
    {hsrc : (slA (o c) n inb).view.WordExact} {hdst : (slB o' n inb').view.WordExact}
    {hsem : DmaTarget.Typed .vmem (.dma r) (.remote (Dev.tc (p c) : Thread nD τ) (slB o' n inb') (.dma s) hsc)}
    {k' : PUnit → Prog (TpuEff nD τ sig (Elt F) Λ₀ .tc) α}
    (H : St m ρ K c Xt (Function.update ph f (.rsSent k)) lvs ⊢ WP c (k' ⟨⟩) Q) :
    St m ρ K c Xt ph lvs ⊢ WP c (.op (.enqueueDma (slA (o c) n inb) (.remote (Dev.tc (p c) : Thread nD τ) (slB o' n inb') (.dma s) hsc) (.dma r) hsrc hdst hsem) k') Q := by
  have hlt : k < 10 := by omega
  unfold St at H ⊢
  rw [flows_update, sent_update] at H
  rw [flows_at m ρ c ph f, hp, Ow_peel c (fun f => sent (ph f)) f (by rw [hp]; rfl) hlt]
  dsimp only [Fl] at H ⊢
  rw [Fut_peel c f hlt]; unfold X0; rw [if_pos hk]
  iintro ⟨#HR, #HL, ⟨%W, HO⟩, Hout, ⟨⟨⟨⟨HtS, HtR, HaS, HaR, HcR, ⟨%fd, Hslot⟩⟩, HF⟩, HP, HS, HA⟩, Hrest⟩, HX⟩
  ihave HA' := (aP_halves c f hk fullShare (acc m ρ f k c)).1 $$ HA
  icases HA' with ⟨Hkeep, Hgive⟩
  ihave #Hs := (rec_s m ρ K c f hlt) $$ HR
  icases Hs with ⟨#HIs, #HrS⟩
  ihave #Hr := (rec_r m ρ K (pr f k c) f hlt) $$ HR
  icases Hr with ⟨#HIr, #HrR⟩
  iapply (wp_up m ρ K c f hk hlt hn (ho c) ho' (hpr c) hs hr fd _ W) $$ [Hgive Hslot HO HtS HtR]
  · isplitr; · iexact HIs
    isplitr; · iexact HIr
    isplitl [Hgive]; · rw [slA_set (ho c) inb hn]; iexact Hgive
    isplitl [Hslot]; · rw [slB_set ho' inb' hn]; iexact Hslot
    isplitl [HO]; · iexact HO
    isplitl [HtS]; · iexact HtS
    isplitr; · iexact HrS
    isplitl [HtR]; · iexact HtR
    iexact HrR
  iintro ⟨HcS, HO⟩
  iapply H
  isplitr; · iexact HR
  isplitr; · iexact HL
  isplitl [HO]; · iexists W; iexact HO
  isplitl [Hout]; · iexact Hout
  isplitr [HX]
  · isplitr [Hrest]
    · unfold X1
      isplitl [HcS HaS HaR HcR]
      · isplitl [HcS]; · iexact HcS
        isplitl [HaS]; · iexact HaS
        isplitl [HaR]; · iexact HaR
        iexact HcR
      isplitl [HF]; · iexact HF
      isplitl [HP]; · iexact HP
      isplitl [HS]; · iexact HS
      iexact Hkeep
    · iexact Hrest
  · iexact HX

/-- The transfer down, at one channel: a share of the finished block for a credit on its own send. -/
theorem wp_down {Q : α → sProp 𝕄} (f : Fin 4) {n : ℕ} (hn5 : n < 5) (hlt : 5 + n < 10) {N : ℕ} (hN : N = 2 ^ (4 + n))
    {o : Fin 2 → ℕ} (ho : o = ![off f (5 - n) c, colB f]) {p : Dev nD} (hpr : p = pr f (5 + n) c)
    {inb inb' : ∀ a, o a + (![N, 512] : Fin 2 → ℕ) a ≤ S1024x1024.size a}
    {s r : DmaSem sig} (hs : s = sSem f (5 + n)) (hr : r = rSem f (5 + n))
    {hsc : (slA o N inb' : Memref sig (Dev.tc p : Thread nD τ).2.kind .vmem ⟨2, ![N, 512]⟩ .bf16).view.ref.isScScratch = false}
    {hsrc : (slA o N inb).view.WordExact} {hdst : (slA o N inb').view.WordExact}
    {hsem : DmaTarget.Typed .vmem (.dma r) (.remote (Dev.tc p : Thread nD τ) (slA o N inb') (.dma s) hsc)}
    {k' : PUnit → Prog (TpuEff nD τ sig (Elt F) Λ₀ .tc) α} (fd : A16 F) (O : CellTallies nD τ sig Unit) (W : Waits sig Unit) :
    iprop(cellInv ER (Rd m ρ) (K (c, .inr (false, f, tFin hlt))) (sC c f (5 + n)) ∗ cellInv ER (Rd m ρ) (K (pr f (5 + n) c, .inr (true, f, tFin hlt))) (rC (pr f (5 + n) c) f (5 + n))
        ∗ ((slA o N inb).view.loc (c : Thread nD τ) ↦[(slA o N inb).view.set]{qN n} Gv m ρ)
        ∗ ((slA o N inb').view.loc (pr f (5 + n) c : Thread nD τ) ↦[(slA o N inb').view.set]{fullShare} fd)
        ∗ owes (c : Thread nD τ) (O + tallyAt (rC (pr f (5 + n) c) f (5 + n)) () (amt (5 + n))) W
        ∗ dutyTok ER (sC c f (5 + n)) 0 0 ∗ reached ER (sC c f (5 + n)) 0 ∗ dutyTok ER (rC (pr f (5 + n) c) f (5 + n)) 0 0 ∗ reached ER (rC (pr f (5 + n) c) f (5 + n)) 0)
      ⊢ iprop(((cred (tallyAt (sC c f (5 + n)) () (amt (5 + n))) ∗ owes (c : Thread nD τ) O W) -∗ WP c (k' ⟨⟩) Q)
          -∗ WP c (.op (.enqueueDma (slA o N inb) (.remote (Dev.tc p : Thread nD τ) (slA o N inb') (.dma s) hsc) (.dma r) hsrc hdst hsem) k') Q) := by
  have hlv : lvl (5 + n) = 4 - n := by unfold lvl; rw [if_neg (by omega)]; omega
  have hk5 : 4 - n < 5 := by omega
  have hpr' : pr f (5 + n) c = peer (ord f (4 - n)) c := by unfold pr; rw [hlv]
  have hne : ¬ 5 + n < 5 := by omega
  obtain rfl := hs; obtain rfl := hr; obtain rfl := hpr
  have hA : crd N = amt (5 + n) := by unfold amt; rw [hlv, hN, show 8 - (4 - n) = 4 + n by omega]
  have hR : rg (off f (5 - n) c) (2 ^ (4 + n)) (colB f) = R f (5 - n) c := by unfold R; rw [show 9 - (5 - n) = 4 + n by omega]
  refine Rounds.wp_send_pointsTo 𝒱₀ ER (Rd m ρ) (c : Thread nD τ) none (κ₁ := K (c, .inr (false, f, tFin hlt))) (κ₂ := K (pr f (5 + n) c, .inr (true, f, tFin hlt)))
    (r₁ := 0) (r₂ := 0) (d₁ := 0) (d₂ := 0)
    (by rw [duties_s]; exact Finset.mem_singleton_self _) (by rw [duties_r]; exact Finset.mem_singleton_self _)
    () () (amt (5 + n)) ?_ (amount_s m ρ c f hlt 0) (amount_r m ρ (pr f (5 + n) c) f hlt 0) O rfl (W := W) ?_ ?_
  · exact (crd_slA o N inb').trans hA
  · rw [payload_s m ρ c f hlt, slA_set ho inb hN, hR]; unfold sendPay; rw [if_neg hne, show 10 - (5 + n) = 5 - n by omega, show 5 + n - 5 = n by omega]
  · rw [payload_r m ρ _ f hlt, slA_set ho inb' hN]; unfold recvPay
    rw [if_neg hne, show 9 - (5 + n) = 4 - n by omega, hpr', Sb_peer f hk5, show 4 - n + 1 = 5 - n by omega, hR]
    refine Entails.of_eq (pointsTo_congr fun i hi => ?_)
    rw [← hR, ← hN] at hi
    exact send_down ho inb _ _ hi

/-- Flow `f`, `n` levels down, sends its whole block. -/
theorem step_send_down {Xt : sProp 𝕄} {Q : α → sProp 𝕄} (f : Fin 4) (n : ℕ) (hn5 : n < 5) (hp : ph f = .ag n) {N : ℕ} (hN : N = 2 ^ (4 + n))
    {o : Dev nD → Fin 2 → ℕ} (ho : ∀ c, o c = ![off f (5 - n) c, colB f])
    {p : Dev nD → Dev nD} (hpr : ∀ c, p c = pr f (5 + n) c)
    {inb inb' : ∀ a, o c a + (![N, 512] : Fin 2 → ℕ) a ≤ S1024x1024.size a}
    {s r : DmaSem sig} (hs : s = sSem f (5 + n)) (hr : r = rSem f (5 + n))
    {hsc : (slA (o c) N inb' : Memref sig (Dev.tc (p c) : Thread nD τ).2.kind .vmem ⟨2, ![N, 512]⟩ .bf16).view.ref.isScScratch = false}
    {hsrc : (slA (o c) N inb).view.WordExact} {hdst : (slA (o c) N inb').view.WordExact}
    {hsem : DmaTarget.Typed .vmem (.dma r) (.remote (Dev.tc (p c) : Thread nD τ) (slA (o c) N inb') (.dma s) hsc)}
    {k' : PUnit → Prog (TpuEff nD τ sig (Elt F) Λ₀ .tc) α}
    (H : St m ρ K c Xt (Function.update ph f (.agSent n)) lvs ⊢ WP c (k' ⟨⟩) Q) :
    St m ρ K c Xt ph lvs ⊢ WP c (.op (.enqueueDma (slA (o c) N inb) (.remote (Dev.tc (p c) : Thread nD τ) (slA (o c) N inb') (.dma s) hsc) (.dma r) hsrc hdst hsem) k') Q := by
  have hlt : 5 + n < 10 := by omega
  have hlv : lvl (5 + n) = 4 - n := by unfold lvl; rw [if_neg (by omega)]; omega
  have hpr' : pr f (5 + n) c = peer (ord f (4 - n)) c := by unfold pr; rw [hlv]
  have hR : rg (off f (5 - n) c) (2 ^ (4 + n)) (colB f) = R f (5 - n) c := by unfold R; rw [show 9 - (5 - n) = 4 + n by omega]
  unfold St at H ⊢
  rw [flows_update, sent_update] at H
  rw [flows_at m ρ c ph f, hp, Ow_peel c (fun f => sent (ph f)) f (t := 5 + n) (by rw [hp]; rfl) hlt]
  dsimp only [Fl] at H ⊢
  rw [Fut_peel c f hlt, show 5 - n = (4 - n) + 1 by omega, Stk_push, Sb_peer f (show 4 - n < 5 by omega), ← hpr']; unfold X0; rw [if_neg (show ¬ 5 + n < 5 by omega)]
  rw [show (4 - n) + 1 = 5 - n by omega]
  have e6 : sent (.agSent n) = 5 + n + 1 := by show 6 + n = _; omega
  rw [e6, show 6 + n = 5 + n + 1 by omega] at H
  iintro ⟨#HR, #HL, ⟨%W, HO⟩, Hout, ⟨⟨⟨⟨HtS, HtR, HaS, HaR, HcR, -⟩, HF⟩, HP, ⟨⟨%fd, Hdst⟩, HS⟩, HA⟩, Hrest⟩, HX⟩
  ihave HA' := (pointsTo_share (PosShare.mem_left_op_right (remN n))).1 $$ HA
  icases HA' with ⟨Hgive, Hkeep⟩
  ihave #Hs := (rec_s m ρ K c f hlt) $$ HR
  icases Hs with ⟨#HIs, #HrS⟩
  ihave #Hr := (rec_r m ρ K (pr f (5 + n) c) f hlt) $$ HR
  icases Hr with ⟨#HIr, #HrR⟩
  iapply (wp_down m ρ K c f hn5 hlt hN (ho c) (hpr c) hs hr fd _ W) $$ [Hgive Hdst HO HtS HtR]
  · isplitr; · iexact HIs
    isplitr; · iexact HIr
    isplitl [Hgive]; · rw [slA_set (ho c) inb hN, hR]; iexact Hgive
    isplitl [Hdst]; · rw [slA_set (ho c) inb' hN, hR]; iexact Hdst
    isplitl [HO]; · iexact HO
    isplitl [HtS]; · iexact HtS
    isplitr; · iexact HrS
    isplitl [HtR]; · iexact HtR
    iexact HrR
  iintro ⟨HcS, HO⟩
  iapply H
  isplitr; · iexact HR
  isplitr; · iexact HL
  isplitl [HO]; · iexists W; iexact HO
  isplitl [Hout]; · iexact Hout
  isplitr [HX]
  · isplitr [Hrest]
    · unfold X1
      isplitl [HcS HaS HaR HcR]
      · isplitl [HcS]; · iexact HcS
        isplitl [HaS]; · iexact HaS
        isplitl [HaR]; · iexact HaR
        iexact HcR
      isplitl [HF]; · iexact HF
      isplitl [HP]; · iexact HP
      isplitl [HS]; · iexact HS
      iexact Hkeep
    · iexact Hrest
  · iexact HX

/-! ## Waits -/

/-- One transfer's completion awaited: its cell closes, and what the completion hands over is added to the flow. -/
theorem step_await {Xt : sProp 𝕄} {Q : α → sProp 𝕄} (f : Fin 4) {p p' : Ph} (hp : ph f = p) (hs : sent p = sent p')
    {q : DmaSem sig} {κ : ℕ} (hκ : records m ρ K ⊢ cellInv ER (Rd m ρ) κ ((c : Thread nD τ), .dma q)) {N : ℕ}
    (hN : (Rd m ρ).expect ((c : Thread nD τ), .dma q) 0 = N)
    (hMW : (levAts L lv : sProp 𝕄) ⊢ MayWait (c : Thread nD τ) (.dma q) () (Ow c fun f => sent (ph f))) {P Fr : sProp 𝕄}
    (hP : bigSep ((Rd m ρ).duties ((c : Thread nD τ), .dma q) 0 \ ∅) (fun d => (Rd m ρ).payload ((c : Thread nD τ), .dma q) 0 d) = P)
    (hF : Fl m ρ c f p ⊢ iprop(cred (tallyAt ((c : Thread nD τ), .dma q) () N) ∗ atPos ER ((c : Thread nD τ), .dma q) 0 ∅ 0 ∗ Fr))
    (hF' : iprop(semVal ((c : Thread nD τ), .dma q) 0 ∗ P ∗ Fr) ⊢ Fl m ρ c f p')
    {sp sp' : Space} {sh sh' : Shape} {e e' : EltTy} {src : Memref sig .tc sp' sh' e'} {dst : Memref sig .tc sp sh e} {h1 : src.view.WordExact} {h2 : dst.view.WordExact}
    (hd : dst.view.dmaCredit = N)
    {k' : PUnit → Prog (TpuEff nD τ sig (Elt F) Λ₀ .tc) α}
    (H : St m ρ K c Xt (Function.update ph f p') lvs ⊢ WP c (k' ⟨⟩) Q) :
    St m ρ K c Xt ph lvs ⊢ WP c (.op (.waitDma2 q src dst h1 h2) k') Q := by
  unfold St at H ⊢
  rw [flows_update, sent_update, ← hs, ← hp, Function.update_eq_self] at H
  rw [flows_at m ρ c ph f, hp]
  iintro ⟨#HR, #HL, ⟨%W, HO⟩, Hout, ⟨HF, Hrest⟩, HX⟩
  ihave #HI := hκ $$ HR
  ihave HF := hF $$ HF
  icases HF with ⟨Hc, Ha, HFr⟩
  ihave HM := hMW $$ HL
  iapply (Rounds.wp_wait_rest_token 𝒱₀ ER (Rd m ρ) (c : Thread nD τ) none (κ := κ) (wpE_waitDma2_eq 𝒱₀ (c : Thread nD τ) none Set.univ) (Set.mem_univ _) ()
    (O := Ow c fun f => sent (ph f)) (W := W) (R := 0) (m := 0) (T := ∅) (by rw [Nat.zero_add, hd, hN])) $$ [Hc HO HM Ha]
  · isplitr; · iexact HI
    isplitl [Hc]; · rw [hd]; iexact Hc
    isplitl [HO]; · iexact HO
    isplitl [HM]; · iexact HM
    iexact Ha
  iintro ⟨HO, Ha, -, HP⟩
  imod (Rounds.cell_close ER (Rd m ρ) (Set.mem_univ κ) (fun h => h) (R := 0 + 1) (duties_later m ρ _)) $$ [Ha] with Hv
  · isplitr; · iexact HI
    iexact Ha
  ihave HP := (Entails.of_eq hP) $$ HP
  iapply H
  isplitr; · iexact HR
  isplitr; · iexact HL
  isplitl [HO]; · iexists _; iexact HO
  isplitl [Hout]; · iexact Hout
  isplitr [HX]
  · isplitr [Hrest]
    · iapply hF'
      isplitl [Hv]; · iexact Hv
      isplitl [HP]; · iexact HP
      iexact HFr
    · iexact Hrest
  · iexact HX

/-- A send may be awaited at any time. -/
theorem mayWait_send (f : Fin 4) (t : ℕ) (a : Fin 4 → ℕ) : (levAts L lv : sProp 𝕄) ⊢ MayWait (c : Thread nD τ) (.dma (sSem f t)) () (Ow c a) :=
  mayWait_of c _ _ fun g u hg => by
    have e : lv ((c : Thread nD τ), .dma (sSem f t)) () = 0 := lv_s c f t
    rcases Ow_pos hg with ⟨c', rfl⟩ | ⟨c', f', t', -, h2, rfl⟩
    · refine ⟨rfl, ?_⟩; rw [e, lv_fin]; decide
    · refine ⟨rfl, ?_⟩; rw [e, lv_r c' f' h2]; unfold pos; omega

section Await
variable {sp' : Space} {sh' : Shape} {e' : EltTy} {src : Memref sig .tc sp' sh' e'} {h1 : src.view.WordExact}
  {k' : PUnit → Prog (TpuEff nD τ sig (Elt F) Λ₀ .tc) α} {q : DmaSem sig}
  {N : ℕ} {o : Fin 2 → ℕ} {inb : ∀ a, o a + (![N, 512] : Fin 2 → ℕ) a ≤ S1024x1024.size a}
  {hA : (slA o N inb).view.WordExact} {hB : (slB o N inb).view.WordExact}

theorem crd_amt {t : ℕ} (hN : N = 2 ^ (8 - lvl t)) : crd N = amt t := by unfold amt; rw [hN]

/-- A landing awaited on the way up. -/
theorem step_recv_up {Xt : sProp 𝕄} {Q : α → sProp 𝕄} (f : Fin 4) (k : ℕ) (hk : k < 5) (hp : ph f = .rsSent k)
    (hq : q = rSem f k) (ha : ∀ f', sent (ph f') < 10 → pos f k < pos f' (sent (ph f'))) (hN : N = 2 ^ (8 - lvl k))
    (H : St m ρ K c Xt (Function.update ph f (.rsGot k)) lvs ⊢ WP c (k' ⟨⟩) Q) :
    St m ρ K c Xt ph lvs ⊢ WP c (.op (.waitDma2 q src (slB o N inb) h1 hB) k') Q := by
  have hlt : k < 10 := by omega
  have hlv : lvl k = k := if_pos hk
  have hpr' : pr f k c = peer (ord f k) c := by unfold pr; rw [hlv]
  obtain rfl := hq
  refine step_await m ρ K c f (p' := .rsGot k) hp rfl ((rec_r m ρ K c f hlt).trans sep_elim_left) (expect_r m ρ c f hlt) (mayWait_recv c f hlt _ ha) (rest_r m ρ c f hlt)
    (Fr := iprop((cred (tallyAt (sC c f k) () (amt k)) ∗ atPos ER (sC c f k) 0 ∅ 0) ∗ Fut (F := F) c f (k + 1) ∗ Pst m ρ c f k ∗ Stk (F := F) c f k ∗ aP c (R f (k + 1) c) fullShare (acc m ρ f k c)))
    ?_ ?_ ((crd_slB o N inb).trans (crd_amt hN)) H
  · dsimp only [Fl]; unfold X1
    iintro ⟨⟨HcS, HaS, HaR, HcR⟩, H⟩
    isplitl [HcR]; · iexact HcR
    isplitl [HaR]; · iexact HaR
    isplitr [H]
    · isplitl [HcS]; · iexact HcS
      iexact HaS
    iexact H
  · dsimp only [Fl]; rw [Pst_push, Stk_push]; unfold X2 D2 recvPay; rw [if_pos hk, if_pos hk, hpr']
    iintro ⟨Hv, ⟨Hr, Hs⟩, ⟨HcS, HaS⟩, HF, HP, HS, HA⟩
    isplitl [HF]; · iexact HF
    isplitl [HcS HaS Hv Hr HP]
    · isplitr [HP]
      · isplitl [HcS]; · iexact HcS
        isplitl [HaS]; · iexact HaS
        isplitl [Hv]; · iexact Hv
        iexact Hr
      · iexact HP
    isplitl [Hs HS]
    · isplitl [Hs]; · iexact Hs
      iexact HS
    iexact HA

/-- A landing awaited on the way down. -/
theorem step_recv_down {Xt : sProp 𝕄} {Q : α → sProp 𝕄} (f : Fin 4) (n : ℕ) (hn5 : n < 5) (hp : ph f = .agSent n)
    (hq : q = rSem f (5 + n)) (ha : ∀ f', sent (ph f') < 10 → pos f (5 + n) < pos f' (sent (ph f'))) (hN : N = 2 ^ (8 - lvl (5 + n)))
    (H : St m ρ K c Xt (Function.update ph f (.ag (n + 1))) lvs ⊢ WP c (k' ⟨⟩) Q) :
    St m ρ K c Xt ph lvs ⊢ WP c (.op (.waitDma2 q src (slA o N inb) h1 hA) k') Q := by
  have hlt : 5 + n < 10 := by omega
  obtain rfl := hq
  refine step_await m ρ K c f hp (by show 6 + n = 5 + (n + 1); omega) ((rec_r m ρ K c f hlt).trans sep_elim_left) (expect_r m ρ c f hlt) (mayWait_recv c f hlt _ ha) (rest_r m ρ c f hlt)
    (Fr := iprop((cred (tallyAt (sC c f (5 + n)) () (amt (5 + n))) ∗ atPos ER (sC c f (5 + n)) 0 ∅ 0) ∗ Fut (F := F) c f (6 + n) ∗ Pst m ρ c f (5 + n) ∗ Stk (F := F) c f (4 - n) ∗ aP c (R f (5 - n) c) (remN (n + 1)) (Gv m ρ)))
    ?_ ?_ ((crd_slA o N inb).trans (crd_amt hN)) H
  · dsimp only [Fl]; unfold X1
    iintro ⟨⟨HcS, HaS, HaR, HcR⟩, H⟩
    isplitl [HcR]; · iexact HcR
    isplitl [HaR]; · iexact HaR
    isplitr [H]
    · isplitl [HcS]; · iexact HcS
      iexact HaS
    iexact H
  · dsimp only [Fl]; rw [show 5 + (n + 1) = 5 + n + 1 by omega, show 5 - (n + 1) = 4 - n by omega, show 6 + n = 5 + n + 1 by omega, Pst_push]
    unfold X2 D2 recvPay; rw [if_neg (by omega), if_neg (by omega), show 9 - (5 + n) = 4 - n by omega, show 5 + n - 4 = n + 1 by omega, show 5 - n = (4 - n) + 1 by omega]
    iintro ⟨Hv, Hr, ⟨HcS, HaS⟩, HF, HP, HS, HA⟩
    ihave Hr' := (aP_shares c (Sb f (4 - n) c) (Gv m ρ) (n + 1)).1 $$ Hr
    icases Hr' with ⟨Hr, Hsh⟩
    isplitl [HF]; · iexact HF
    isplitl [HcS HaS Hv Hsh HP]
    · isplitr [HP]
      · isplitl [HcS]; · iexact HcS
        isplitl [HaS]; · iexact HaS
        isplitl [Hv]; · iexact Hv
        iexact Hsh
      · iexact HP
    isplitl [HS]; · iexact HS
    iapply (aP_halves c f (show 4 - n < 5 by omega) (remN (n + 1)) (Gv m ρ)).2
    isplitl [HA]; · iexact HA
    iexact Hr

/-- A send awaited. -/
theorem step_wait_send {Xt : sProp 𝕄} {Q : α → sProp 𝕄} (f : Fin 4) (d : ℕ) (hlt : d < 10) (hp : ph f = .fin d)
    (hq : q = sSem f d) (hN : N = 2 ^ (8 - lvl d))
    (H : St m ρ K c Xt (Function.update ph f (.fin (d + 1))) lvs ⊢ WP c (k' ⟨⟩) Q) :
    St m ρ K c Xt ph lvs ⊢ WP c (.op (.waitDma2 q src (slA o N inb) h1 hA) k') Q := by
  obtain rfl := hq
  refine step_await m ρ K c f (p' := .fin (d + 1)) hp rfl ((rec_s m ρ K c f hlt).trans sep_elim_left) (expect_s m ρ c f hlt) (mayWait_send c f d _) (rest_s m ρ c f hlt)
    (Fr := iprop((semVal (rC c f d) 0 ∗ D2 m ρ c f d) ∗ bigSep (Finset.Ico (d + 1) 10) (X2 m ρ c f) ∗ bigSep (Finset.range d) (X3 m ρ c f) ∗ aP c (R f 0 c) (remN 5) (Gv m ρ)))
    ?_ ?_ ((crd_slA o N inb).trans (crd_amt hN)) H
  · dsimp only [Fl]; rw [Ico_peel hlt, bigSep_insert (not_mem_Ico_succ _ _)]
    show iprop((X2 m ρ c f d ∗ _) ∗ _ ∗ _) ⊢ _
    unfold X2
    iintro ⟨⟨⟨HcS, HaS, Hv, HD⟩, HI⟩, HB, HA⟩
    isplitl [HcS]; · iexact HcS
    isplitl [HaS]; · iexact HaS
    isplitl [Hv HD]
    · isplitl [Hv]; · iexact Hv
      iexact HD
    isplitl [HI]; · iexact HI
    isplitl [HB]; · iexact HB
    iexact HA
  · dsimp only [Fl]; rw [Finset.range_add_one, bigSep_insert Finset.notMem_range_self]
    show _ ⊢ iprop(_ ∗ (X3 m ρ c f d ∗ _) ∗ _)
    unfold X3
    iintro ⟨Hs, HP, ⟨Hv, HD⟩, HI, HB, HA⟩
    isplitl [HI]; · iexact HI
    isplitr [HA]
    · isplitr [HB]
      · isplitl [Hs]; · iexact Hs
        isplitl [Hv]; · iexact Hv
        isplitl [HD]; · iexact HD
        iexact HP
      · iexact HB
    · iexact HA

end Await

/-! ## Bookkeeping -/

/-- The turn at the top, and the end of the landings. -/
theorem step_turn {Xt X : sProp 𝕄} (f : Fin 4) (hp : ph f = .rs 5) (H : St m ρ K c Xt (Function.update ph f (.ag 0)) lvs ⊢ X) :
    St m ρ K c Xt ph lvs ⊢ X := (St_flow m ρ K c f (p' := .ag 0) hp rfl (Entails.of_eq (Fl_turn m ρ c f))).trans H
theorem step_last {Xt X : sProp 𝕄} (f : Fin 4) (hp : ph f = .ag 5) (H : St m ρ K c Xt (Function.update ph f (.fin 0)) lvs ⊢ X) :
    St m ρ K c Xt ph lvs ⊢ X := (St_flow m ρ K c f (p' := .fin 0) hp rfl (Fl_last m ρ c f)).trans H

/-- A change at one flow, of four written out. -/
theorem upd0 {β : Type} (x y z w v : β) : Function.update ![x, y, z, w] (0 : Fin 4) v = ![v, y, z, w] := by
  funext i; match i with | 0 => rfl | 1 => rfl | 2 => rfl | 3 => rfl
theorem upd1 {β : Type} (x y z w v : β) : Function.update ![x, y, z, w] (1 : Fin 4) v = ![x, v, z, w] := by
  funext i; match i with | 0 => rfl | 1 => rfl | 2 => rfl | 3 => rfl
theorem upd2 {β : Type} (x y z w v : β) : Function.update ![x, y, z, w] (2 : Fin 4) v = ![x, y, v, w] := by
  funext i; match i with | 0 => rfl | 1 => rfl | 2 => rfl | 3 => rfl
theorem upd3 {β : Type} (x y z w v : β) : Function.update ![x, y, z, w] (3 : Fin 4) v = ![x, y, z, v] := by
  funext i; match i with | 0 => rfl | 1 => rfl | 2 => rfl | 3 => rfl

end Cert.KernelIdeal.Ring
-- ==== Proof.Vector.lean ====
/- The vector steps: an accumulation, a widened block. -/
module

public import proofs.«01_k».proof.Proof.Steps
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD) {ph : Fin 4 → Ph} {lvs : Fin 4 → ℕ} {α : Type}

/-! ## Vector loads and stores of a printed rectangle -/

section Mem
variable {n r q : ℕ} {o : Fin 2 → ℕ} {inb : ∀ a, o a + (![n, 512] : Fin 2 → ℕ) a ≤ S1024x1024.size a}

/-- What a load of the running sum, of the receive buffer or of the result reads. -/
abbrev at16 (o : Fin 2 → ℕ) (n : ℕ) (inb : ∀ a, o a + (![n, 512] : Fin 2 → ℕ) a ≤ S1024x1024.size a) (v : A16 F) : Vec F ⟨2, ![n, 512]⟩ .bf16 :=
  fun j => v ((unitR o n inb).emb j)

theorem wp_loadA {Q : α → sProp 𝕄} {S : Finset S1024x1024.Idx} {sh : PosShare TreeShare} {v : A16 F} (hS : (unitR o n inb).set ⊆ S)
    {hl : (Memref.whole cc0_scratch0).view.LoadsAt (unitR o n inb).toLoadRect}
    {k' : Vec F ⟨2, ![n, 512]⟩ .bf16 → Prog (TpuEff nD τ sig (Elt F) Λ₀ .tc) α} :
    aP c S sh v ⊢ iprop((aP c S sh v -∗ WP c (k' (at16 o n inb v)) Q)
      -∗ WP c (.op (.load (Memref.whole cc0_scratch0) (unitR o n inb).toLoadRect hl) k') Q) := by
  refine wp_load_rect 𝒱₀ (c : Thread nD τ) none Set.univ (m := Memref.whole cc0_scratch0) (r := unitR o n inb) ?_
  exact (Finset.Subset.trans (Eq.subset (View.set_slice_whole _ _)) hS)

theorem wp_loadB {Q : α → sProp 𝕄} {S : Finset S1024x1024.Idx} {v : A16 F} (hS : (unitR o n inb).set ⊆ S)
    {hl : (Memref.whole cc0_scratch1).view.LoadsAt (unitR o n inb).toLoadRect}
    {k' : Vec F ⟨2, ![n, 512]⟩ .bf16 → Prog (TpuEff nD τ sig (Elt F) Λ₀ .tc) α} :
    rP c S v ⊢ iprop((rP c S v -∗ WP c (k' (at16 o n inb v)) Q)
      -∗ WP c (.op (.load (Memref.whole cc0_scratch1) (unitR o n inb).toLoadRect hl) k') Q) := by
  refine wp_load_rect 𝒱₀ (c : Thread nD τ) none Set.univ (m := Memref.whole cc0_scratch1) (r := unitR o n inb) ?_
  exact (Finset.Subset.trans (Eq.subset (View.set_slice_whole _ _)) hS)

theorem wp_loadO {Q : α → sProp 𝕄} {v : A32 F}
    {hl : (Memref.whole cc0_stg1_0).view.LoadsAt (unitR o n inb).toLoadRect}
    {k' : Vec F ⟨2, ![n, 512]⟩ .f32 → Prog (TpuEff nD τ sig (Elt F) Λ₀ .tc) α} :
    oP c v ⊢ iprop((oP c v -∗ WP c (k' (fun j => v ((unitR o n inb).emb j))) Q)
      -∗ WP c (.op (.load (Memref.whole cc0_stg1_0) (unitR o n inb).toLoadRect hl) k') Q) :=
  wp_load_rect 𝒱₀ (c : Thread nD τ) none Set.univ (m := Memref.whole cc0_stg1_0) (r := unitR o n inb) (Finset.subset_univ _)

theorem wp_storeA {Q : α → sProp 𝕄} {S : Finset S1024x1024.Idx} {v w : A16 F} (hS : (unitR o n inb).set = S)
    {x : Vec F ⟨2, ![n, 512]⟩ .bf16} (hw : ∀ j, w ((unitR o n inb).emb j) = x j)
    {hx : ((Memref.whole cc0_scratch0).access (unitR o n inb)).Stores Finset.univ} {hm : Finset.univ = Finset.univ ∨ ∀ a, (unitR o n inb).stride a = 1}
    {k' : PUnit → Prog (TpuEff nD τ sig (Elt F) Λ₀ .tc) α} :
    aP c S fullShare v ⊢ iprop((aP c S fullShare w -∗ WP c (k' ⟨⟩) Q)
      -∗ WP c (.op (.store (Memref.whole cc0_scratch0) (unitR o n inb) x Finset.univ hx hm) k') Q) := by
  have hset : ((Memref.whole cc0_scratch0).access (unitR o n inb)).setOn Finset.univ = (unitR o n inb).set := View.set_slice_whole _ _
  iintro HO H
  iapply (wp_store 𝒱₀ (c : Thread nD τ) none Set.univ (m := Memref.whole cc0_scratch0) (r := unitR o n inb) (Mk := Finset.univ) (hset.trans hS).subset) $$ HO
  iintro HO
  iapply H
  iapply (Entails.of_eq (pointsTo_congr fun i hi => ?_)) $$ HO
  rw [← hS, ← Rect.map_emb_univ] at hi
  obtain ⟨j, -, rfl⟩ := Finset.mem_map.mp hi
  rw [hw j]
  exact ((Memref.whole cc0_scratch0).access (unitR o n inb)).write_emb_of_mem (Val := Elt F) v x (Finset.mem_univ j)

theorem wp_storeO {Q : α → sProp 𝕄} {v : A32 F} {x : Vec F ⟨2, ![n, 512]⟩ .f32}
    {hx : ((Memref.whole cc0_stg1_0).access (unitR o n inb)).Stores Finset.univ} {hm : Finset.univ = Finset.univ ∨ ∀ a, (unitR o n inb).stride a = 1}
    {k' : PUnit → Prog (TpuEff nD τ sig (Elt F) Λ₀ .tc) α} :
    oP c v ⊢ iprop((∀ w : A32 F, ⌜(∀ j, w ((unitR o n inb).emb j) = x j) ∧ ∀ i, i ∉ (unitR o n inb).set → w i = v i⌝ -∗ oP c w -∗ WP c (k' ⟨⟩) Q)
      -∗ WP c (.op (.store (Memref.whole cc0_stg1_0) (unitR o n inb) x Finset.univ hx hm) k') Q) := by
  iintro HO H
  iapply (wp_store 𝒱₀ (c : Thread nD τ) none Set.univ (m := Memref.whole cc0_stg1_0) (r := unitR o n inb) (Mk := Finset.univ) (Finset.subset_univ _)) $$ HO
  iintro HO
  iapply H $$ [] HO
  ipureintro
  refine ⟨fun j => ((Memref.whole cc0_stg1_0).access (unitR o n inb)).write_emb_of_mem (Val := Elt F) v x (Finset.mem_univ j), fun i hi => ?_⟩
  refine ((Memref.whole cc0_stg1_0).access (unitR o n inb)).write_of_not_mem (Val := Elt F) v x Finset.univ ?_
  have e : ((Memref.whole cc0_stg1_0).access (unitR o n inb)).set = (unitR o n inb).set := View.set_slice_whole _ _
  rw [View.setOn_univ, e]; exact hi

end Mem

/-- The receive slot at the place of an element of the kept block holds the neighbour's value of that element. -/
theorem rv_at (f : Fin 4) {k : ℕ} (hk : k < 5) {n : ℕ} (hn : n = 2 ^ (8 - k)) {o o' : Fin 2 → ℕ} (ho : o = ![off f (k + 1) c, colB f]) (ho' : o' = ![rst f k, colB f])
    {inb : ∀ a, o a + (![n, 512] : Fin 2 → ℕ) a ≤ S1024x1024.size a} {inb' : ∀ a, o' a + (![n, 512] : Fin 2 → ℕ) a ≤ S1024x1024.size a}
    (j : (⟨2, ![n, 512]⟩ : Shape).Idx) :
    rv m ρ f k c ((unitR o' n inb').emb j) = acc m ρ f k (peer (ord f k) c) ((unitR o n inb).emb j) := by
  have h0 : (j 0).val < n := (j 0).isLt
  have h1 : (j 1).val < 512 := (j 1).isLt
  have hb : rst f k + n ≤ 1024 := by have := inb' 0; rw [ho'] at this; exact this
  have hq : colB f + 512 ≤ 1024 := by have := inb' 1; rw [ho'] at this; exact this
  unfold rv
  rw [emb_unit ho' inb', emb_unit ho inb, mkI_row _ (by omega), mkI_col _ (by omega)]
  congr 2; omega

/-- Flow `f` adds what level `k` brought to the block it keeps. -/
theorem step_accumulate {Xt : sProp 𝕄} {Q : α → sProp 𝕄} (f : Fin 4) (k : ℕ) (hk : k < 5) (hp : ph f = .rsGot k) {n : ℕ} (hn : n = 2 ^ (8 - k))
    {o : Dev nD → Fin 2 → ℕ} (ho : ∀ c, o c = ![off f (k + 1) c, colB f]) {o' : Fin 2 → ℕ} (ho' : o' = ![rst f k, colB f])
    {inb inb1 inb2 : ∀ a, o c a + (![n, 512] : Fin 2 → ℕ) a ≤ S1024x1024.size a} {inb' : ∀ a, o' a + (![n, 512] : Fin 2 → ℕ) a ≤ S1024x1024.size a}
    {h1 : (Memref.whole cc0_scratch0).view.LoadsAt (unitR (o c) n inb).toLoadRect} {h2 : (Memref.whole cc0_scratch1).view.LoadsAt (unitR o' n inb').toLoadRect}
    {h3 : (Memref.whole cc0_scratch0).view.LoadsAt (unitR (o c) n inb1).toLoadRect}
    {pay : Vec F ⟨2, ![n, 512]⟩ .bf16 → Vec F ⟨2, ![n, 512]⟩ .bf16 → FVec F ⟨2, ![n, 512]⟩ .bf16} (hpay : ∀ a b, pay a b = fun j => FloatOps.addf (a j) (b j))
    {hx : ((Memref.whole cc0_scratch0).access (unitR (o c) n inb2)).Stores Finset.univ} {hm : Finset.univ = Finset.univ ∨ ∀ a, (unitR (o c) n inb2).stride a = 1}
    {k' : PUnit → Prog (TpuEff nD τ sig (Elt F) Λ₀ .tc) α}
    (H : St m ρ K c Xt (Function.update ph f (.rs (k + 1))) lvs ⊢ WP c (k' ⟨⟩) Q) :
    St m ρ K c Xt ph lvs ⊢ WP c (.op (.load (Memref.whole cc0_scratch0) (unitR (o c) n inb).toLoadRect h1) fun a =>
      .op (.load (Memref.whole cc0_scratch1) (unitR o' n inb').toLoadRect h2) fun b =>
      .op (.load (Memref.whole cc0_scratch0) (unitR (o c) n inb1).toLoadRect h3) fun _ =>
      .op (.store (Memref.whole cc0_scratch0) (unitR (o c) n inb2) (pay a b) Finset.univ hx hm) k') Q := by
  have hset : (unitR (o c) n inb).set = R f (k + 1) c := by
    rw [set_unit (o c) (ho c) inb, R_succ, hn]
  have hset' : (unitR o' n inb').set = V f k := by rw [set_unit o' ho' inb', V, hn]
  unfold St at H ⊢
  rw [flows_update, sent_update] at H
  rw [flows_at m ρ c ph f, hp]
  have e : Function.update (fun f => sent (ph f)) f (sent (.rs (k + 1))) = fun f => sent (ph f) :=
    Function.update_eq_self_iff.mpr (by rw [hp]; rfl)
  rw [e] at H
  dsimp only [Fl] at H ⊢
  rw [Pst_push] at H ⊢
  unfold X2 D2 at H ⊢; rw [if_pos hk] at H ⊢
  iintro ⟨HR, HL, HO, Hout, ⟨⟨HF, ⟨⟨HcS, HaS, Hv, Hr⟩, HP⟩, HS, HA⟩, Hrest⟩, HX⟩
  iapply (wp_loadA c hset.subset) $$ HA
  iintro HA
  iapply (wp_loadB c hset'.subset) $$ Hr
  iintro Hr
  iapply (wp_loadA c hset.subset) $$ HA
  iintro HA
  iapply (wp_storeA c hset (w := acc m ρ f (k + 1) c) (fun j => ?_)) $$ HA
  rotate_left
  · iintro HA
    iapply H
    isplitl [HR]; · iexact HR
    isplitl [HL]; · iexact HL
    isplitl [HO]; · iexact HO
    isplitl [Hout]; · iexact Hout
    isplitr [HX]
    · isplitr [Hrest]
      · isplitl [HF]; · iexact HF
        isplitl [HcS HaS Hv Hr HP]
        · isplitr [HP]
          · isplitl [HcS]; · iexact HcS
            isplitl [HaS]; · iexact HaS
            isplitl [Hv]; · iexact Hv
            iexact Hr
          · iexact HP
        isplitl [HS]; · iexact HS
        iexact HA
      · iexact Hrest
    · iexact HX
  · rw [hpay]
    show FloatOps.addf _ _ = FloatOps.addf _ (rv m ρ f k c ((unitR o' n inb').emb j))
    rw [rv_at m ρ c f hk hn (ho c) ho' (inb := inb)]

/-- The level of the finished block that a flow holds a share of. -/
def dn : Ph → Option ℕ
  | .ag n => some (5 - n) | .agSent n => some (5 - n) | .fin _ => some 0 | _ => none

theorem Fl_read (f : Fin 4) {p : Ph} {j : ℕ} (h : dn p = some j) :
    Fl m ρ c f p ⊢ iprop(∃ q, aP c (R f j c) q (Gv m ρ) ∗ (aP c (R f j c) q (Gv m ρ) -∗ Fl m ρ c f p)) := by
  cases p <;> simp only [dn, Option.some.injEq, reduceCtorEq] at h <;> subst h <;> dsimp only [Fl]
  · iintro ⟨H1, H2, H3, HA⟩
    iexists _
    isplitl [HA]; · iexact HA
    iintro HA
    isplitl [H1]; · iexact H1
    isplitl [H2]; · iexact H2
    isplitl [H3]; · iexact H3
    iexact HA
  · iintro ⟨H1, H2, H3, H4, HA⟩
    iexists _
    isplitl [HA]; · iexact HA
    iintro HA
    isplitl [H1]; · iexact H1
    isplitl [H2]; · iexact H2
    isplitl [H3]; · iexact H3
    isplitl [H4]; · iexact H4
    iexact HA
  · iintro ⟨H1, H2, HA⟩
    iexists _
    isplitl [HA]; · iexact HA
    iintro HA
    isplitl [H1]; · iexact H1
    isplitl [H2]; · iexact H2
    iexact HA

/-- How many rows are widened at level `l`. -/
def rows (l : ℕ) : ℕ := if l = 5 then 16 else 2 ^ (8 - l)

/-- The first of them: at the bottom the device's own block, higher the half that level brought back. -/
def wr (f : Fin 4) (l : ℕ) (c : Dev nD) : ℕ := if l = 5 then off f 5 c else sib f l c

theorem wr_sub (f : Fin 4) {l : ℕ} (hl : l ≤ 5) (c : Dev nD) : rg (wr f l c) (rows l) (colB f) ⊆ R f l c := by
  unfold wr rows
  by_cases h : l = 5
  · subst h; exact subset_rfl
  · rw [if_neg h, if_neg h]; exact Sb_subset f (by omega) c

theorem step_read {Xt : sProp 𝕄} {Q : α → sProp 𝕄} (f : Fin 4) (j : ℕ) (hj : dn (ph f) = some j) (h5 : j ≤ 5) {n : ℕ} (hn : n = rows j) {o : Dev nD → Fin 2 → ℕ}
    (ho : ∀ c, o c = ![wr f j c, colB f])
    {inb : ∀ a, o c a + (![n, 512] : Fin 2 → ℕ) a ≤ S1024x1024.size a}
    {h1 : (Memref.whole cc0_scratch0).view.LoadsAt (unitR (o c) n inb).toLoadRect}
    {k' : Vec F ⟨2, ![n, 512]⟩ .bf16 → Prog (TpuEff nD τ sig (Elt F) Λ₀ .tc) α}
    (H : St m ρ K c Xt ph lvs ⊢ WP c (k' (at16 (o c) n inb (Gv m ρ))) Q) :
    St m ρ K c Xt ph lvs ⊢ WP c (.op (.load (Memref.whole cc0_scratch0) (unitR (o c) n inb).toLoadRect h1) k') Q := by
  have hset : (unitR (o c) n inb).set ⊆ R f j c := by
    rw [set_unit (o c) (ho c) inb, hn]; exact wr_sub f h5 c
  unfold St at H ⊢
  rw [flows_at m ρ c ph f] at H ⊢
  iintro ⟨HR, HL, HO, Hout, ⟨HF, Hrest⟩, HX⟩
  ihave HF := (Fl_read m ρ c f hj) $$ HF
  icases HF with ⟨%q, HA, HF⟩
  iapply (wp_loadA c hset) $$ HA
  iintro HA
  iapply H
  isplitl [HR]; · iexact HR
  isplitl [HL]; · iexact HL
  isplitl [HO]; · iexact HO
  isplitl [Hout]; · iexact Hout
  isplitr [HX]
  · isplitr [Hrest]
    · iapply HF; iexact HA
    · iexact Hrest
  · iexact HX

/-- The result read before it is written: any contents. -/
theorem step_peek {Xt : sProp 𝕄} {Q : α → sProp 𝕄} {n : ℕ} {o : Fin 2 → ℕ} {inb : ∀ a, o a + (![n, 512] : Fin 2 → ℕ) a ≤ S1024x1024.size a}
    {h1 : (Memref.whole cc0_stg1_0).view.LoadsAt (unitR o n inb).toLoadRect}
    {k' : Vec F ⟨2, ![n, 512]⟩ .f32 → Prog (TpuEff nD τ sig (Elt F) Λ₀ .tc) α}
    (H : ∀ w, St m ρ K c Xt ph lvs ⊢ WP c (k' w) Q) :
    St m ρ K c Xt ph lvs ⊢ WP c (.op (.load (Memref.whole cc0_stg1_0) (unitR o n inb).toLoadRect h1) k') Q := by
  unfold St at H ⊢
  unfold Out at H ⊢
  iintro ⟨HR, HL, HO, ⟨%v, %hv, Hout⟩, HF, HX⟩
  iapply (wp_loadO c) $$ Hout
  iintro Hout
  iapply (H _)
  isplitl [HR]; · iexact HR
  isplitl [HL]; · iexact HL
  isplitl [HO]; · iexact HO
  isplitl [Hout]
  · iexists v; isplitr; · ipureintro; exact hv
    iexact Hout
  isplitl [HF]; · iexact HF
  iexact HX

/-- A block widened into the result. -/
theorem step_write {Xt : sProp 𝕄} {Q : α → sProp 𝕄} (f : Fin 4) (l : ℕ) (hl : l ≤ 5) (hlv : l < 5 → lvs f = l + 1) {n : ℕ} (hn : n = rows l) {o : Dev nD → Fin 2 → ℕ}
    (ho : ∀ c, o c = ![wr f l c, colB f])
    {inb inb' : ∀ a, o c a + (![n, 512] : Fin 2 → ℕ) a ≤ S1024x1024.size a}
    {x : Vec F ⟨2, ![n, 512]⟩ .f32} (hw : x = fun j => FloatOps.extf .f32 bitsLt_bf16_f32 (at16 (o c) n inb' (Gv m ρ) j))
    {hx : ((Memref.whole cc0_stg1_0).access (unitR (o c) n inb)).Stores Finset.univ} {hm : Finset.univ = Finset.univ ∨ ∀ a, (unitR (o c) n inb).stride a = 1}
    {k' : PUnit → Prog (TpuEff nD τ sig (Elt F) Λ₀ .tc) α}
    (H : St m ρ K c Xt ph (Function.update lvs f l) ⊢ WP c (k' ⟨⟩) Q) :
    St m ρ K c Xt ph lvs ⊢ WP c (.op (.store (Memref.whole cc0_stg1_0) (unitR (o c) n inb) x Finset.univ hx hm) k') Q := by
  unfold St at H ⊢
  unfold Out at H ⊢
  iintro ⟨HR, HL, HO, ⟨%v, %hv, Hout⟩, HF, HX⟩
  iapply (wp_storeO c) $$ Hout
  iintro %w %hww Hout
  iapply H
  isplitl [HR]; · iexact HR
  isplitl [HL]; · iexact HL
  isplitl [HO]; · iexact HO
  isplitl [Hout]
  · iexists w; isplitr
    · ipureintro
      have hin : ∀ i ∈ (unitR (o c) n inb).set, w i = outV m ρ i := by
        intro i hi
        rw [← Rect.map_emb_univ] at hi
        obtain ⟨j, -, rfl⟩ := Finset.mem_map.mp hi
        rw [hww.1 j, hw]; rfl
      intro g hg i hi
      by_cases hmem : i ∈ (unitR (o c) n inb).set
      · exact hin i hmem
      · rw [hww.2 i hmem]
        by_cases hgf : g = f
        · subst hgf
          rw [Function.update_self] at hg hi
          rw [set_unit (o c) (ho c) inb, hn] at hmem
          unfold wr rows at hmem
          by_cases h : l = 5
          · subst h; exact absurd hi hmem
          · rw [if_neg h, if_neg h] at hmem
            rw [R_eq_union g (by omega), Finset.mem_union] at hi
            have e := hlv (by omega)
            exact hv g (by omega) i (by rw [e]; exact hi.resolve_right hmem)
        · rw [Function.update_of_ne hgf] at hg hi
          exact hv g hg i hi
    iexact Hout
  isplitl [HF]; · iexact HF
  iexact HX

/-- A program at its end. -/
theorem WP_ret {X : sProp 𝕄} {Q : α → sProp 𝕄} {r : α} (H : X ⊢ Q r) : X ⊢ WP c (.ret r) Q := by
  unfold WP; rw [wp_ret]; exact H.trans fupd_intro

end Cert.KernelIdeal.Ring
-- ==== Proof.Signals.lean ====
/- The opening and the closing handshake: five signals sent, five awaited. -/
module

public import proofs.«01_k».proof.Proof.Buffers
public import proofs.«01_k».proof.Proof.Vector

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD) {α : Type}

abbrev regC (c : Dev nD) (s : Sem sig) : GSem nD τ sig := ((c : Thread nD τ), .reg s)

/-- A device in a handshake on semaphore `s`, with `n` of its five signals sent: what it owes besides, the signals it
    still owes with their duties and what they hand over, and what it keeps aside. -/
def Sg (s : Sem sig) (B : CellTallies nD τ sig Unit) (n : ℕ) (X : sProp 𝕄) : sProp 𝕄 :=
  iprop(records m ρ K ∗ levAts L lv
    ∗ (∃ W, owes (c : Thread nD τ) (B + ∑ j ∈ Finset.Ico n 5, tallyAt (regC (peer (nb j) c) s) () 1) W)
    ∗ (bigSep (Finset.Ico n 5) fun j => iprop(dutyTok ER (regC (peer (nb j) c) s) 0 (nb j) ∗ (Rd m ρ).payload (regC (peer (nb j) c) s) 0 (nb j)))
    ∗ X)

theorem bigSep_Ico_peel {n N : ℕ} (h : n < N) (Φ : ℕ → sProp 𝕄) :
    bigSep (Finset.Ico n N) Φ = iprop(Φ n ∗ bigSep (Finset.Ico (n + 1) N) Φ) := by
  rw [Ico_peel h, bigSep_insert (not_mem_Ico_succ _ _)]; rfl

/-- One signal of a handshake. -/
theorem step_signal {X : sProp 𝕄} {Q : α → sProp 𝕄} {s : Sem sig} {B : CellTallies nD τ sig Unit} (b : Bool)
    (hs : ∀ c, kcell c (.inl b) = regC c s) (n : ℕ) (hn : n < 5) {p : Dev nD → Dev nD} (hp : ∀ c, p c = peer (nb n) c) {k : ℤ} (hk : k = 1)
    {k' : PUnit → Prog (TpuEff nD τ sig (Elt F) Λ₀ .tc) α}
    (H : Sg m ρ K c s B (n + 1) X ⊢ WP c (k' ⟨⟩) Q) :
    Sg m ρ K c s B n X ⊢ WP c (.op (.semSignal ((p c, .tc) : Thread nD τ) s k) k') Q := by
  subst hk
  rw [hp c]
  have hR := records_at m ρ K (peer (nb n) c, .inl b)
  rw [show kcell (peer (nb n) c, (Sum.inl b : CIx)).1 (peer (nb n) c, (Sum.inl b : CIx)).2 = regC (peer (nb n) c) s from hs _] at hR
  unfold Sg at H ⊢
  have hO : B + ∑ j ∈ Finset.Ico n 5, tallyAt (regC (peer (nb j) c) s) () 1
      = (B + ∑ j ∈ Finset.Ico (n + 1) 5, tallyAt (regC (peer (nb j) c) s) () 1) + tallyAt (regC (peer (nb n) c) s) () 1 := by
    rw [Ico_peel hn, Finset.sum_insert (not_mem_Ico_succ _ _), add_assoc]; congr 1; exact add_comm _ _
  rw [bigSep_Ico_peel hn, hO]
  iintro ⟨#HR, #HL, ⟨%W, HO⟩, ⟨⟨Ht, HP⟩, Hrest⟩, HX⟩
  ihave #Hr := hR $$ HR
  icases Hr with ⟨#HI, #Hre⟩
  iapply (Rounds.wp_signal 𝒱₀ ER (Rd m ρ) (c : Thread nD τ) none (dst := (peer (nb n) c : Thread nD τ)) (κ := K (peer (nb n) c, .inl b)) (r := 0)
      (d := nb n) (k' := 1) (by rw [duties_reg]; exact Finset.mem_univ _) (amount_reg m ρ (peer (nb n) c) s (nb n)) ()
      (B + ∑ j ∈ Finset.Ico (n + 1) 5, tallyAt (regC (peer (nb j) c) s) () 1) rfl)
    $$ [HO Ht HP]
  · isplitr; · iexact HI
    isplitl [HO]; · iexact HO
    isplitl [Ht]; · iexact Ht
    isplitl [HP]; · iexact HP
    iexact Hre
  iintro HO
  iapply H
  isplitr; · iexact HR
  isplitr; · iexact HL
  isplitl [HO]; · iexists W; iexact HO
  isplitl [Hrest]; · iexact Hrest
  iexact HX

/-- The five signals awaited: the semaphore is at zero again, and what they hand over is the device's. -/
theorem step_wait_reg {X : sProp 𝕄} {Q : α → sProp 𝕄} {s : Sem sig} {B : CellTallies nD τ sig Unit} (b : Bool)
    (hs : ∀ c, kcell c (.inl b) = regC c s) (hB : (levAts L lv : sProp 𝕄) ⊢ MayWait (c : Thread nD τ) (.reg s) () B) {k : ℤ} (hk : k = 5)
    {k' : PUnit → Prog (TpuEff nD τ sig (Elt F) Λ₀ .tc) α}
    (H : iprop(records m ρ K ∗ levAts L lv ∗ (∃ W, owes (c : Thread nD τ) B W) ∗ semVal (regC c s) 0
      ∗ bigSep ((Rd m ρ).duties (regC c s) 0 \ ∅) (fun d => (Rd m ρ).payload (regC c s) 0 d) ∗ X) ⊢ WP c (k' ⟨⟩) Q) :
    Sg m ρ K c s B 5 iprop(cred (tallyAt (regC c s) () 5) ∗ atPos ER (regC c s) 0 ∅ 0 ∗ X) ⊢ WP c (.op (.semWait s k) k') Q := by
  subst hk
  have hR := records_at m ρ K (c, .inl b)
  rw [show kcell (c, (Sum.inl b : CIx)).1 (c, (Sum.inl b : CIx)).2 = regC c s from hs _] at hR
  unfold Sg
  rw [Finset.Ico_self, Finset.sum_empty, bigSep_empty, add_zero]
  iintro ⟨#HR, #HL, ⟨%W, HO⟩, -, Hc, Ha, HX⟩
  ihave #Hr := hR $$ HR
  icases Hr with ⟨#HI, -⟩
  ihave HM := hB $$ HL
  iapply (Rounds.wp_wait_rest_token 𝒱₀ ER (Rd m ρ) (c : Thread nD τ) none (κ := K (c, .inl b))
      (wpE_semWait_eq 𝒱₀ (c : Thread nD τ) none Set.univ) (Set.mem_univ _) () (O := B) (W := W) (R := 0) (m := 0) (T := ∅)
      (by rw [Nat.zero_add, expect_reg])) $$ [Hc HO HM Ha]
  · isplitr; · iexact HI
    isplitl [Hc]; · iexact Hc
    isplitl [HO]; · iexact HO
    isplitl [HM]; · iexact HM
    iexact Ha
  iintro ⟨HO, Ha, -, HP⟩
  imod (Rounds.cell_close ER (Rd m ρ) (Set.mem_univ (K (c, .inl b))) (fun h => h) (R := 0 + 1) (duties_later m ρ _)) $$ [Ha] with Hv
  · isplitr; · iexact HI
    iexact Ha
  iapply H
  isplitr; · iexact HR
  isplitr; · iexact HL
  isplitl [HO]; · iexists _; iexact HO
  isplitl [Hv]; · iexact Hv
  isplitl [HP]; · iexact HP
  iexact HX

/-! ## The opening -/

theorem bar_cell (c : Dev nD) : kcell c (.inl false) = regC c barS := rfl
theorem fin_cell (c : Dev nD) : kcell c (.inl true) = regC c finS := rfl

theorem mayWait_bar : (levAts L lv : sProp 𝕄) ⊢ MayWait (c : Thread nD τ) (.reg barS) () (Ow c fun _ => 0) :=
  mayWait_of c _ _ fun g u hg => by
    have e : lv ((c : Thread nD τ), .reg barS) () = 1 := lv_bar c
    rcases Ow_pos hg with ⟨c', rfl⟩ | ⟨c', f', t', -, h2, rfl⟩
    · refine ⟨rfl, ?_⟩; rw [e, lv_fin]; decide
    · refine ⟨rfl, ?_⟩; rw [e, lv_r c' f' h2]; unfold pos; omega

theorem mayWait_fin : (levAts L lv : sProp 𝕄) ⊢ MayWait (c : Thread nD τ) (.reg finS) () 0 := by
  rw [MayWait_zero]; iintro -; iempintro

/-- The order of the signals is the neighbours'. -/
theorem nb_fin (Φ : Fin 5 → sProp 𝕄) : (bigSep (Finset.Ico 0 5) fun j => Φ (nb j)) = bigSep Finset.univ Φ := by
  rw [← range_Ico, range_fin]
  exact bigSep_congr fun j _ => congrArg Φ (Fin.ext (Nat.mod_eq_of_lt j.isLt))

/-- The duties of a handshake, for all five neighbours. -/
def Duties (s : Sem sig) : sProp 𝕄 := bigSep Finset.univ fun j => dutyTok ER (regC (peer j c) s) 0 j

/-- A handshake's duties and what its signals hand over, in the order of the signals. -/
theorem duties_pay (s : Sem sig) (P : Fin 5 → sProp 𝕄) (hP : ∀ j, (Rd m ρ).payload (regC (peer j c) s) 0 j = P j) :
    iprop(Duties c s ∗ bigSep Finset.univ P)
      = bigSep (Finset.Ico 0 5) fun j => iprop(dutyTok ER (regC (peer (nb j) c) s) 0 (nb j) ∗ (Rd m ρ).payload (regC (peer (nb j) c) s) 0 (nb j)) := by
  rw [nb_fin fun j => iprop(dutyTok ER (regC (peer j c) s) 0 j ∗ (Rd m ρ).payload (regC (peer j c) s) 0 j)]
  unfold Duties
  rw [bigSep_sep', bigSep_congr fun j _ => hP j]

/-- What a device keeps aside while its flows run: its staged operand, the barrier at zero, the rest of its receive
    buffer, and the closing handshake's duties, credits and counter. -/
def Aside : sProp 𝕄 :=
  iprop((((c : Thread nD τ).loc cc0_stg0_0) ↦{fullShare} xstg m ρ c) ∗ semVal (barC c) 0 ∗ rRest (F := F) c
    ∗ Duties c finS ∗ cred (tallyAt (finC c) () 5) ∗ atPos ER (finC c) 0 ∅ 0)

/-- What it keeps aside during the opening handshake: its buffers but the receive slots, its channels, the closing
    handshake's. -/
def Keep (v : A16 F) : sProp 𝕄 :=
  iprop((((c : Thread nD τ).loc cc0_stg0_0) ↦{fullShare} xstg m ρ c) ∗ aP c Finset.univ fullShare v ∗ Out m ρ c ![6, 6, 6, 6]
    ∗ Chans (F := F) c ∗ rRest (F := F) c ∗ Duties c finS ∗ cred (tallyAt (finC c) () 5) ∗ atPos ER (finC c) 0 ∅ 0)

/-- After the opening handshake the flows may start. -/
theorem opened :
    iprop(records m ρ K ∗ levAts L lv ∗ (∃ W, owes (c : Thread nD τ) (Ow c fun _ => 0) W) ∗ semVal (regC c barS) 0
      ∗ bigSep ((Rd m ρ).duties (regC c barS) 0 \ ∅) (fun d => (Rd m ρ).payload (regC c barS) 0 d) ∗ Keep m ρ c (k0_pay1 (xstg m ρ c)))
      ⊢ St m ρ K c (Aside m ρ c) ![.rs 0, .rs 0, .rs 0, .rs 0] ![6, 6, 6, 6] := by
  have e : (fun f => sent ((![.rs 0, .rs 0, .rs 0, .rs 0] : Fin 4 → Ph) f)) = fun _ => 0 := by funext f; fin_cases f <;> rfl
  unfold St Keep Aside
  rw [e]
  iintro ⟨HR, HL, HO, Hv, HP, Hx, HA, Hout, HC, Hr, HD, Hc, Ha⟩
  ihave HP := (Entails.of_eq (rest_bar m ρ c)) $$ HP
  isplitl [HR]; · iexact HR
  isplitl [HL]; · iexact HL
  isplitl [HO]; · iexact HO
  isplitl [Hout]; · iexact Hout
  isplitl [HP HA HC]
  · iapply (flows_start m ρ c)
    isplitl [HC]; · iexact HC
    isplitl [HP]; · iexact HP
    iexact HA
  isplitl [Hx]; · iexact Hx
  isplitl [Hv]; · iexact Hv
  isplitl [Hr]; · iexact Hr
  isplitl [HD]; · iexact HD
  isplitl [Hc]; · iexact Hc
  iexact Ha

/-! ## The closing -/

/-- What a device keeps during the closing handshake: everything it ends with but the closing counter. -/
def Last : sProp 𝕄 :=
  iprop((((c : Thread nD τ).loc cc0_stg0_0) ↦{fullShare} xstg m ρ c) ∗ semVal (barC c) 0 ∗ rRest (F := F) c ∗ Out m ρ c ![0, 0, 0, 0]
    ∗ bigSep Finset.univ fun f => Fl m ρ c f (![.fin 10, .fin 10, .fin 10, .fin 10] f))

/-- All flows finished, only the closing handshake is owed. -/
theorem closing :
    St m ρ K c (Aside m ρ c) ![.fin 10, .fin 10, .fin 10, .fin 10] ![0, 0, 0, 0]
      ⊢ Sg m ρ K c finS 0 0 iprop(cred (tallyAt (regC c finS) () 5) ∗ atPos ER (regC c finS) 0 ∅ 0 ∗ Last m ρ c) := by
  unfold St Aside Sg Last
  rw [Ow_done c _ fun f => by fin_cases f <;> exact le_refl _, zero_add,
    ← duties_pay m ρ c finS (fun _ => iprop(emp)) fun j => payload_fin m ρ (peer j c) j]
  iintro ⟨HR, HL, HO, Hout, HF, Hx, Hv, Hr, HD, Hc, Ha⟩
  isplitl [HR]; · iexact HR
  isplitl [HL]; · iexact HL
  isplitl [HO]; · iexact HO
  isplitl [HD]
  · isplitl [HD]; · iexact HD
    iapply bigSep_emp; iempintro
  isplitl [Hc]; · iexact Hc
  isplitl [Ha]; · iexact Ha
  isplitl [Hx]; · iexact Hx
  isplitl [Hv]; · iexact Hv
  isplitl [Hr]; · iexact Hr
  isplitl [Hout]; · iexact Hout
  iexact HF

/-- What a device ends with: its operand, the result, its buffers, and every counter at zero. -/
def End : sProp 𝕄 :=
  iprop((((c : Thread nD τ).loc cc0_stg0_0) ↦{fullShare} xstg m ρ c) ∗ oP c (outV m ρ) ∗ aP c Finset.univ fullShare (Gv m ρ)
    ∗ (∃ v, rP (F := F) c Finset.univ v) ∗ semVal (barC c) 0 ∗ semVal (finC c) 0
    ∗ bigSep Finset.univ fun f : Fin 4 => bigSep Finset.univ fun t : Fin 10 => iprop(semVal (sC c f t.val) 0 ∗ semVal (rC c f t.val) 0))

theorem ended : iprop(semVal (regC c finS) 0 ∗ Last m ρ c) ⊢ End m ρ c := by
  unfold Last End Out
  iintro ⟨Hf, Hx, Hv, Hr, ⟨%v, %hv, Ho⟩, HF⟩
  have e : v = outV m ρ := by
    funext i
    exact hv (flowOf i) (by generalize flowOf i = f; fin_cases f <;> decide) i
      (by have h : (![0, 0, 0, 0] : Fin 4 → ℕ) (flowOf i) = 0 := by generalize flowOf i = f; fin_cases f <;> rfl
          rw [h]; exact mem_R_zero.mpr rfl)
  subst e
  ihave HF := (flows_end m ρ c) $$ HF
  icases HF with ⟨HS, HV, HA⟩
  isplitl [Hx]; · iexact Hx
  isplitl [Ho]; · iexact Ho
  isplitl [HA]; · iexact HA
  isplitl [HV Hr]
  · iapply (slots_close c); isplitl [HV]; · iexact HV
    iexact Hr
  isplitl [Hv]; · iexact Hv
  isplitl [Hf]; · iexact Hf
  iexact HS

end Cert.KernelIdeal.Ring
-- ==== Proof.Ends.lean ====
/- The opening and the closing parts of the body. -/
module

public import proofs.«01_k».proof.Proof.Signals

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

theorem hz : (![0, 0] : Fin 2 → ℕ) = fun _ => 0 := funext fun a => by fin_cases a <;> rfl
theorem hz5 : (![0, 0, 0, 0, 0] : Fin 5 → ℕ) = fun _ => 0 := funext fun a => by fin_cases a <;> rfl

/-- The opening handshake, `n` signals sent, with the running sum holding `v`. -/
abbrev Open (n : ℕ) (v : A16 F) : sProp 𝕄 :=
  Sg m ρ K c barS (Ow c fun _ => 0) n iprop(cred (tallyAt (regC c barS) () 5) ∗ atPos ER (regC c barS) 0 ∅ 0 ∗ Keep m ρ c v)

/-- The operand read, and the running sum started with it. -/
theorem step_copy {α : Type} {n : ℕ} {v : A16 F} {Q : α → sProp 𝕄}
    {hl : (Memref.whole cc0_stg0_0 : Memref sig .tc .vmem S1x1x1x1024x1024 .bf16).view.LoadsAt (Rect.unit (s := S1x1x1x1024x1024) ![0, 0, 0, 0, 0] S1x1x1x1024x1024.size inb_S1x1x1x1024x1024_S1x1x1x1024x1024_0_0_0_0_0).toLoadRect}
    {k : _ → Prog (TpuEff nD τ sig (Elt F) Λ₀ .tc) α}
    (H : Open m ρ K c n v ⊢ WP c (k (xstg m ρ c)) Q) :
    Open m ρ K c n v ⊢ WP c (.op (.load (Memref.whole cc0_stg0_0 : Memref sig .tc .vmem S1x1x1x1024x1024 .bf16) (Rect.unit (s := S1x1x1x1024x1024) ![0, 0, 0, 0, 0] S1x1x1x1024x1024.size inb_S1x1x1x1024x1024_S1x1x1x1024x1024_0_0_0_0_0).toLoadRect hl) k) Q := by
  unfold Open Sg Keep at H ⊢
  iintro ⟨HR, HL, HO, HD, Hc, Ha, Hx, Hr⟩
  iapply (wp_load 𝒱₀ (c : Thread nD τ) none Set.univ (m := (Memref.whole cc0_stg0_0 : Memref sig .tc .vmem S1x1x1x1024x1024 .bf16)) (Finset.subset_univ _)) $$ Hx
  iintro Hx
  rw [show (Memref.whole cc0_stg0_0 : Memref sig .tc .vmem S1x1x1x1024x1024 .bf16).view.readAt (Elt F) (Rect.unit (s := S1x1x1x1024x1024) ![0, 0, 0, 0, 0] S1x1x1x1024x1024.size inb_S1x1x1x1024x1024_S1x1x1x1024x1024_0_0_0_0_0).toLoadRect (xstg m ρ c) = xstg m ρ c from
    Memref.readAt_unit_zero (Elt F) cc0_stg0_0 hz5 _ _]
  iapply H
  isplitl [HR]; · iexact HR
  isplitl [HL]; · iexact HL
  isplitl [HO]; · iexact HO
  isplitl [HD]; · iexact HD
  isplitl [Hc]; · iexact Hc
  isplitl [Ha]; · iexact Ha
  isplitl [Hx]; · iexact Hx
  iexact Hr

abbrev rAll : Rect S1024x1024 := Rect.unit (s := S1024x1024) ![0, 0] S1024x1024.size inb_S1024x1024_S1024x1024_0_0

theorem step_set {α : Type} {n : ℕ} {v : A16 F} {Q : α → sProp 𝕄}
    {hl : (Memref.whole cc0_scratch0 : Memref sig .tc .vmem S1024x1024 .bf16).view.LoadsAt rAll.toLoadRect}
    {hx : ((Memref.whole cc0_scratch0 : Memref sig .tc .vmem S1024x1024 .bf16).access rAll).Stores Finset.univ}
    {hm : (Finset.univ : Finset rAll.shape.Idx) = Finset.univ ∨ ∀ a, rAll.stride a = 1}
    {k : _ → PUnit → Prog (TpuEff nD τ sig (Elt F) Λ₀ .tc) α}
    (H : ∀ u, Open m ρ K c n (k0_pay1 (xstg m ρ c)) ⊢ WP c (k u ⟨⟩) Q) :
    Open m ρ K c n v ⊢ WP c (.op (.load (Memref.whole cc0_scratch0 : Memref sig .tc .vmem S1024x1024 .bf16) rAll.toLoadRect hl)
      fun u => .op (.store (Memref.whole cc0_scratch0 : Memref sig .tc .vmem S1024x1024 .bf16) rAll (k0_pay1 (xstg m ρ c)) Finset.univ hx hm) (k u)) Q := by
  unfold Open Sg Keep at H ⊢
  iintro ⟨HR, HL, HO, HD, Hc, Ha, Hx, HA, Hr⟩
  iapply (wp_load 𝒱₀ (c : Thread nD τ) none Set.univ (m := (Memref.whole cc0_scratch0 : Memref sig .tc .vmem S1024x1024 .bf16)) (Finset.subset_univ _)) $$ HA
  iintro HA
  iapply (wp_store 𝒱₀ (c : Thread nD τ) none Set.univ (m := (Memref.whole cc0_scratch0 : Memref sig .tc .vmem S1024x1024 .bf16)) (r := rAll) (Mk := Finset.univ) (Finset.subset_univ _)) $$ HA
  iintro HA
  have hw : ((Memref.whole cc0_scratch0 : Memref sig .tc .vmem S1024x1024 .bf16).access rAll).write (Elt F) v (k0_pay1 (xstg m ρ c)) Finset.univ = k0_pay1 (xstg m ρ c) :=
    Memref.write_access_unit_zero_univ (Elt F) cc0_scratch0 hz _ _ _
  rw [hw]
  iapply (H _)
  isplitl [HR]; · iexact HR
  isplitl [HL]; · iexact HL
  isplitl [HO]; · iexact HO
  isplitl [HD]; · iexact HD
  isplitl [Hc]; · iexact Hc
  isplitl [Ha]; · iexact Ha
  isplitl [Hx]; · iexact Hx
  isplitl [HA]; · iexact HA
  iexact Hr

theorem part1 {v : A16 F} {Q : _ → sProp 𝕄}
    (H : ∀ v2 v5 v8 v9 v10 v11 v12 v13 v14 v15 v16 v17, Open m ρ K c 1 (k0_pay1 (xstg m ρ c))
      ⊢ Q ⟨c, v2, v5, v8, v9, v10, v11, v12, v13, v14, v15, v16, v17, SemArray.scalar (sig.barrier 0 rfl)⟩) :
    Open m ρ K c 0 v ⊢ WP c (k0_part1 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0) Q := by
  rw [k0_part1_eq_skeleton]; unfold k0_part1_skel
  simp only [semSignalWord, Prog.lift, Prog.bind_op, Prog.bind_ret, Prog.pure_eq_ret]
  unfold WP
  rw [wp_deviceId]
  refine step_copy m ρ K c ?_
  refine step_set m ρ K c fun _ => ?_
  apply step_signal m ρ K c false bar_cell 0 (p := fun c => ⟨k0_dev1 c, k0_dev1_lt c⟩) <;> try decide +kernel
  exact WP_ret c (H _ _ _ _ _ _ _ _ _ _ _ _)

theorem part2 {Q : _ → sProp 𝕄} {v2 v5 v8 v10 v11 v12 v13 v14 v16}
    (H : ∀ r, St m ρ K c (Aside m ρ c) ![.rs 0, .rs 0, .rs 0, .rs 0] ![6, 6, 6, 6] ⊢ Q r) :
    Open m ρ K c 1 (k0_pay1 (xstg m ρ c)) ⊢ WP c (k0_part2 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v11 v12 v13 v14 v16 (SemArray.scalar (sig.barrier 0 rfl))) Q := by
  rw [k0_part2_eq_skeleton]; unfold k0_part2_skel
  simp only [semSignalWord, semWaitWord, Prog.bind_op, Prog.bind_ret, Prog.pure_eq_ret]
  apply step_signal m ρ K c false bar_cell 1 (p := fun c => ⟨k0_dev2 c, k0_dev2_lt c⟩) <;> try decide +kernel
  apply step_signal m ρ K c false bar_cell 2 (p := fun c => ⟨k0_dev3 c, k0_dev3_lt c⟩) <;> try decide +kernel
  apply step_signal m ρ K c false bar_cell 3 (p := fun c => ⟨k0_dev4 c, k0_dev4_lt c⟩) <;> try decide +kernel
  apply step_signal m ρ K c false bar_cell 4 (p := fun c => ⟨k0_dev5 c, k0_dev5_lt c⟩) <;> try decide +kernel
  refine step_wait_reg m ρ K c false bar_cell (mayWait_bar c) (by decide +kernel) ?_
  exact WP_ret c ((opened m ρ K c).trans (H _))

/-- The closing handshake, `n` signals sent. -/
abbrev Close (n : ℕ) : sProp 𝕄 :=
  Sg m ρ K c finS 0 n iprop(cred (tallyAt (regC c finS) () 5) ∗ atPos ER (regC c finS) 0 ∅ 0 ∗ Last m ρ c)

theorem part55 {Q : _ → sProp 𝕄} {v2 v5 v8 v9} (H : ∀ r, Close m ρ K c 1 ⊢ Q r) :
    St m ρ K c (Aside m ρ c) ![.fin 10, .fin 10, .fin 10, .fin 6] ![0, 0, 0, 0] ⊢ WP c (k0_part55 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9) Q := by
  rw [k0_part55_eq_skeleton]; unfold k0_part55_skel
  simp only [semSignalWord, Prog.lift, Prog.bind_op, Prog.bind_ret, Prog.pure_eq_ret]
  apply step_wait_send m ρ K c 3 6 <;> try decide +kernel
  rw [upd3]
  apply step_wait_send m ρ K c 3 7 <;> try decide +kernel
  rw [upd3]
  apply step_wait_send m ρ K c 3 8 <;> try decide +kernel
  rw [upd3]
  apply step_wait_send m ρ K c 3 9 <;> try decide +kernel
  rw [upd3]
  refine (closing m ρ K c).trans ?_
  apply step_signal m ρ K c true fin_cell 0 (p := fun c => ⟨k0_dev46 c, k0_dev46_lt c⟩) <;> try decide +kernel
  exact WP_ret c (H _)

end Cert.KernelIdeal.Ring
-- ==== Proof.Parts1.lean ====
/- Parts 7 to 22 of the body: the exchanges on the way up. -/
module

public import proofs.«01_k».proof.Proof.Vector

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

theorem part7 {Xt : sProp 𝕄} {Q : _ → sProp 𝕄} {v2 v5 v8 v9 v10 v85 v87 v89 v91 v93 c960_i32_113}
    (H : ∀ r, St m ρ K c Xt ![.rsSent 0, .rs 0, .rs 0, .rs 0] ![6, 6, 6, 6] ⊢ Q r) :
    St m ρ K c Xt ![.rs 0, .rs 0, .rs 0, .rs 0] ![6, 6, 6, 6] ⊢ WP c (k0_part7 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v10 v85 v87 v89 v91 v93 c960_i32_113) Q := by
  rw [k0_part7_eq_skeleton]; unfold k0_part7_skel
  simp only [Prog.lift, Prog.bind_op, Prog.bind_ret, Prog.pure_eq_ret]
  apply step_send_up m ρ K c 0 0 <;> try decide +kernel
  rw [upd0]
  exact WP_ret c (H _)

theorem part8 {Xt : sProp 𝕄} {Q : _ → sProp 𝕄} {v2 v5 v8 v9 v10 v55}
    (H : ∀ r, St m ρ K c Xt ![.rs 1, .rsSent 0, .rs 0, .rs 0] ![6, 6, 6, 6] ⊢ Q r) :
    St m ρ K c Xt ![.rsSent 0, .rs 0, .rs 0, .rs 0] ![6, 6, 6, 6] ⊢ WP c (k0_part8 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v10 v55) Q := by
  rw [k0_part8_eq_skeleton]; unfold k0_part8_skel
  simp only [Prog.lift, Prog.bind_op, Prog.bind_ret, Prog.pure_eq_ret]
  apply step_send_up m ρ K c 1 0 <;> try decide +kernel
  rw [upd1]
  apply step_recv_up m ρ K c 0 0 <;> try decide +kernel
  rw [upd0]
  apply step_accumulate m ρ K c 0 0 <;> try decide +kernel
  · exact fun _ _ => shapeCast_self _ _
  rw [upd0]
  exact WP_ret c (H _)

theorem part9 {Xt : sProp 𝕄} {Q : _ → sProp 𝕄} {v2 v5 v8 v10 v12 v65}
    (H : ∀ r, St m ρ K c Xt ![.rsSent 1, .rs 1, .rs 0, .rs 0] ![6, 6, 6, 6] ⊢ Q r) :
    St m ρ K c Xt ![.rs 1, .rsSent 0, .rs 0, .rs 0] ![6, 6, 6, 6] ⊢ WP c (k0_part9 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v12 v65) Q := by
  rw [k0_part9_eq_skeleton]; unfold k0_part9_skel
  simp only [Prog.lift, Prog.bind_op, Prog.bind_ret, Prog.pure_eq_ret]
  apply step_send_up m ρ K c 0 1 <;> try decide +kernel
  rw [upd0]
  apply step_recv_up m ρ K c 1 0 <;> try decide +kernel
  rw [upd1]
  apply step_accumulate m ρ K c 1 0 <;> try decide +kernel
  · exact fun _ _ => shapeCast_self _ _
  rw [upd1]
  exact WP_ret c (H _)

theorem part10 {Xt : sProp 𝕄} {Q : _ → sProp 𝕄} {v2 v5 v8 v9 v10}
    (H : ∀ r, St m ρ K c Xt ![.rsSent 1, .rsSent 1, .rsSent 0, .rsSent 0] ![6, 6, 6, 6] ⊢ Q r) :
    St m ρ K c Xt ![.rsSent 1, .rs 1, .rs 0, .rs 0] ![6, 6, 6, 6] ⊢ WP c (k0_part10 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v10) Q := by
  rw [k0_part10_eq_skeleton]; unfold k0_part10_skel
  simp only [Prog.lift, Prog.bind_op, Prog.bind_ret, Prog.pure_eq_ret]
  apply step_send_up m ρ K c 1 1 <;> try decide +kernel
  rw [upd1]
  apply step_send_up m ρ K c 2 0 <;> try decide +kernel
  rw [upd2]
  apply step_send_up m ρ K c 3 0 <;> try decide +kernel
  rw [upd3]
  exact WP_ret c (H _)

theorem part11 {Xt : sProp 𝕄} {Q : _ → sProp 𝕄} {v2 v5 v8 v10 v12 v57 v349 c4_i32_210}
    (H : ∀ r, St m ρ K c Xt ![.rsSent 2, .rsSent 1, .rsSent 0, .rsSent 0] ![6, 6, 6, 6] ⊢ Q r) :
    St m ρ K c Xt ![.rsSent 1, .rsSent 1, .rsSent 0, .rsSent 0] ![6, 6, 6, 6] ⊢ WP c (k0_part11 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v12 v57 v349 c4_i32_210) Q := by
  rw [k0_part11_eq_skeleton]; unfold k0_part11_skel
  simp only [Prog.lift, Prog.bind_op, Prog.bind_ret, Prog.pure_eq_ret]
  apply step_recv_up m ρ K c 0 1 <;> try decide +kernel
  rw [upd0]
  apply step_accumulate m ρ K c 0 1 <;> try decide +kernel
  · exact fun _ _ => shapeCast_self _ _
  rw [upd0]
  apply step_send_up m ρ K c 0 2 <;> try decide +kernel
  rw [upd0]
  exact WP_ret c (H _)

theorem part12 {Xt : sProp 𝕄} {Q : _ → sProp 𝕄} {v2 v5 v8 v9 v12 v14 v67 v382 c4_i32_234}
    (H : ∀ r, St m ρ K c Xt ![.rsSent 2, .rsSent 2, .rsSent 0, .rsSent 0] ![6, 6, 6, 6] ⊢ Q r) :
    St m ρ K c Xt ![.rsSent 2, .rsSent 1, .rsSent 0, .rsSent 0] ![6, 6, 6, 6] ⊢ WP c (k0_part12 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v12 v14 v67 v382 c4_i32_234) Q := by
  rw [k0_part12_eq_skeleton]; unfold k0_part12_skel
  simp only [Prog.lift, Prog.bind_op, Prog.bind_ret, Prog.pure_eq_ret]
  apply step_recv_up m ρ K c 1 1 <;> try decide +kernel
  rw [upd1]
  apply step_accumulate m ρ K c 1 1 <;> try decide +kernel
  · exact fun _ _ => shapeCast_self _ _
  rw [upd1]
  apply step_send_up m ρ K c 1 2 <;> try decide +kernel
  rw [upd1]
  exact WP_ret c (H _)

theorem part13 {Xt : sProp 𝕄} {Q : _ → sProp 𝕄} {v2 v5 v8 v10 v75 v415 c4_i32_258}
    (H : ∀ r, St m ρ K c Xt ![.rsSent 2, .rsSent 2, .rsSent 1, .rsSent 0] ![6, 6, 6, 6] ⊢ Q r) :
    St m ρ K c Xt ![.rsSent 2, .rsSent 2, .rsSent 0, .rsSent 0] ![6, 6, 6, 6] ⊢ WP c (k0_part13 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v75 v415 c4_i32_258) Q := by
  rw [k0_part13_eq_skeleton]; unfold k0_part13_skel
  simp only [Prog.lift, Prog.bind_op, Prog.bind_ret, Prog.pure_eq_ret]
  apply step_recv_up m ρ K c 2 0 <;> try decide +kernel
  rw [upd2]
  apply step_accumulate m ρ K c 2 0 <;> try decide +kernel
  · exact fun _ _ => shapeCast_self _ _
  rw [upd2]
  apply step_send_up m ρ K c 2 1 <;> try decide +kernel
  rw [upd2]
  exact WP_ret c (H _)

theorem part14 {Xt : sProp 𝕄} {Q : _ → sProp 𝕄} {v2 v5 v8 v10 v12 v85 v448 c4_i32_281}
    (H : ∀ r, St m ρ K c Xt ![.rsSent 2, .rsSent 2, .rsSent 1, .rsSent 1] ![6, 6, 6, 6] ⊢ Q r) :
    St m ρ K c Xt ![.rsSent 2, .rsSent 2, .rsSent 1, .rsSent 0] ![6, 6, 6, 6] ⊢ WP c (k0_part14 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v12 v85 v448 c4_i32_281) Q := by
  rw [k0_part14_eq_skeleton]; unfold k0_part14_skel
  simp only [Prog.lift, Prog.bind_op, Prog.bind_ret, Prog.pure_eq_ret]
  apply step_recv_up m ρ K c 3 0 <;> try decide +kernel
  rw [upd3]
  apply step_accumulate m ρ K c 3 0 <;> try decide +kernel
  · exact fun _ _ => shapeCast_self _ _
  rw [upd3]
  apply step_send_up m ρ K c 3 1 <;> try decide +kernel
  rw [upd3]
  exact WP_ret c (H _)

theorem part15 {Xt : sProp 𝕄} {Q : _ → sProp 𝕄} {v2 v5 v8 v12 v14 v59 v481 c4_i32_305}
    (H : ∀ r, St m ρ K c Xt ![.rsSent 3, .rsSent 2, .rsSent 1, .rsSent 1] ![6, 6, 6, 6] ⊢ Q r) :
    St m ρ K c Xt ![.rsSent 2, .rsSent 2, .rsSent 1, .rsSent 1] ![6, 6, 6, 6] ⊢ WP c (k0_part15 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v12 v14 v59 v481 c4_i32_305) Q := by
  rw [k0_part15_eq_skeleton]; unfold k0_part15_skel
  simp only [Prog.lift, Prog.bind_op, Prog.bind_ret, Prog.pure_eq_ret]
  apply step_recv_up m ρ K c 0 2 <;> try decide +kernel
  rw [upd0]
  apply step_accumulate m ρ K c 0 2 <;> try decide +kernel
  · exact fun _ _ => shapeCast_self _ _
  rw [upd0]
  apply step_send_up m ρ K c 0 3 <;> try decide +kernel
  rw [upd0]
  exact WP_ret c (H _)

theorem part16 {Xt : sProp 𝕄} {Q : _ → sProp 𝕄} {v2 v5 v8 v14 v16 v69 v514 c4_i32_329}
    (H : ∀ r, St m ρ K c Xt ![.rsSent 3, .rsSent 3, .rsSent 1, .rsSent 1] ![6, 6, 6, 6] ⊢ Q r) :
    St m ρ K c Xt ![.rsSent 3, .rsSent 2, .rsSent 1, .rsSent 1] ![6, 6, 6, 6] ⊢ WP c (k0_part16 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v14 v16 v69 v514 c4_i32_329) Q := by
  rw [k0_part16_eq_skeleton]; unfold k0_part16_skel
  simp only [Prog.lift, Prog.bind_op, Prog.bind_ret, Prog.pure_eq_ret]
  apply step_recv_up m ρ K c 1 2 <;> try decide +kernel
  rw [upd1]
  apply step_accumulate m ρ K c 1 2 <;> try decide +kernel
  · exact fun _ _ => shapeCast_self _ _
  rw [upd1]
  apply step_send_up m ρ K c 1 3 <;> try decide +kernel
  rw [upd1]
  exact WP_ret c (H _)

theorem part17 {Xt : sProp 𝕄} {Q : _ → sProp 𝕄} {v2 v5 v8 v10 v12 v77 v547 c4_i32_353}
    (H : ∀ r, St m ρ K c Xt ![.rsSent 3, .rsSent 3, .rsSent 2, .rsSent 1] ![6, 6, 6, 6] ⊢ Q r) :
    St m ρ K c Xt ![.rsSent 3, .rsSent 3, .rsSent 1, .rsSent 1] ![6, 6, 6, 6] ⊢ WP c (k0_part17 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v12 v77 v547 c4_i32_353) Q := by
  rw [k0_part17_eq_skeleton]; unfold k0_part17_skel
  simp only [Prog.lift, Prog.bind_op, Prog.bind_ret, Prog.pure_eq_ret]
  apply step_recv_up m ρ K c 2 1 <;> try decide +kernel
  rw [upd2]
  apply step_accumulate m ρ K c 2 1 <;> try decide +kernel
  · exact fun _ _ => shapeCast_self _ _
  rw [upd2]
  apply step_send_up m ρ K c 2 2 <;> try decide +kernel
  rw [upd2]
  exact WP_ret c (H _)

theorem part18 {Xt : sProp 𝕄} {Q : _ → sProp 𝕄} {v2 v5 v8 v12 v14 v87 v580 c4_i32_377}
    (H : ∀ r, St m ρ K c Xt ![.rsSent 3, .rsSent 3, .rsSent 2, .rsSent 2] ![6, 6, 6, 6] ⊢ Q r) :
    St m ρ K c Xt ![.rsSent 3, .rsSent 3, .rsSent 2, .rsSent 1] ![6, 6, 6, 6] ⊢ WP c (k0_part18 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v12 v14 v87 v580 c4_i32_377) Q := by
  rw [k0_part18_eq_skeleton]; unfold k0_part18_skel
  simp only [Prog.lift, Prog.bind_op, Prog.bind_ret, Prog.pure_eq_ret]
  apply step_recv_up m ρ K c 3 1 <;> try decide +kernel
  rw [upd3]
  apply step_accumulate m ρ K c 3 1 <;> try decide +kernel
  · exact fun _ _ => shapeCast_self _ _
  rw [upd3]
  apply step_send_up m ρ K c 3 2 <;> try decide +kernel
  rw [upd3]
  exact WP_ret c (H _)

theorem part19 {Xt : sProp 𝕄} {Q : _ → sProp 𝕄} {v2 v5 v8 v14 v16 v61 v613 c4_i32_401}
    (H : ∀ r, St m ρ K c Xt ![.rsSent 4, .rsSent 3, .rsSent 2, .rsSent 2] ![6, 6, 6, 6] ⊢ Q r) :
    St m ρ K c Xt ![.rsSent 3, .rsSent 3, .rsSent 2, .rsSent 2] ![6, 6, 6, 6] ⊢ WP c (k0_part19 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v14 v16 v61 v613 c4_i32_401) Q := by
  rw [k0_part19_eq_skeleton]; unfold k0_part19_skel
  simp only [Prog.lift, Prog.bind_op, Prog.bind_ret, Prog.pure_eq_ret]
  apply step_recv_up m ρ K c 0 3 <;> try decide +kernel
  rw [upd0]
  apply step_accumulate m ρ K c 0 3 <;> try decide +kernel
  · exact fun _ _ => shapeCast_self _ _
  rw [upd0]
  apply step_send_up m ρ K c 0 4 <;> try decide +kernel
  rw [upd0]
  exact WP_ret c (H _)

theorem part20 {Xt : sProp 𝕄} {Q : _ → sProp 𝕄} {v2 v5 v8 v9 v16 v71 v646 c4_i32_425}
    (H : ∀ r, St m ρ K c Xt ![.rsSent 4, .rsSent 4, .rsSent 2, .rsSent 2] ![6, 6, 6, 6] ⊢ Q r) :
    St m ρ K c Xt ![.rsSent 4, .rsSent 3, .rsSent 2, .rsSent 2] ![6, 6, 6, 6] ⊢ WP c (k0_part20 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v16 v71 v646 c4_i32_425) Q := by
  rw [k0_part20_eq_skeleton]; unfold k0_part20_skel
  simp only [Prog.lift, Prog.bind_op, Prog.bind_ret, Prog.pure_eq_ret]
  apply step_recv_up m ρ K c 1 3 <;> try decide +kernel
  rw [upd1]
  apply step_accumulate m ρ K c 1 3 <;> try decide +kernel
  · exact fun _ _ => shapeCast_self _ _
  rw [upd1]
  apply step_send_up m ρ K c 1 4 <;> try decide +kernel
  rw [upd1]
  exact WP_ret c (H _)

theorem part21 {Xt : sProp 𝕄} {Q : _ → sProp 𝕄} {v2 v5 v8 v12 v14 v79 v679 c4_i32_449}
    (H : ∀ r, St m ρ K c Xt ![.rsSent 4, .rsSent 4, .rsSent 3, .rsSent 2] ![6, 6, 6, 6] ⊢ Q r) :
    St m ρ K c Xt ![.rsSent 4, .rsSent 4, .rsSent 2, .rsSent 2] ![6, 6, 6, 6] ⊢ WP c (k0_part21 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v12 v14 v79 v679 c4_i32_449) Q := by
  rw [k0_part21_eq_skeleton]; unfold k0_part21_skel
  simp only [Prog.lift, Prog.bind_op, Prog.bind_ret, Prog.pure_eq_ret]
  apply step_recv_up m ρ K c 2 2 <;> try decide +kernel
  rw [upd2]
  apply step_accumulate m ρ K c 2 2 <;> try decide +kernel
  · exact fun _ _ => shapeCast_self _ _
  rw [upd2]
  apply step_send_up m ρ K c 2 3 <;> try decide +kernel
  rw [upd2]
  exact WP_ret c (H _)

theorem part22 {Xt : sProp 𝕄} {Q : _ → sProp 𝕄} {v2 v5 v8 v14 v16 v89 v712 c4_i32_473}
    (H : ∀ r, St m ρ K c Xt ![.rsSent 4, .rsSent 4, .rsSent 3, .rsSent 3] ![6, 6, 6, 6] ⊢ Q r) :
    St m ρ K c Xt ![.rsSent 4, .rsSent 4, .rsSent 3, .rsSent 2] ![6, 6, 6, 6] ⊢ WP c (k0_part22 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v14 v16 v89 v712 c4_i32_473) Q := by
  rw [k0_part22_eq_skeleton]; unfold k0_part22_skel
  simp only [Prog.lift, Prog.bind_op, Prog.bind_ret, Prog.pure_eq_ret]
  apply step_recv_up m ρ K c 3 2 <;> try decide +kernel
  rw [upd3]
  apply step_accumulate m ρ K c 3 2 <;> try decide +kernel
  · exact fun _ _ => shapeCast_self _ _
  rw [upd3]
  apply step_send_up m ρ K c 3 3 <;> try decide +kernel
  rw [upd3]
  exact WP_ret c (H _)

end Cert.KernelIdeal.Ring
-- ==== Proof.Parts2.lean ====
/- Parts 23 to 32 of the body: the turn, and the first levels down. -/
module

public import proofs.«01_k».proof.Proof.Vector

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

theorem part23 {Xt : sProp 𝕄} {Q : _ → sProp 𝕄} {v2 v5 v16 v63 v745 c4_i32_497}
    (H : St m ρ K c Xt ![.agSent 0, .rsSent 4, .rsSent 3, .rsSent 3] ![6, 6, 6, 6] ⊢ Q (k0_pay17 (at16 (k0_off33 c) 16 (k0_off33_inb c) (Gv m ρ)))) :
    St m ρ K c Xt ![.rsSent 4, .rsSent 4, .rsSent 3, .rsSent 3] ![6, 6, 6, 6] ⊢ WP c (k0_part23 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v16 v63 v745 c4_i32_497) Q := by
  rw [k0_part23_eq_skeleton]; unfold k0_part23_skel
  simp only [Prog.lift, Prog.bind_op, Prog.bind_ret, Prog.pure_eq_ret]
  apply step_recv_up m ρ K c 0 4 <;> try decide +kernel
  rw [upd0]
  apply step_accumulate m ρ K c 0 4 <;> try decide +kernel
  · exact fun _ _ => shapeCast_self _ _
  rw [upd0]
  apply step_turn m ρ K c 0 <;> try decide +kernel
  rw [upd0]
  apply step_send_down m ρ K c 0 0 <;> try decide +kernel
  rw [upd0]
  apply step_read m ρ K c 0 5 <;> try decide +kernel
  refine step_peek m ρ K c fun _ => ?_
  exact WP_ret c H

theorem part24 {Xt : sProp 𝕄} {Q : _ → sProp 𝕄} {v5 v8 v9 v73}
    (H : ∀ r, St m ρ K c Xt ![.agSent 0, .ag 0, .rsSent 3, .rsSent 3] ![5, 6, 6, 6] ⊢ Q r) :
    St m ρ K c Xt ![.agSent 0, .rsSent 4, .rsSent 3, .rsSent 3] ![6, 6, 6, 6] ⊢ WP c (k0_part24 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v5 v8 v9 v73 (k0_pay17 (at16 (k0_off33 c) 16 (k0_off33_inb c) (Gv m ρ)))) Q := by
  rw [k0_part24_eq_skeleton]; unfold k0_part24_skel
  simp only [Prog.lift, Prog.bind_op, Prog.bind_ret, Prog.pure_eq_ret]
  apply step_write m ρ K c 0 5 <;> try decide +kernel
  · rfl
  rw [upd0]
  apply step_recv_up m ρ K c 1 4 <;> try decide +kernel
  rw [upd1]
  apply step_accumulate m ρ K c 1 4 <;> try decide +kernel
  · exact fun _ _ => shapeCast_self _ _
  rw [upd1]
  apply step_turn m ρ K c 1 <;> try decide +kernel
  rw [upd1]
  exact WP_ret c (H _)

theorem part25 {Xt : sProp 𝕄} {Q : _ → sProp 𝕄} {v2 v5 v8 v14 v73 v81}
    (H : ∀ r, St m ρ K c Xt ![.agSent 0, .agSent 0, .rs 4, .rsSent 3] ![5, 5, 6, 6] ⊢ Q r) :
    St m ρ K c Xt ![.agSent 0, .ag 0, .rsSent 3, .rsSent 3] ![5, 6, 6, 6] ⊢ WP c (k0_part25 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v14 v73 v81) Q := by
  rw [k0_part25_eq_skeleton]; unfold k0_part25_skel
  simp only [Prog.lift, Prog.bind_op, Prog.bind_ret, Prog.pure_eq_ret]
  apply step_send_down m ρ K c 1 0 <;> try decide +kernel
  rw [upd1]
  apply step_read m ρ K c 1 5 <;> try decide +kernel
  refine step_peek m ρ K c fun _ => ?_
  apply step_write m ρ K c 1 5 <;> try decide +kernel
  · rfl
  rw [upd1]
  apply step_recv_up m ρ K c 2 3 <;> try decide +kernel
  rw [upd2]
  apply step_accumulate m ρ K c 2 3 <;> try decide +kernel
  · exact fun _ _ => shapeCast_self _ _
  rw [upd2]
  exact WP_ret c (H _)

theorem part26 {Xt : sProp 𝕄} {Q : _ → sProp 𝕄} {v2 v5 v9 v16 v91 v848 c1_i32_564}
    (H : ∀ r, St m ρ K c Xt ![.agSent 0, .agSent 0, .rsSent 4, .rs 4] ![5, 5, 6, 6] ⊢ Q r) :
    St m ρ K c Xt ![.agSent 0, .agSent 0, .rs 4, .rsSent 3] ![5, 5, 6, 6] ⊢ WP c (k0_part26 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v9 v16 v91 v848 c1_i32_564) Q := by
  rw [k0_part26_eq_skeleton]; unfold k0_part26_skel
  simp only [Prog.lift, Prog.bind_op, Prog.bind_ret, Prog.pure_eq_ret]
  apply step_send_up m ρ K c 2 4 <;> try decide +kernel
  rw [upd2]
  apply step_recv_up m ρ K c 3 3 <;> try decide +kernel
  rw [upd3]
  apply step_accumulate m ρ K c 3 3 <;> try decide +kernel
  · exact fun _ _ => shapeCast_self _ _
  rw [upd3]
  exact WP_ret c (H _)

theorem part27 {Xt : sProp 𝕄} {Q : _ → sProp 𝕄} {v2 v5 v8 v14 v16 v17 v61 v881 c1_i32_588}
    (H : ∀ r, St m ρ K c Xt ![.agSent 1, .agSent 0, .rsSent 4, .rsSent 4] ![5, 5, 6, 6] ⊢ Q r) :
    St m ρ K c Xt ![.agSent 0, .agSent 0, .rsSent 4, .rs 4] ![5, 5, 6, 6] ⊢ WP c (k0_part27 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v14 v16 v17 v61 v881 c1_i32_588) Q := by
  rw [k0_part27_eq_skeleton]; unfold k0_part27_skel
  simp only [Prog.lift, Prog.bind_op, Prog.bind_ret, Prog.pure_eq_ret]
  apply step_send_up m ρ K c 3 4 <;> try decide +kernel
  rw [upd3]
  apply step_recv_down m ρ K c 0 0 <;> try decide +kernel
  rw [upd0]
  apply step_send_down m ρ K c 0 1 <;> try decide +kernel
  rw [upd0]
  exact WP_ret c (H _)

theorem part28 {Xt : sProp 𝕄} {Q : _ → sProp 𝕄} {v2 v5 v8 v9 v16 v71 v902}
    (H : ∀ r, St m ρ K c Xt ![.agSent 1, .agSent 1, .rsSent 4, .rsSent 4] ![4, 5, 6, 6] ⊢ Q r) :
    St m ρ K c Xt ![.agSent 1, .agSent 0, .rsSent 4, .rsSent 4] ![5, 5, 6, 6] ⊢ WP c (k0_part28 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v16 v71 v902) Q := by
  rw [k0_part28_eq_skeleton]; unfold k0_part28_skel
  simp only [Prog.lift, Prog.bind_op, Prog.bind_ret, Prog.pure_eq_ret]
  apply step_read m ρ K c 0 4 <;> try decide +kernel
  refine step_peek m ρ K c fun _ => ?_
  apply step_write m ρ K c 0 4 <;> try decide +kernel
  · rfl
  rw [upd0]
  apply step_recv_down m ρ K c 1 0 <;> try decide +kernel
  rw [upd1]
  apply step_send_down m ρ K c 1 1 <;> try decide +kernel
  rw [upd1]
  exact WP_ret c (H _)

theorem part29 {Xt : sProp 𝕄} {Q : _ → sProp 𝕄} {v2 v5 v16 v83 v934 v947}
    (H : ∀ r, St m ρ K c Xt ![.agSent 1, .agSent 1, .ag 0, .rsSent 4] ![4, 4, 6, 6] ⊢ Q r) :
    St m ρ K c Xt ![.agSent 1, .agSent 1, .rsSent 4, .rsSent 4] ![4, 5, 6, 6] ⊢ WP c (k0_part29 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v16 v83 v934 v947) Q := by
  rw [k0_part29_eq_skeleton]; unfold k0_part29_skel
  simp only [Prog.lift, Prog.bind_op, Prog.bind_ret, Prog.pure_eq_ret]
  apply step_read m ρ K c 1 4 <;> try decide +kernel
  refine step_peek m ρ K c fun _ => ?_
  apply step_write m ρ K c 1 4 <;> try decide +kernel
  · rfl
  rw [upd1]
  apply step_recv_up m ρ K c 2 4 <;> try decide +kernel
  rw [upd2]
  apply step_accumulate m ρ K c 2 4 <;> try decide +kernel
  · exact fun _ _ => shapeCast_self _ _
  rw [upd2]
  apply step_turn m ρ K c 2 <;> try decide +kernel
  rw [upd2]
  exact WP_ret c (H _)

theorem part30 {Xt : sProp 𝕄} {Q : _ → sProp 𝕄} {v5 v8 v9 v83 v93}
    (H : ∀ r, St m ρ K c Xt ![.agSent 1, .agSent 1, .agSent 0, .ag 0] ![4, 4, 5, 6] ⊢ Q r) :
    St m ρ K c Xt ![.agSent 1, .agSent 1, .ag 0, .rsSent 4] ![4, 4, 6, 6] ⊢ WP c (k0_part30 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v5 v8 v9 v83 v93) Q := by
  rw [k0_part30_eq_skeleton]; unfold k0_part30_skel
  simp only [Prog.lift, Prog.bind_op, Prog.bind_ret, Prog.pure_eq_ret]
  apply step_send_down m ρ K c 2 0 <;> try decide +kernel
  rw [upd2]
  apply step_read m ρ K c 2 5 <;> try decide +kernel
  refine step_peek m ρ K c fun _ => ?_
  apply step_write m ρ K c 2 5 <;> try decide +kernel
  · rfl
  rw [upd2]
  apply step_recv_up m ρ K c 3 4 <;> try decide +kernel
  rw [upd3]
  apply step_accumulate m ρ K c 3 4 <;> try decide +kernel
  · exact fun _ _ => shapeCast_self _ _
  rw [upd3]
  apply step_turn m ρ K c 3 <;> try decide +kernel
  rw [upd3]
  exact WP_ret c (H _)

theorem part31 {Xt : sProp 𝕄} {Q : _ → sProp 𝕄} {v2 v5 v8 v9 v14 v15 v59 v93}
    (H : ∀ r, St m ρ K c Xt ![.ag 2, .agSent 1, .agSent 0, .agSent 0] ![4, 4, 5, 5] ⊢ Q r) :
    St m ρ K c Xt ![.agSent 1, .agSent 1, .agSent 0, .ag 0] ![4, 4, 5, 6] ⊢ WP c (k0_part31 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v14 v15 v59 v93) Q := by
  rw [k0_part31_eq_skeleton]; unfold k0_part31_skel
  simp only [Prog.lift, Prog.bind_op, Prog.bind_ret, Prog.pure_eq_ret]
  apply step_send_down m ρ K c 3 0 <;> try decide +kernel
  rw [upd3]
  apply step_read m ρ K c 3 5 <;> try decide +kernel
  refine step_peek m ρ K c fun _ => ?_
  apply step_write m ρ K c 3 5 <;> try decide +kernel
  · rfl
  rw [upd3]
  apply step_recv_down m ρ K c 0 1 <;> try decide +kernel
  rw [upd0]
  exact WP_ret c (H _)

theorem part32 {Xt : sProp 𝕄} {Q : _ → sProp 𝕄} {v2 v5 v12 v16 v17 v69 v1046 c16_i32_705}
    (H : ∀ r, St m ρ K c Xt ![.agSent 2, .ag 2, .agSent 0, .agSent 0] ![3, 4, 5, 5] ⊢ Q r) :
    St m ρ K c Xt ![.ag 2, .agSent 1, .agSent 0, .agSent 0] ![4, 4, 5, 5] ⊢ WP c (k0_part32 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v12 v16 v17 v69 v1046 c16_i32_705) Q := by
  rw [k0_part32_eq_skeleton]; unfold k0_part32_skel
  simp only [Prog.lift, Prog.bind_op, Prog.bind_ret, Prog.pure_eq_ret]
  apply step_send_down m ρ K c 0 2 <;> try decide +kernel
  rw [upd0]
  apply step_read m ρ K c 0 3 <;> try decide +kernel
  refine step_peek m ρ K c fun _ => ?_
  apply step_write m ρ K c 0 3 <;> try decide +kernel
  · rfl
  rw [upd0]
  apply step_recv_down m ρ K c 1 1 <;> try decide +kernel
  rw [upd1]
  exact WP_ret c (H _)

end Cert.KernelIdeal.Ring
-- ==== Proof.Parts3.lean ====
/- Parts 33 to 43 of the body: the way down. -/
module

public import proofs.«01_k».proof.Proof.Vector

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

theorem part33 {Xt : sProp 𝕄} {Q : _ → sProp 𝕄} {v2 v5 v8 v14 v16 v17 v81 v1078 v1079}
    (H : ∀ r, St m ρ K c Xt ![.agSent 2, .agSent 2, .ag 1, .agSent 0] ![3, 3, 5, 5] ⊢ Q r) :
    St m ρ K c Xt ![.agSent 2, .ag 2, .agSent 0, .agSent 0] ![3, 4, 5, 5] ⊢ WP c (k0_part33 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v14 v16 v17 v81 v1078 v1079) Q := by
  rw [k0_part33_eq_skeleton]; unfold k0_part33_skel
  simp only [Prog.lift, Prog.bind_op, Prog.bind_ret, Prog.pure_eq_ret]
  apply step_send_down m ρ K c 1 2 <;> try decide +kernel
  rw [upd1]
  apply step_read m ρ K c 1 3 <;> try decide +kernel
  refine step_peek m ρ K c fun _ => ?_
  apply step_write m ρ K c 1 3 <;> try decide +kernel
  · rfl
  rw [upd1]
  apply step_recv_down m ρ K c 2 0 <;> try decide +kernel
  rw [upd2]
  exact WP_ret c (H _)

theorem part34 {Xt : sProp 𝕄} {Q : _ → sProp 𝕄} {v2 v5 v8 v9 v14 v91 v1110 v1111 c0_i32_754}
    (H : ∀ r, St m ρ K c Xt ![.agSent 2, .agSent 2, .agSent 1, .ag 1] ![3, 3, 4, 5] ⊢ Q r) :
    St m ρ K c Xt ![.agSent 2, .agSent 2, .ag 1, .agSent 0] ![3, 3, 5, 5] ⊢ WP c (k0_part34 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v14 v91 v1110 v1111 c0_i32_754) Q := by
  rw [k0_part34_eq_skeleton]; unfold k0_part34_skel
  simp only [Prog.lift, Prog.bind_op, Prog.bind_ret, Prog.pure_eq_ret]
  apply step_send_down m ρ K c 2 1 <;> try decide +kernel
  rw [upd2]
  apply step_read m ρ K c 2 4 <;> try decide +kernel
  refine step_peek m ρ K c fun _ => ?_
  apply step_write m ρ K c 2 4 <;> try decide +kernel
  · rfl
  rw [upd2]
  apply step_recv_down m ρ K c 3 0 <;> try decide +kernel
  rw [upd3]
  exact WP_ret c (H _)

theorem part35 {Xt : sProp 𝕄} {Q : _ → sProp 𝕄} {v2 v5 v12 v13 v16 v57 v1142 v1144}
    (H : ∀ r, St m ρ K c Xt ![.ag 3, .agSent 2, .agSent 1, .agSent 1] ![3, 3, 4, 4] ⊢ Q r) :
    St m ρ K c Xt ![.agSent 2, .agSent 2, .agSent 1, .ag 1] ![3, 3, 4, 5] ⊢ WP c (k0_part35 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v12 v13 v16 v57 v1142 v1144) Q := by
  rw [k0_part35_eq_skeleton]; unfold k0_part35_skel
  simp only [Prog.lift, Prog.bind_op, Prog.bind_ret, Prog.pure_eq_ret]
  apply step_send_down m ρ K c 3 1 <;> try decide +kernel
  rw [upd3]
  apply step_read m ρ K c 3 4 <;> try decide +kernel
  refine step_peek m ρ K c fun _ => ?_
  apply step_write m ρ K c 3 4 <;> try decide +kernel
  · rfl
  rw [upd3]
  apply step_recv_down m ρ K c 0 2 <;> try decide +kernel
  rw [upd0]
  exact WP_ret c (H _)

theorem part36 {Xt : sProp 𝕄} {Q : _ → sProp 𝕄} {v2 v5 v8 v10 v14 v15 v67 v1174 v1176 c4_i32_802}
    (H : ∀ r, St m ρ K c Xt ![.agSent 3, .ag 3, .agSent 1, .agSent 1] ![2, 3, 4, 4] ⊢ Q r) :
    St m ρ K c Xt ![.ag 3, .agSent 2, .agSent 1, .agSent 1] ![3, 3, 4, 4] ⊢ WP c (k0_part36 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v14 v15 v67 v1174 v1176 c4_i32_802) Q := by
  rw [k0_part36_eq_skeleton]; unfold k0_part36_skel
  simp only [Prog.lift, Prog.bind_op, Prog.bind_ret, Prog.pure_eq_ret]
  apply step_send_down m ρ K c 0 3 <;> try decide +kernel
  rw [upd0]
  apply step_read m ρ K c 0 2 <;> try decide +kernel
  refine step_peek m ρ K c fun _ => ?_
  apply step_write m ρ K c 0 2 <;> try decide +kernel
  · rfl
  rw [upd0]
  apply step_recv_down m ρ K c 1 2 <;> try decide +kernel
  rw [upd1]
  exact WP_ret c (H _)

theorem part37 {Xt : sProp 𝕄} {Q : _ → sProp 𝕄} {v2 v5 v8 v12 v14 v15 v79 v1206 v1208 v1209}
    (H : ∀ r, St m ρ K c Xt ![.agSent 3, .agSent 3, .ag 2, .agSent 1] ![2, 2, 4, 4] ⊢ Q r) :
    St m ρ K c Xt ![.agSent 3, .ag 3, .agSent 1, .agSent 1] ![2, 3, 4, 4] ⊢ WP c (k0_part37 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v12 v14 v15 v79 v1206 v1208 v1209) Q := by
  rw [k0_part37_eq_skeleton]; unfold k0_part37_skel
  simp only [Prog.lift, Prog.bind_op, Prog.bind_ret, Prog.pure_eq_ret]
  apply step_send_down m ρ K c 1 3 <;> try decide +kernel
  rw [upd1]
  apply step_read m ρ K c 1 2 <;> try decide +kernel
  refine step_peek m ρ K c fun _ => ?_
  apply step_write m ρ K c 1 2 <;> try decide +kernel
  · rfl
  rw [upd1]
  apply step_recv_down m ρ K c 2 1 <;> try decide +kernel
  rw [upd2]
  exact WP_ret c (H _)

theorem part38 {Xt : sProp 𝕄} {Q : _ → sProp 𝕄} {v2 v5 v12 v14 v16 v17 v89 v1238 v1242}
    (H : ∀ r, St m ρ K c Xt ![.agSent 3, .agSent 3, .agSent 2, .ag 2] ![2, 2, 3, 4] ⊢ Q r) :
    St m ρ K c Xt ![.agSent 3, .agSent 3, .ag 2, .agSent 1] ![2, 2, 4, 4] ⊢ WP c (k0_part38 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v12 v14 v16 v17 v89 v1238 v1242) Q := by
  rw [k0_part38_eq_skeleton]; unfold k0_part38_skel
  simp only [Prog.lift, Prog.bind_op, Prog.bind_ret, Prog.pure_eq_ret]
  apply step_send_down m ρ K c 2 2 <;> try decide +kernel
  rw [upd2]
  apply step_read m ρ K c 2 3 <;> try decide +kernel
  refine step_peek m ρ K c fun _ => ?_
  apply step_write m ρ K c 2 3 <;> try decide +kernel
  · rfl
  rw [upd2]
  apply step_recv_down m ρ K c 3 1 <;> try decide +kernel
  rw [upd3]
  exact WP_ret c (H _)

theorem part39 {Xt : sProp 𝕄} {Q : _ → sProp 𝕄} {v2 v5 v8 v9 v10 v11 v55 v1270 v1274 c1_i32_875}
    (H : ∀ r, St m ρ K c Xt ![.ag 4, .agSent 3, .agSent 2, .agSent 2] ![2, 2, 3, 3] ⊢ Q r) :
    St m ρ K c Xt ![.agSent 3, .agSent 3, .agSent 2, .ag 2] ![2, 2, 3, 4] ⊢ WP c (k0_part39 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v10 v11 v55 v1270 v1274 c1_i32_875) Q := by
  rw [k0_part39_eq_skeleton]; unfold k0_part39_skel
  simp only [Prog.lift, Prog.bind_op, Prog.bind_ret, Prog.pure_eq_ret]
  apply step_send_down m ρ K c 3 2 <;> try decide +kernel
  rw [upd3]
  apply step_read m ρ K c 3 3 <;> try decide +kernel
  refine step_peek m ρ K c fun _ => ?_
  apply step_write m ρ K c 3 3 <;> try decide +kernel
  · rfl
  rw [upd3]
  apply step_recv_down m ρ K c 0 3 <;> try decide +kernel
  rw [upd0]
  exact WP_ret c (H _)

theorem part40 {Xt : sProp 𝕄} {Q : _ → sProp 𝕄} {v2 v5 v8 v10 v12 v13 v65 v1302 v1306 v1307}
    (H : ∀ r, St m ρ K c Xt ![.agSent 4, .ag 4, .agSent 2, .agSent 2] ![1, 2, 3, 3] ⊢ Q r) :
    St m ρ K c Xt ![.ag 4, .agSent 3, .agSent 2, .agSent 2] ![2, 2, 3, 3] ⊢ WP c (k0_part40 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v12 v13 v65 v1302 v1306 v1307) Q := by
  rw [k0_part40_eq_skeleton]; unfold k0_part40_skel
  simp only [Prog.lift, Prog.bind_op, Prog.bind_ret, Prog.pure_eq_ret]
  apply step_send_down m ρ K c 0 4 <;> try decide +kernel
  rw [upd0]
  apply step_read m ρ K c 0 1 <;> try decide +kernel
  refine step_peek m ρ K c fun _ => ?_
  apply step_write m ρ K c 0 1 <;> try decide +kernel
  · rfl
  rw [upd0]
  apply step_recv_down m ρ K c 1 3 <;> try decide +kernel
  rw [upd1]
  exact WP_ret c (H _)

theorem part41 {Xt : sProp 𝕄} {Q : _ → sProp 𝕄} {v2 v5 v8 v10 v12 v13 v77 v1334}
    (H : ∀ r, St m ρ K c Xt ![.agSent 4, .agSent 4, .ag 3, .agSent 2] ![1, 1, 3, 3] ⊢ Q r) :
    St m ρ K c Xt ![.agSent 4, .ag 4, .agSent 2, .agSent 2] ![1, 2, 3, 3] ⊢ WP c (k0_part41 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v10 v12 v13 v77 v1334) Q := by
  rw [k0_part41_eq_skeleton]; unfold k0_part41_skel
  simp only [Prog.lift, Prog.bind_op, Prog.bind_ret, Prog.pure_eq_ret]
  apply step_send_down m ρ K c 1 4 <;> try decide +kernel
  rw [upd1]
  apply step_read m ρ K c 1 1 <;> try decide +kernel
  refine step_peek m ρ K c fun _ => ?_
  apply step_write m ρ K c 1 1 <;> try decide +kernel
  · rfl
  rw [upd1]
  apply step_recv_down m ρ K c 2 2 <;> try decide +kernel
  rw [upd2]
  exact WP_ret c (H _)

theorem part42 {Xt : sProp 𝕄} {Q : _ → sProp 𝕄} {v2 v5 v8 v12 v14 v15 v87 v1366}
    (H : ∀ r, St m ρ K c Xt ![.agSent 4, .agSent 4, .agSent 3, .ag 3] ![1, 1, 2, 3] ⊢ Q r) :
    St m ρ K c Xt ![.agSent 4, .agSent 4, .ag 3, .agSent 2] ![1, 1, 3, 3] ⊢ WP c (k0_part42 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v12 v14 v15 v87 v1366) Q := by
  rw [k0_part42_eq_skeleton]; unfold k0_part42_skel
  simp only [Prog.lift, Prog.bind_op, Prog.bind_ret, Prog.pure_eq_ret]
  apply step_send_down m ρ K c 2 3 <;> try decide +kernel
  rw [upd2]
  apply step_read m ρ K c 2 2 <;> try decide +kernel
  refine step_peek m ρ K c fun _ => ?_
  apply step_write m ρ K c 2 2 <;> try decide +kernel
  · rfl
  rw [upd2]
  apply step_recv_down m ρ K c 3 2 <;> try decide +kernel
  rw [upd3]
  exact WP_ret c (H _)

theorem part43 {Xt : sProp 𝕄} {Q : _ → sProp 𝕄} {v2 v5 v8 v9 v1398}
    (H : ∀ r, St m ρ K c Xt ![.fin 0, .agSent 4, .agSent 3, .agSent 3] ![0, 1, 2, 2] ⊢ Q r) :
    St m ρ K c Xt ![.agSent 4, .agSent 4, .agSent 3, .ag 3] ![1, 1, 2, 3] ⊢ WP c (k0_part43 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v1398) Q := by
  rw [k0_part43_eq_skeleton]; unfold k0_part43_skel
  simp only [Prog.lift, Prog.bind_op, Prog.bind_ret, Prog.pure_eq_ret]
  apply step_send_down m ρ K c 3 3 <;> try decide +kernel
  rw [upd3]
  apply step_read m ρ K c 3 2 <;> try decide +kernel
  refine step_peek m ρ K c fun _ => ?_
  apply step_write m ρ K c 3 2 <;> try decide +kernel
  · rfl
  rw [upd3]
  apply step_recv_down m ρ K c 0 4 <;> try decide +kernel
  rw [upd0]
  apply step_last m ρ K c 0 <;> try decide +kernel
  rw [upd0]
  apply step_read m ρ K c 0 0 <;> try decide +kernel
  refine step_peek m ρ K c fun _ => ?_
  apply step_write m ρ K c 0 0 <;> try decide +kernel
  · rfl
  rw [upd0]
  exact WP_ret c (H _)

end Cert.KernelIdeal.Ring
-- ==== Proof.Parts4.lean ====
/- Parts 44 to 54 of the body: the last levels down, and the waits on the sends. -/
module

public import proofs.«01_k».proof.Proof.Vector

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

theorem part44 {Xt : sProp 𝕄} {Q : _ → sProp 𝕄} {v2 v8 v10 v11 v75 v1438}
    (H : ∀ r, St m ρ K c Xt ![.fin 0, .fin 0, .ag 4, .agSent 3] ![0, 0, 2, 2] ⊢ Q r) :
    St m ρ K c Xt ![.fin 0, .agSent 4, .agSent 3, .agSent 3] ![0, 1, 2, 2] ⊢ WP c (k0_part44 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v8 v10 v11 v75 v1438) Q := by
  rw [k0_part44_eq_skeleton]; unfold k0_part44_skel
  simp only [Prog.lift, Prog.bind_op, Prog.bind_ret, Prog.pure_eq_ret]
  apply step_recv_down m ρ K c 1 4 <;> try decide +kernel
  rw [upd1]
  apply step_last m ρ K c 1 <;> try decide +kernel
  rw [upd1]
  apply step_read m ρ K c 1 0 <;> try decide +kernel
  refine step_peek m ρ K c fun _ => ?_
  apply step_write m ρ K c 1 0 <;> try decide +kernel
  · rfl
  rw [upd1]
  apply step_recv_down m ρ K c 2 3 <;> try decide +kernel
  rw [upd2]
  exact WP_ret c (H _)

theorem part45 {Xt : sProp 𝕄} {Q : _ → sProp 𝕄} {v2 v5 v8 v9 v12 v13 v85 v1470}
    (H : ∀ r, St m ρ K c Xt ![.fin 0, .fin 0, .agSent 4, .ag 4] ![0, 0, 1, 2] ⊢ Q r) :
    St m ρ K c Xt ![.fin 0, .fin 0, .ag 4, .agSent 3] ![0, 0, 2, 2] ⊢ WP c (k0_part45 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v12 v13 v85 v1470) Q := by
  rw [k0_part45_eq_skeleton]; unfold k0_part45_skel
  simp only [Prog.lift, Prog.bind_op, Prog.bind_ret, Prog.pure_eq_ret]
  apply step_send_down m ρ K c 2 4 <;> try decide +kernel
  rw [upd2]
  apply step_read m ρ K c 2 1 <;> try decide +kernel
  refine step_peek m ρ K c fun _ => ?_
  apply step_write m ρ K c 2 1 <;> try decide +kernel
  · rfl
  rw [upd2]
  apply step_recv_down m ρ K c 3 3 <;> try decide +kernel
  rw [upd3]
  exact WP_ret c (H _)

theorem part46 {Xt : sProp 𝕄} {Q : _ → sProp 𝕄} {v2 v5 v8 v9 v10 v1502}
    (H : ∀ v, St m ρ K c Xt ![.fin 0, .fin 0, .fin 0, .agSent 4] ![0, 0, 1, 1] ⊢ Q ⟨v, at16 (k0_off79 c) 256 (k0_off79_inb c) (Gv m ρ)⟩) :
    St m ρ K c Xt ![.fin 0, .fin 0, .agSent 4, .ag 4] ![0, 0, 1, 2] ⊢ WP c (k0_part46 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v5 v8 v9 v10 v1502) Q := by
  rw [k0_part46_eq_skeleton]; unfold k0_part46_skel
  simp only [Prog.lift, Prog.bind_op, Prog.bind_ret, Prog.pure_eq_ret]
  apply step_send_down m ρ K c 3 4 <;> try decide +kernel
  rw [upd3]
  apply step_read m ρ K c 3 1 <;> try decide +kernel
  refine step_peek m ρ K c fun _ => ?_
  apply step_write m ρ K c 3 1 <;> try decide +kernel
  · rfl
  rw [upd3]
  apply step_recv_down m ρ K c 2 4 <;> try decide +kernel
  rw [upd2]
  apply step_last m ρ K c 2 <;> try decide +kernel
  rw [upd2]
  apply step_read m ρ K c 2 0 <;> try decide +kernel
  exact WP_ret c (H _)

theorem part47 {Xt : sProp 𝕄} {Q : _ → sProp 𝕄} {v2 v8 v10 v11 v1534}
    (H : ∀ r, St m ρ K c Xt ![.fin 1, .fin 0, .fin 0, .fin 0] ![0, 0, 0, 0] ⊢ Q r) :
    St m ρ K c Xt ![.fin 0, .fin 0, .fin 0, .agSent 4] ![0, 0, 1, 1] ⊢ WP c (k0_part47 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c v2 v8 v10 v11 v1534 ((at16 (k0_off79 c) 256 (k0_off79_inb c) (Gv m ρ)))) Q := by
  rw [k0_part47_eq_skeleton]; unfold k0_part47_skel
  simp only [Prog.lift, Prog.bind_op, Prog.bind_ret, Prog.pure_eq_ret]
  refine step_peek m ρ K c fun _ => ?_
  apply step_write m ρ K c 2 0 <;> try decide +kernel
  · rfl
  rw [upd2]
  apply step_recv_down m ρ K c 3 4 <;> try decide +kernel
  rw [upd3]
  apply step_last m ρ K c 3 <;> try decide +kernel
  rw [upd3]
  apply step_read m ρ K c 3 0 <;> try decide +kernel
  refine step_peek m ρ K c fun _ => ?_
  apply step_write m ρ K c 3 0 <;> try decide +kernel
  · rfl
  rw [upd3]
  apply step_wait_send m ρ K c 0 0 <;> try decide +kernel
  rw [upd0]
  exact WP_ret c (H _)

theorem part48 {Xt : sProp 𝕄} {Q : _ → sProp 𝕄}
    (H : ∀ r, St m ρ K c Xt ![.fin 6, .fin 0, .fin 0, .fin 0] ![0, 0, 0, 0] ⊢ Q r) :
    St m ρ K c Xt ![.fin 1, .fin 0, .fin 0, .fin 0] ![0, 0, 0, 0] ⊢ WP c (k0_part48 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c) Q := by
  rw [k0_part48_eq_skeleton]; unfold k0_part48_skel
  simp only [Prog.lift, Prog.bind_op, Prog.bind_ret, Prog.pure_eq_ret]
  apply step_wait_send m ρ K c 0 1 <;> try decide +kernel
  rw [upd0]
  apply step_wait_send m ρ K c 0 2 <;> try decide +kernel
  rw [upd0]
  apply step_wait_send m ρ K c 0 3 <;> try decide +kernel
  rw [upd0]
  apply step_wait_send m ρ K c 0 4 <;> try decide +kernel
  rw [upd0]
  apply step_wait_send m ρ K c 0 5 <;> try decide +kernel
  rw [upd0]
  exact WP_ret c (H _)

theorem part49 {Xt : sProp 𝕄} {Q : _ → sProp 𝕄}
    (H : ∀ r, St m ρ K c Xt ![.fin 10, .fin 1, .fin 0, .fin 0] ![0, 0, 0, 0] ⊢ Q r) :
    St m ρ K c Xt ![.fin 6, .fin 0, .fin 0, .fin 0] ![0, 0, 0, 0] ⊢ WP c (k0_part49 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c) Q := by
  rw [k0_part49_eq_skeleton]; unfold k0_part49_skel
  simp only [Prog.lift, Prog.bind_op, Prog.bind_ret, Prog.pure_eq_ret]
  apply step_wait_send m ρ K c 0 6 <;> try decide +kernel
  rw [upd0]
  apply step_wait_send m ρ K c 0 7 <;> try decide +kernel
  rw [upd0]
  apply step_wait_send m ρ K c 0 8 <;> try decide +kernel
  rw [upd0]
  apply step_wait_send m ρ K c 0 9 <;> try decide +kernel
  rw [upd0]
  apply step_wait_send m ρ K c 1 0 <;> try decide +kernel
  rw [upd1]
  exact WP_ret c (H _)

theorem part50 {Xt : sProp 𝕄} {Q : _ → sProp 𝕄}
    (H : ∀ r, St m ρ K c Xt ![.fin 10, .fin 6, .fin 0, .fin 0] ![0, 0, 0, 0] ⊢ Q r) :
    St m ρ K c Xt ![.fin 10, .fin 1, .fin 0, .fin 0] ![0, 0, 0, 0] ⊢ WP c (k0_part50 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c) Q := by
  rw [k0_part50_eq_skeleton]; unfold k0_part50_skel
  simp only [Prog.lift, Prog.bind_op, Prog.bind_ret, Prog.pure_eq_ret]
  apply step_wait_send m ρ K c 1 1 <;> try decide +kernel
  rw [upd1]
  apply step_wait_send m ρ K c 1 2 <;> try decide +kernel
  rw [upd1]
  apply step_wait_send m ρ K c 1 3 <;> try decide +kernel
  rw [upd1]
  apply step_wait_send m ρ K c 1 4 <;> try decide +kernel
  rw [upd1]
  apply step_wait_send m ρ K c 1 5 <;> try decide +kernel
  rw [upd1]
  exact WP_ret c (H _)

theorem part51 {Xt : sProp 𝕄} {Q : _ → sProp 𝕄}
    (H : ∀ r, St m ρ K c Xt ![.fin 10, .fin 10, .fin 1, .fin 0] ![0, 0, 0, 0] ⊢ Q r) :
    St m ρ K c Xt ![.fin 10, .fin 6, .fin 0, .fin 0] ![0, 0, 0, 0] ⊢ WP c (k0_part51 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c) Q := by
  rw [k0_part51_eq_skeleton]; unfold k0_part51_skel
  simp only [Prog.lift, Prog.bind_op, Prog.bind_ret, Prog.pure_eq_ret]
  apply step_wait_send m ρ K c 1 6 <;> try decide +kernel
  rw [upd1]
  apply step_wait_send m ρ K c 1 7 <;> try decide +kernel
  rw [upd1]
  apply step_wait_send m ρ K c 1 8 <;> try decide +kernel
  rw [upd1]
  apply step_wait_send m ρ K c 1 9 <;> try decide +kernel
  rw [upd1]
  apply step_wait_send m ρ K c 2 0 <;> try decide +kernel
  rw [upd2]
  exact WP_ret c (H _)

theorem part52 {Xt : sProp 𝕄} {Q : _ → sProp 𝕄}
    (H : ∀ r, St m ρ K c Xt ![.fin 10, .fin 10, .fin 6, .fin 0] ![0, 0, 0, 0] ⊢ Q r) :
    St m ρ K c Xt ![.fin 10, .fin 10, .fin 1, .fin 0] ![0, 0, 0, 0] ⊢ WP c (k0_part52 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c) Q := by
  rw [k0_part52_eq_skeleton]; unfold k0_part52_skel
  simp only [Prog.lift, Prog.bind_op, Prog.bind_ret, Prog.pure_eq_ret]
  apply step_wait_send m ρ K c 2 1 <;> try decide +kernel
  rw [upd2]
  apply step_wait_send m ρ K c 2 2 <;> try decide +kernel
  rw [upd2]
  apply step_wait_send m ρ K c 2 3 <;> try decide +kernel
  rw [upd2]
  apply step_wait_send m ρ K c 2 4 <;> try decide +kernel
  rw [upd2]
  apply step_wait_send m ρ K c 2 5 <;> try decide +kernel
  rw [upd2]
  exact WP_ret c (H _)

theorem part53 {Xt : sProp 𝕄} {Q : _ → sProp 𝕄}
    (H : ∀ r, St m ρ K c Xt ![.fin 10, .fin 10, .fin 10, .fin 1] ![0, 0, 0, 0] ⊢ Q r) :
    St m ρ K c Xt ![.fin 10, .fin 10, .fin 6, .fin 0] ![0, 0, 0, 0] ⊢ WP c (k0_part53 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c) Q := by
  rw [k0_part53_eq_skeleton]; unfold k0_part53_skel
  simp only [Prog.lift, Prog.bind_op, Prog.bind_ret, Prog.pure_eq_ret]
  apply step_wait_send m ρ K c 2 6 <;> try decide +kernel
  rw [upd2]
  apply step_wait_send m ρ K c 2 7 <;> try decide +kernel
  rw [upd2]
  apply step_wait_send m ρ K c 2 8 <;> try decide +kernel
  rw [upd2]
  apply step_wait_send m ρ K c 2 9 <;> try decide +kernel
  rw [upd2]
  apply step_wait_send m ρ K c 3 0 <;> try decide +kernel
  rw [upd3]
  exact WP_ret c (H _)

theorem part54 {Xt : sProp 𝕄} {Q : _ → sProp 𝕄}
    (H : ∀ r, St m ρ K c Xt ![.fin 10, .fin 10, .fin 10, .fin 6] ![0, 0, 0, 0] ⊢ Q r) :
    St m ρ K c Xt ![.fin 10, .fin 10, .fin 10, .fin 1] ![0, 0, 0, 0] ⊢ WP c (k0_part54 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      c) Q := by
  rw [k0_part54_eq_skeleton]; unfold k0_part54_skel
  simp only [Prog.lift, Prog.bind_op, Prog.bind_ret, Prog.pure_eq_ret]
  apply step_wait_send m ρ K c 3 1 <;> try decide +kernel
  rw [upd3]
  apply step_wait_send m ρ K c 3 2 <;> try decide +kernel
  rw [upd3]
  apply step_wait_send m ρ K c 3 3 <;> try decide +kernel
  rw [upd3]
  apply step_wait_send m ρ K c 3 4 <;> try decide +kernel
  rw [upd3]
  apply step_wait_send m ρ K c 3 5 <;> try decide +kernel
  rw [upd3]
  exact WP_ret c (H _)

end Cert.KernelIdeal.Ring
-- ==== Proof.Body.lean ====
/- The whole body, its parts one after another. -/
module

public import proofs.«01_k».proof.Proof.Ends
public import proofs.«01_k».proof.Proof.Parts1
public import proofs.«01_k».proof.Proof.Parts2
public import proofs.«01_k».proof.Proof.Parts3
public import proofs.«01_k».proof.Proof.Parts4

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

/-- One program after another. -/
theorem WP_seq {α β : Type} {X : sProp 𝕄} {Q : β → sProp 𝕄} {p : Prog (TpuEff nD τ sig (Elt F) Λ₀ .tc) α}
    {k : α → Prog (TpuEff nD τ sig (Elt F) Λ₀ .tc) β} (H : X ⊢ WP c p fun a => WP c (k a) Q) : X ⊢ WP c (p >>= k) Q := by
  unfold WP at H ⊢; rw [wp_bind]; exact H

theorem part3_pure {X : sProp 𝕄} {Q : _ → sProp 𝕄} {v2 v11 v13 v15 v17 v57 v58} (H : ∀ r, X ⊢ Q r) :
    X ⊢ WP c (k0_part3 (F := F) (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      v2 v11 v13 v15 v17 v57 v58) Q := by
  rw [k0_part3_eq_skeleton]; unfold k0_part3_skel
  exact WP_ret c (H _)

theorem part4_pure {X : sProp 𝕄} {Q : _ → sProp 𝕄} {v11 v13 v15 v17 v55 v57 v59 v61 v63 v65 v95 c0_i32_62} (H : ∀ r, X ⊢ Q r) :
    X ⊢ WP c (k0_part4 (F := F) (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      v11 v13 v15 v17 v55 v57 v59 v61 v63 v65 v95 c0_i32_62) Q := by
  rw [k0_part4_eq_skeleton]; unfold k0_part4_skel
  exact WP_ret c (H _)

theorem part5_pure {X : sProp 𝕄} {Q : _ → sProp 𝕄} {v2 v11 v13 v15 v17 v65 v67 v69 v71 v73 v75 v77 v136} (H : ∀ r, X ⊢ Q r) :
    X ⊢ WP c (k0_part5 (F := F) (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      v2 v11 v13 v15 v17 v65 v67 v69 v71 v73 v75 v77 v136) Q := by
  rw [k0_part5_eq_skeleton]; unfold k0_part5_skel
  exact WP_ret c (H _)

theorem part6_pure {X : sProp 𝕄} {Q : _ → sProp 𝕄} {v11 v13 v15 v17 v75 v77 v79 v81 v83 v85 v87 v89} (H : ∀ r, X ⊢ Q r) :
    X ⊢ WP c (k0_part6 (F := F) (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0
      v11 v13 v15 v17 v75 v77 v79 v81 v83 v85 v87 v89) Q := by
  rw [k0_part6_eq_skeleton]; unfold k0_part6_skel
  exact WP_ret c (H _)

/-- The body's parts, one after another. -/
theorem part56 {v : A16 F} {Q : _ → sProp 𝕄} (H : ∀ v2 v5 v8 v12 v14 v16 a b, Close m ρ K c 1 ⊢ Q ⟨c, v2, v5, v8, v12, v14, v16, a, b⟩) :
    Open m ρ K c 0 v ⊢ WP c (k0_part56 (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0) Q := by
  rw [k0_part56_eq_skeleton]; unfold k0_part56_skel
  refine WP_seq c (part1 m ρ K c fun _ _ _ _ _ _ _ _ _ _ _ _ => ?_)
  refine WP_seq c (part2 m ρ K c ?_); rintro ⟨_, _, _⟩
  refine WP_seq c (part3_pure c ?_); rintro ⟨_, _, _, _, _, _, _, _, _, _, _, _, _, _, _, _, _, _, _, _⟩
  refine WP_seq c (part4_pure c ?_); rintro _
  refine WP_seq c (part5_pure c ?_); rintro _
  refine WP_seq c (part6_pure c ?_); rintro _
  refine WP_seq c (part7 m ρ K c ?_); rintro _
  refine WP_seq c (part8 m ρ K c ?_); rintro _
  refine WP_seq c (part9 m ρ K c ?_); rintro _
  refine WP_seq c (part10 m ρ K c ?_); rintro ⟨_, _⟩
  refine WP_seq c (part11 m ρ K c ?_); rintro ⟨_, _⟩
  refine WP_seq c (part12 m ρ K c ?_); rintro ⟨_, _⟩
  refine WP_seq c (part13 m ρ K c ?_); rintro ⟨_, _⟩
  refine WP_seq c (part14 m ρ K c ?_); rintro ⟨_, _⟩
  refine WP_seq c (part15 m ρ K c ?_); rintro ⟨_, _⟩
  refine WP_seq c (part16 m ρ K c ?_); rintro ⟨_, _⟩
  refine WP_seq c (part17 m ρ K c ?_); rintro ⟨_, _⟩
  refine WP_seq c (part18 m ρ K c ?_); rintro ⟨_, _⟩
  refine WP_seq c (part19 m ρ K c ?_); rintro ⟨_, _⟩
  refine WP_seq c (part20 m ρ K c ?_); rintro ⟨_, _⟩
  refine WP_seq c (part21 m ρ K c ?_); rintro ⟨_, _⟩
  refine WP_seq c (part22 m ρ K c ?_); rintro ⟨_, _⟩
  refine WP_seq c (part23 m ρ K c ?_)
  refine WP_seq c (part24 m ρ K c ?_); rintro _
  refine WP_seq c (part25 m ρ K c ?_); rintro ⟨_, _⟩
  refine WP_seq c (part26 m ρ K c ?_); rintro ⟨_, _⟩
  refine WP_seq c (part27 m ρ K c ?_); rintro _
  refine WP_seq c (part28 m ρ K c ?_); rintro ⟨_, _⟩
  refine WP_seq c (part29 m ρ K c ?_); rintro _
  refine WP_seq c (part30 m ρ K c ?_); rintro _
  refine WP_seq c (part31 m ρ K c ?_); rintro ⟨_, _⟩
  refine WP_seq c (part32 m ρ K c ?_); rintro ⟨_, _⟩
  refine WP_seq c (part33 m ρ K c ?_); rintro ⟨_, _, _⟩
  refine WP_seq c (part34 m ρ K c ?_); rintro ⟨_, _⟩
  refine WP_seq c (part35 m ρ K c ?_); rintro ⟨_, _, _⟩
  refine WP_seq c (part36 m ρ K c ?_); rintro ⟨_, _, _⟩
  refine WP_seq c (part37 m ρ K c ?_); rintro ⟨_, _⟩
  refine WP_seq c (part38 m ρ K c ?_); rintro ⟨_, _, _⟩
  refine WP_seq c (part39 m ρ K c ?_); rintro ⟨_, _, _⟩
  refine WP_seq c (part40 m ρ K c ?_); rintro _
  refine WP_seq c (part41 m ρ K c ?_); rintro _
  refine WP_seq c (part42 m ρ K c ?_); rintro _
  refine WP_seq c (part43 m ρ K c ?_); rintro _
  refine WP_seq c (part44 m ρ K c ?_); rintro _
  refine WP_seq c (part45 m ρ K c ?_); rintro _
  refine WP_seq c (part46 m ρ K c fun _ => ?_)
  refine WP_seq c (part47 m ρ K c ?_); rintro _
  refine WP_seq c (part48 m ρ K c ?_); rintro _
  refine WP_seq c (part49 m ρ K c ?_); rintro _
  refine WP_seq c (part50 m ρ K c ?_); rintro _
  refine WP_seq c (part51 m ρ K c ?_); rintro _
  refine WP_seq c (part52 m ρ K c ?_); rintro _
  refine WP_seq c (part53 m ρ K c ?_); rintro _
  refine WP_seq c (part54 m ρ K c ?_); rintro _
  refine WP_seq c (part55 m ρ K c ?_); rintro _
  exact WP_ret c (H _ _ _ _ _ _ _ _)

/-- The body, from the opening handshake's start to the end. -/
theorem body {v : A16 F} {Q : PUnit → sProp 𝕄} (H : iprop(records m ρ K ∗ (∃ W, owes (c : Thread nD τ) 0 W) ∗ End m ρ c) ⊢ Q ⟨⟩) :
    Open m ρ K c 0 v ⊢ WP c (cc0_body (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0) Q := by
  rw [cc0_body_eq_skeleton]; unfold cc0_body_skel
  refine WP_seq c (part56 m ρ K c fun _ _ _ _ _ _ _ _ => ?_)
  simp only [semSignalWord, semWaitWord, Prog.bind_op, Prog.bind_ret, Prog.pure_eq_ret]
  apply step_signal m ρ K c true fin_cell 1 (p := fun c => ⟨k0_dev47 c, k0_dev47_lt c⟩) <;> try decide +kernel
  apply step_signal m ρ K c true fin_cell 2 (p := fun c => ⟨k0_dev48 c, k0_dev48_lt c⟩) <;> try decide +kernel
  apply step_signal m ρ K c true fin_cell 3 (p := fun c => ⟨k0_dev49 c, k0_dev49_lt c⟩) <;> try decide +kernel
  apply step_signal m ρ K c true fin_cell 4 (p := fun c => ⟨k0_dev50 c, k0_dev50_lt c⟩) <;> try decide +kernel
  refine step_wait_reg m ρ K c true fin_cell (mayWait_fin c) (by decide +kernel) (WP_ret c ?_)
  refine BI.Entails.trans (Q := iprop(records m ρ K ∗ (∃ W, owes (c : Thread nD τ) 0 W) ∗ End m ρ c)) ?_ H
  show iprop(records m ρ K ∗ levAts L lv ∗ (∃ W, owes (c : Thread nD τ) 0 W) ∗ semVal (regC c finS) 0
      ∗ bigSep ((Rd m ρ).duties (regC c finS) 0 \ ∅) (fun d => (Rd m ρ).payload (regC c finS) 0 d) ∗ Last m ρ c)
    ⊢ iprop(records m ρ K ∗ (∃ W, owes (c : Thread nD τ) 0 W) ∗ End m ρ c)
  iintro ⟨HR, -, HO, Hv, -, HL⟩
  isplitl [HR]; · iexact HR
  isplitl [HO]; · iexact HO
  iapply (ended m ρ c)
  isplitl [Hv]; · iexact Hv
  iexact HL

end Cert.KernelIdeal.Ring
-- ==== Proof.Deal.lean ====
/- The launch: every cell of every device set up, and the duties dealt to the devices that pay them. -/
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device -/

theorem two_bools (Φ : Bool → sProp 𝕄) : bigSep Finset.univ Φ = iprop(Φ false ∗ Φ true) :=
  bigSep_univ_eq_bigSepL [false, true] (by decide) (by decide) Φ

/-- A conjunction over a device's cells: the two handshakes', the sends', the landings'. -/
theorem over_cells (Φ : GSem nD τ sig → sProp 𝕄) (c : Dev nD) :
    (bigSep Finset.univ fun k : CIx => Φ (kcell c k))
      = iprop((Φ (barC c) ∗ Φ (finC c)) ∗ (bigSep Finset.univ fun f : Fin 4 => bigSep Finset.univ fun t : Fin 10 => Φ (sC c f t.val))
          ∗ bigSep Finset.univ fun f : Fin 4 => bigSep Finset.univ fun t : Fin 10 => Φ (rC c f t.val)) := by
  rw [bigSep_univ_sum, two_bools, bigSep_univ_prod, two_bools, bigSep_univ_prod, bigSep_univ_prod]
  rfl

/-- The semaphore of a device's cell. -/
def ksem : CIx → SemLoc sig
  | .inl false => .reg barS
  | .inl true => .reg finS
  | .inr (false, f, t) => .dma (sSem f t.val)
  | .inr (true, f, t) => .dma (rSem f t.val)

theorem kcell_eq (c : Dev nD) (k : CIx) : kcell c k = ((c : Thread nD τ), ksem k) := by
  rcases k with (_ | _) | ⟨_ | _, f, t⟩ <;> rfl

theorem dma_val {q q' : DmaSem sig} (h : (SemLoc.dma q : SemLoc sig) = .dma q') : q.val = q'.val := by cases h; rfl

theorem ksem_injective : Function.Injective ksem := by
  have key (f f' : Fin 4) (t t' : Fin 10) (h : 10 * f.val + t.val % 10 = 10 * f'.val + t'.val % 10) : (f, t) = (f', t') := by
    have := t.isLt; have := t'.isLt
    have h1 : f = f' := Fin.ext (by omega)
    have h2 : t = t' := Fin.ext (by omega)
    rw [h1, h2]
  rintro ((_ | _) | ⟨_ | _, f, t⟩) ((_ | _) | ⟨_ | _, f', t'⟩) h <;> first
    | rfl
    | exact absurd h (by decide)
    | exact absurd h (fun h => by cases h)
    | (have h := dma_val h
       simp only [sSem, rSem] at h
       have := f.isLt; have := f'.isLt; have := t.isLt; have := t'.isLt
       first
         | (have e := key f f' t t' (by omega); cases e; rfl)
         | omega)

theorem kcell_injective : Function.Injective fun p : Dev nD × CIx => kcell p.1 p.2 := by
  rintro ⟨c, k⟩ ⟨c', k'⟩ h
  simp only [kcell_eq] at h
  have h1 : c = c' := congrArg (fun g : GSem nD τ sig => g.1.1) h
  have h2 : k = k' := ksem_injective (congrArg Prod.snd h)
  rw [h1, h2]

def ringCells : Finset (GSem nD τ sig) := Finset.univ.map ⟨fun p : Dev nD × CIx => kcell p.1 p.2, kcell_injective⟩

/-! ## The kernel's own semaphores -/

/-- All the kernel's semaphores but the barrier's. -/
abbrev OIx : Type := Unit ⊕ (Bool × Fin 4 × Fin 10)
def oix : OIx → CIx
  | .inl _ => .inl true
  | .inr x => .inr x
def osem (k : OIx) : SemLoc sig := ksem (oix k)

theorem oix_injective : Function.Injective oix := by
  rintro (_ | x) (_ | y) h <;> first | rfl | (cases h; rfl) | cases h

theorem ownSemFacts : Pipeline.OwnSemFacts cfg0.spec osem where
  isScoped := by decide +kernel
  inj := ksem_injective.comp oix_injective
  disj := by decide +kernel

theorem sep_turn {A B C : sProp 𝕄} : iprop((A ∗ B) ∗ C) = iprop((C ∗ A) ∗ B) := by
  have h1 : iprop((A ∗ B) ∗ C) ⊢ iprop((C ∗ A) ∗ B) := by
    iintro ⟨⟨HA, HB⟩, HC⟩
    isplitr [HB]
    · isplitl [HC] <;> iassumption
    iexact HB
  have h2 : iprop((C ∗ A) ∗ B) ⊢ iprop((A ∗ B) ∗ C) := by
    iintro ⟨⟨HC, HA⟩, HB⟩
    isplitr [HC]
    · isplitl [HA] <;> iassumption
    iexact HC
  exact BI.equiv_iff.mp ⟨h1, h2⟩

/-- At launch, and at the end, every semaphore of a device is at zero. -/
theorem sems_eq (c : Dev nD) :
    iprop(Pipeline.ownSems0 (Ix := Unit) (Name := ℕ) (U := UU) (Lvl := ℕ) (Val := Elt F) (τ := τ) osem c ∗ unscopedSems0 c)
      = (bigSep Finset.univ fun k : CIx => semVal (kcell c k) 0 : sProp 𝕄) := by
  unfold unscopedSems0 Pipeline.ownSems0
  rw [bigSep_eq_bigSepL_of_eq [SemLoc.reg barS] (by decide) (by decide), bigSep_univ_sum, bigSep_univ_sum, two_bools,
    bigSep_univ_eq_bigSepL [()] (by decide) (by decide)]
  show iprop((semVal (finC c) 0 ∗ bigSep Finset.univ fun x : Bool × Fin 4 × Fin 10 => semVal ((c : Thread nD τ), osem (.inr x)) 0) ∗ semVal (barC c) 0)
    = iprop((semVal (barC c) 0 ∗ semVal (finC c) 0) ∗ bigSep Finset.univ fun x : Bool × Fin 4 × Fin 10 => semVal (kcell c (.inr x)) 0)
  rw [bigSep_congr fun x _ => show (semVal ((c : Thread nD τ), osem (.inr x)) 0 : sProp 𝕄) = semVal (kcell c (.inr x)) 0 by rw [kcell_eq]; rfl]
  exact sep_turn

/-! ## The duties, minted by the paid cell and dealt to the payer -/

abbrev TIx : Type := (Bool × Fin 5) ⊕ (Bool × Fin 4 × Fin 10)

/-- A handshake cell has a duty for each neighbour, a transfer's cell one. -/
def tokOf (p : Dev nD × TIx) : GSem nD τ sig × ℕ × Fin 5 := match p.2 with
  | .inl (b, j) => (kcell p.1 (.inl b), 0, j)
  | .inr x => (kcell p.1 (.inr x), 0, 0)

theorem tokOf_injective : Function.Injective tokOf := by
  rintro ⟨c, ⟨b, j⟩ | x⟩ ⟨c', ⟨b', j'⟩ | x'⟩ h
  all_goals
    have h1 := kcell_injective (a₁ := (c, _)) (a₂ := (c', _)) (congrArg Prod.fst h)
    have h2 := congrArg (fun y : GSem nD τ sig × ℕ × Fin 5 => y.2.2) h
    first
      | (cases h1; cases h2; rfl)
      | (cases h1; rfl)
      | cases h1

def ringToks : Finset (GSem nD τ sig × ℕ × Fin 5) := Finset.univ.map ⟨tokOf, tokOf_injective⟩

/-- The ghost state at launch. -/
def u₀ : UU :=
  (initOf (Pipeline.cells cfgs cellOf_inj) (Pipeline.launchToks cfgs cellOf_inj), initOf ringCells ringToks)

/-- The duties of a device's own cells. -/
def toks (c : Dev nD) : sProp 𝕄 :=
  bigSep Finset.univ fun x : TIx => dutyTok ER (tokOf (c, x)).1 (tokOf (c, x)).2.1 (tokOf (c, x)).2.2

/-- The duties a device pays: its neighbours' handshakes, its sends, its neighbours' landings. -/
def payToks (c : Dev nD) : sProp 𝕄 :=
  iprop((Duties c barS ∗ Duties c finS)
    ∗ (bigSep Finset.univ fun f : Fin 4 => bigSep Finset.univ fun t : Fin 10 => dutyTok ER (sC c f t.val) 0 0)
    ∗ bigSep Finset.univ fun f : Fin 4 => bigSep Finset.univ fun t : Fin 10 => dutyTok ER (rC (pr f t.val c) f t.val) 0 0)

theorem toks_eq (c : Dev nD) : toks (F := F) c
    = iprop(((bigSep Finset.univ fun j => dutyTok ER (regC c barS) 0 j) ∗ bigSep Finset.univ fun j => dutyTok ER (regC c finS) 0 j)
      ∗ (bigSep Finset.univ fun f : Fin 4 => bigSep Finset.univ fun t : Fin 10 => dutyTok ER (sC c f t.val) 0 0)
      ∗ bigSep Finset.univ fun f : Fin 4 => bigSep Finset.univ fun t : Fin 10 => dutyTok ER (rC c f t.val) 0 0) := by
  unfold toks
  rw [bigSep_univ_sum, bigSep_univ_prod, two_bools, bigSep_univ_prod, two_bools, bigSep_univ_prod, bigSep_univ_prod]
  rfl

/-- Each exchange is its own inverse. -/
def across (j : Fin 5) : Dev nD ≃ Dev nD := ⟨peer j, peer j, peer_peer j, peer_peer j⟩

/-- What each device has for each of its neighbours is what each has from each. -/
theorem deal {I : Type} [Fintype I] [DecidableEq I] (e : I → Fin 5) (Φ : Dev nD → I → sProp 𝕄) :
    (bigSep Finset.univ fun c => bigSep Finset.univ fun i => Φ c i)
      = bigSep Finset.univ fun c => bigSep Finset.univ fun i => Φ (peer (e i) c) i := by
  rw [bigSep_univ_comm, bigSep_univ_comm fun c i => Φ (peer (e i) c) i]
  exact bigSep_congr fun i _ => bigSep_univ_equiv (across (e i)) fun c => Φ c i

theorem toks_around : (bigSep Finset.univ fun c : Dev nD => toks (F := F) c) = bigSep Finset.univ fun c : Dev nD => payToks (F := F) c := by
  have hr : (bigSep Finset.univ fun c : Dev nD => bigSep Finset.univ fun f : Fin 4 => bigSep Finset.univ fun t : Fin 10 => (dutyTok ER (rC c f t.val) 0 0 : sProp 𝕄))
      = bigSep Finset.univ fun c : Dev nD => bigSep Finset.univ fun f : Fin 4 => bigSep Finset.univ fun t : Fin 10 => (dutyTok ER (rC (pr f t.val c) f t.val) 0 0 : sProp 𝕄) := by
    have h := deal (F := F) (fun p : Fin 4 × Fin 10 => ord p.1 (lvl p.2.val)) fun c p => dutyTok ER (rC c p.1 p.2.val) 0 0
    simp only [bigSep_univ_prod] at h
    exact h
  rw [bigSep_congr fun c _ => toks_eq c]
  unfold payToks Duties
  simp only [bigSep_sep']
  rw [hr, deal (F := F) (fun j => j) fun c j => dutyTok ER (regC c barS) 0 j, deal (F := F) (fun j => j) fun c j => dutyTok ER (regC c finS) 0 j]

/-! ## The launch's ghost state dealt to the devices -/

/-- What the launch deals a device: its cells' counters and positions, the duties of its cells. -/
def G (c : Dev nD) : sProp 𝕄 :=
  iprop((bigSep Finset.univ fun k : CIx => roundState ER (Rd m ρ) (kcell c k) 0)
    ∗ ((bigSep Finset.univ fun k : CIx => atPos ER (kcell c k) 0 ∅ 0) ∗ bigSep Finset.univ fun k : CIx => reached ER (kcell c k) 0) ∗ toks (F := F) c)

/-- What a device starts from: the cells' records, its positions, the duties it pays. -/
def ghost (K : Dev nD × CIx → ℕ) (c : Dev nD) : sProp 𝕄 :=
  iprop(records m ρ K ∗ (bigSep Finset.univ fun k : CIx => atPos ER (kcell c k) 0 ∅ 0) ∗ payToks (F := F) c)
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CIx => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell c k)))
          ∗ ((bigSep Finset.univ fun k : CIx => atPos ER (kcell c k) 0 ∅ 0) ∗ bigSep Finset.univ fun k : CIx => reached ER (kcell c k) 0) ∗ toks (F := F) c) := by
  unfold G
  iintro ⟨Hos, Hus, Hst, Hat, Htok⟩
  ihave Hv := (Entails.of_eq (sems_eq (F := F) c)) $$ [Hos Hus]
  · isplitl [Hos] <;> iassumption
  imod (show iprop((bigSep Finset.univ fun k : CIx => semVal (kcell c k) 0) ∗ bigSep Finset.univ fun k : CIx => roundState ER (Rd m ρ) (kcell c k) 0)
      ⊢ (|={Set.univ}=> bigSep Finset.univ fun k => iprop(∃ κ : ℕ, cellInv ER (Rd m ρ) κ (kcell c k)) : sProp 𝕄) from by
        rw [← bigSep_sep']
        exact (bigSep_mono fun k _ => (Rounds.body_intro ER (Rd m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {X : sProp 𝕄} [BI.Persistent X] {Φ Ψ : I → sProp 𝕄}
    (h : ∀ i ∈ S, iprop(X ∗ Φ i) ⊢ Ψ i) : iprop(X ∗ bigSep S Φ) ⊢ bigSep S Ψ :=
  (sep_mono_left (BI.bigSep_of_persistent S X)).trans (by rw [← bigSep_sep']; exact bigSep_mono h)

/-- The records shared by all, the positions kept, the duties dealt around. -/
theorem regroup :
    (bigSep Finset.univ fun c : Dev nD => iprop((bigSep Finset.univ fun k => iprop(∃ κ : ℕ, cellInv ER (Rd m ρ) κ (kcell c k)))
          ∗ ((bigSep Finset.univ fun k : CIx => atPos ER (kcell c k) 0 ∅ 0) ∗ bigSep Finset.univ fun k : CIx => reached ER (kcell c k) 0) ∗ toks (F := F) c) : sProp 𝕄)
      ⊢ bigSep Finset.univ (G' m ρ) := by
  rw [bigSep_sep', bigSep_sep', bigSep_sep', toks_around, ← bigSep_univ_prod (fun p : Dev nD × CIx => iprop(∃ κ : ℕ, cellInv ER (Rd m ρ) κ (kcell p.1 p.2))),
    ← bigSep_univ_prod (fun p : Dev nD × CIx => (reached ER (kcell p.1 p.2) 0 : sProp 𝕄))]
  iintro ⟨HI, ⟨Hat, #HR⟩, Htok⟩
  ihave HK := (BI.bigSep_exists_pi Finset.univ (fun (p : Dev nD × CIx) (κ : ℕ) => (cellInv ER (Rd m ρ) κ (kcell p.1 p.2) : sProp 𝕄))) $$ HI
  icases HK with ⟨%K, #HI⟩
  iapply (with_persistent (X := records m ρ K)
    (Φ := fun c => iprop((bigSep Finset.univ fun k : CIx => atPos ER (kcell c k) 0 ∅ 0) ∗ payToks (F := F) c))
    fun c _ => show iprop(records m ρ K ∗ (bigSep Finset.univ fun k : CIx => atPos ER (kcell c k) 0 ∅ 0) ∗ payToks (F := F) c) ⊢ G' m ρ c from
      exists_intro (Φ := fun K => ghost m ρ K c) K)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Ring
-- ==== Proof.Launch.lean ====
/- The run: the proof data of the one region, what the launch gives each device, and the execution of the whole mesh. -/
module

public import proofs.«01_k».proof.Proof.Deal
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The credit a device's waits use: its handshakes' five signals each, its landings. -/
def Creds (c : Dev nD) : sProp 𝕄 :=
  iprop(cred (tallyAt (barC c) () 5) ∗ cred (tallyAt (finC c) () 5)
    ∗ bigSep Finset.univ fun f : Fin 4 => bigSep Finset.univ fun t : Fin 10 => cred (tallyAt (rC c f t.val) () (amt t.val)))

/-- What a device's body starts from, but its buffers. -/
def start (c : Dev nD) : sProp 𝕄 := iprop((∃ K, ghost m ρ K c) ∗ Creds (F := F) c ∗ levAts L lv)

abbrev scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scr (F := F) c)
/-- After the body: its scratch buffers, every counter at zero. -/
def Φ₁ (c : Dev nD) : sProp 𝕄 := iprop(scr (F := F) c ∗ bigSep Finset.univ fun k : CIx => semVal (kcell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outV m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 4000 in
def bodyPost (c : Dev nD) : sProp 𝕄 :=
  iprop(Φ₁ (F := F) c ∗ (dats m ρ 0 c).owesAt () t0_0.succ ∗ stg c cc0_stg0_0 (xstg m ρ c) ∗ stg c cc0_stg1_0 (outV m ρ))

/-- A device's channels: for each transfer the duties it pays, its two positions, the landing's credit. -/
theorem chans_eq (c : Dev nD) : Chans (F := F) c
    = iprop((bigSep Finset.univ fun f : Fin 4 => bigSep Finset.univ fun t : Fin 10 => dutyTok ER (sC c f t.val) 0 0)
      ∗ (bigSep Finset.univ fun f : Fin 4 => bigSep Finset.univ fun t : Fin 10 => dutyTok ER (rC (pr f t.val c) f t.val) 0 0)
      ∗ (bigSep Finset.univ fun f : Fin 4 => bigSep Finset.univ fun t : Fin 10 => atPos ER (sC c f t.val) 0 ∅ 0)
      ∗ (bigSep Finset.univ fun f : Fin 4 => bigSep Finset.univ fun t : Fin 10 => atPos ER (rC c f t.val) 0 ∅ 0)
      ∗ bigSep Finset.univ fun f : Fin 4 => bigSep Finset.univ fun t : Fin 10 => cred (tallyAt (rC c f t.val) () (amt t.val))) := by
  unfold Chans X00
  simp only [bigSep_sep']

/-- What the launch deals a device, its buffers and what it owes open the first handshake. -/
theorem opens (K : Dev nD × CIx → ℕ) (c : Dev nD) (W : Waits sig Unit) (v0 v1 : A16 F) (vo : A32 F) :
    iprop(ghost m ρ K c ∗ Creds (F := F) c ∗ levAts L lv ∗ aP c Finset.univ fullShare v0 ∗ rP c Finset.univ v1
      ∗ owes (c : Thread nD τ) (O₀ c) W ∗ (((c : Thread nD τ).loc cc0_stg0_0) ↦{fullShare} xstg m ρ c) ∗ oP c vo) ⊢ Open m ρ K c 0 v0 := by
  unfold Open Sg Keep Out ghost Creds payToks
  rw [over_cells (fun g => atPos ER g 0 ∅ 0), chans_eq, ← duties_pay m ρ c barS (fun j => barPay (peer j c) j) fun j => payload_bar m ρ (peer j c) j, ← slots_pay c]
  iintro ⟨⟨HR, ⟨⟨HaB, HaF⟩, HaS, HaV⟩, ⟨HdB, HdF⟩, HdS, HdV⟩, ⟨HcB, HcF, HcV⟩, HL, HA, HV, HO, Hx, Ho⟩
  ihave HV := (slots_open c v1) $$ HV
  icases HV with ⟨HV, HVr⟩
  isplitl [HR]; · iexact HR
  isplitl [HL]; · iexact HL
  isplitl [HO]; · iexists W; iexact HO
  isplitl [HdB HV]
  · isplitl [HdB]; · iexact HdB
    iexact HV
  isplitl [HcB]; · iexact HcB
  isplitl [HaB]; · iexact HaB
  isplitl [Hx]; · iexact Hx
  isplitl [HA]; · iexact HA
  isplitl [Ho]
  · iexists vo
    isplitr; · ipureintro; exact fun f hf => absurd hf (by fin_cases f <;> decide)
    iexact Ho
  isplitl [HdS HdV HaS HaV HcV]
  · isplitl [HdS]; · iexact HdS
    isplitl [HdV]; · iexact HdV
    isplitl [HaS]; · iexact HaS
    isplitl [HaV]; · iexact HaV
    iexact HcV
  isplitl [HVr]; · iexact HVr
  isplitl [HdF]; · iexact HdF
  isplitl [HcF]; · iexact HcF
  iexact HaF

/-- What the body ends with is what the pipeline asks back. -/
theorem closes (K : Dev nD × CIx → ℕ) (c : Dev nD) :
    iprop(records m ρ K ∗ (∃ W, owes (c : Thread nD τ) 0 W) ∗ End m ρ c) ⊢ bodyPost m ρ c := by
  unfold bodyPost End Φ₁
  rw [over_cells (fun g => semVal g 0)]
  simp only [bigSep_sep']
  iintro ⟨-, ⟨%W, HO⟩, Hx, Ho, HA, ⟨%v, HV⟩, HB, HF, HS, HR⟩
  isplitl [HA HV HB HF HS HR]
  · isplitl [HA HV]
    · isplitl [HA]
      · iexists _; iexact HA
      · iexists v; iexact HV
    isplitl [HB HF]
    · isplitl [HB]; · iexact HB
      iexact HF
    isplitl [HS]; · iexact HS
    iexact HR
  isplitl [HO]
  · unfold Dat.owesAt Pipeline.owesWithin
    rw [show (dats m ρ 0 c).owed t0_0.succ = 0 from rfl]
    iexists W; isplitr; · ipureintro; exact fun _ _ => Or.inl trivial
    iexact HO
  isplitl [Hx]
  · iexists _; isplitr; · ipureintro; rfl
    iexact Hx
  · iexists _; isplitr; · ipureintro; rfl
    iexact Ho

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (.whole cc0_stg0_0) (Memref.isWhole_whole _) (.whole cc0_stg1_0) (Memref.isWhole_whole _) (.whole cc0_scratch0) (Memref.isWhole_whole _) (.whole cc0_scratch1) (Memref.isWhole_whole _) cc0_scratch2 cc0_scratch3 cc0_scoped0)
    (fun _ => bodyPost m ρ c)
  unfold bodyPre Φ₀ start Dat.owesAt Pipeline.owesWithin
  rw [show (dats m ρ 0 c).owed t0_0.castSucc = O₀ c from rfl]
  iintro ⟨⟨⟨⟨%K, Hg⟩, Hcr, Hlev⟩, ⟨%v0, HA⟩, ⟨%v1, HV⟩⟩, ⟨%W, %hW, HO⟩, ⟨%d0, %g0, %hg0, Hx⟩, ⟨%d1, %g1, %hg1, Hout⟩⟩
  have hx : g0 = xstg m ρ c := by
    rw [hg0]; unfold Dat.before; rw [if_pos (fetch_0 t0_0)]; rfl
  subst hx
  iapply (body m ρ K c (v := v0) (closes m ρ K c))
  iapply (opens m ρ K c W v0 v1 g1)
  isplitl [Hg]; · iexact Hg
  isplitl [Hcr]; · iexact Hcr
  isplitl [Hlev]; · iexact Hlev
  isplitl [HA]; · iexact HA
  isplitl [HV]; · iexact HV
  isplitl [HO]; · iexact HO
  isplitl [Hx]; · iexact Hx
  iexact Hout

/-! ## The launch credit -/

theorem share_eq (c : Dev nD) (w : Fin cfg0.W) : (dats m ρ 0 c).share w = fullShare := by unfold Dat.share; split <;> rfl

/-- All that all devices owe, across an exchange, to one semaphore of a device. -/
theorem owed_across (j : Fin 5) (sm sm' : SemLoc sig) (n : ℕ) (c : Dev nD) :
    (∑ d : Dev nD, tallyAt (Ix := Unit) (((peer j d : Dev nD) : Thread nD τ), sm) () n ((c : Thread nD τ), sm') ()) = if sm' = sm then n else 0 := by
  rw [Finset.sum_eq_single (peer j c) (fun d _ hd => ?_) (fun h => absurd (Finset.mem_univ _) h), peer_peer, tallyAt_apply]
  · by_cases h : sm' = sm
    · rw [h, if_pos ⟨rfl, rfl⟩, if_pos rfl]
    · rw [if_neg fun h' => h (congrArg Prod.snd h'.1), if_neg h]
  · rw [tallyAt_apply, if_neg fun h => hd ?_]
    have h1 : c = peer j d := congrArg (fun g : GSem nD τ sig => g.1.1) h.1
    rw [h1, peer_peer]

theorem sum_at {ι : Type} (s : Finset ι) (T : ι → CellTallies nD τ sig Unit) (g : GSem nD τ sig) (u : Unit) :
    (∑ i ∈ s, T i) g u = ∑ i ∈ s, T i g u := by rw [Finset.sum_apply, Finsupp.finset_sum_apply]

/-- All that all devices owe to one semaphore of a device. -/
theorem owed_all (c : Dev nD) (sm : SemLoc sig) :
    (∑ d : Dev nD, O₀ d ((c : Thread nD τ), sm) ())
      = ((∑ _j ∈ Finset.Ico 0 5, if sm = .reg finS then 1 else 0)
          + ∑ f : Fin 4, ∑ t ∈ Finset.Ico 0 10, if sm = .dma (rSem f t) then amt t else 0)
        + ∑ _j ∈ Finset.Ico 0 5, if sm = .reg barS then 1 else 0 := by
  unfold O₀ Ow obFin obBar ob pr
  simp only [Pi.add_apply, Finsupp.add_apply, sum_at, Finset.sum_add_distrib]
  refine congrArg₂ (· + ·) (congrArg₂ (· + ·) ?_ ?_) ?_
  · exact Finset.sum_comm.trans (Finset.sum_congr rfl fun j _ => owed_across (nb j) _ sm 1 c)
  · refine Finset.sum_comm.trans (Finset.sum_congr rfl fun f _ => ?_)
    exact Finset.sum_comm.trans (Finset.sum_congr rfl fun t _ => owed_across (ord f (lvl t)) _ sm (amt t) c)
  · exact Finset.sum_comm.trans (Finset.sum_congr rfl fun j _ => owed_across (nb j) _ sm 1 c)

theorem launch_at (c : Dev nD) (sm : SemLoc sig) {n : ℕ} (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem none_reg (s s' : Sem sig) (h : s ≠ s') : (∑ _j ∈ Finset.Ico 0 5, if (SemLoc.reg s : SemLoc sig) = .reg s' then 1 else 0) = 0 :=
  Finset.sum_eq_zero fun _ _ => if_neg fun e => h (by cases e; rfl)
theorem five_reg (s : Sem sig) : (∑ _j ∈ Finset.Ico 0 5, if (SemLoc.reg s : SemLoc sig) = .reg s then 1 else 0) = 5 := by
  rw [Finset.sum_congr rfl (g := fun _ => 1) fun _ _ => if_pos rfl]; rfl
theorem none_dma (q : DmaSem sig) (s : Sem sig) : (∑ _j ∈ Finset.Ico 0 5, if (SemLoc.dma q : SemLoc sig) = .reg s then 1 else 0) = 0 :=
  Finset.sum_eq_zero fun _ _ => if_neg fun e => by cases e
theorem none_recv (s : Sem sig) : (∑ f : Fin 4, ∑ t ∈ Finset.Ico 0 10, if (SemLoc.reg s : SemLoc sig) = .dma (rSem f t) then amt t else 0) = 0 :=
  Finset.sum_eq_zero fun _ _ => Finset.sum_eq_zero fun _ _ => if_neg fun e => by cases e
theorem one_recv (f : Fin 4) (t : Fin 10) :
    (∑ f' : Fin 4, ∑ t' ∈ Finset.Ico 0 10, if (SemLoc.dma (rSem f t.val) : SemLoc sig) = .dma (rSem f' t') then amt t' else 0) = amt t.val := by
  have key (f' : Fin 4) {t' : ℕ} (ht' : t' < 10) (h : (SemLoc.dma (rSem f t.val) : SemLoc sig) = .dma (rSem f' t')) : f' = f ∧ t' = t.val := by
    have h := dma_val h
    simp only [rSem] at h
    have := f.isLt; have := f'.isLt; have := t.isLt
    exact ⟨Fin.ext (by omega), by omega⟩
  rw [Finset.sum_eq_single f (fun f' _ hf => Finset.sum_eq_zero fun t' ht => if_neg fun h => hf (key f' (Finset.mem_Ico.mp ht).2 h).1) (fun h => absurd (Finset.mem_univ _) h),
    Finset.sum_eq_single t.val (fun t' ht' hn => if_neg fun h => hn (key f (Finset.mem_Ico.mp ht').2 h).2)
      (fun h => absurd (Finset.mem_Ico.mpr ⟨Nat.zero_le _, t.isLt⟩) h), if_pos rfl]

theorem owed_bar (c : Dev nD) : (∑ d : Dev nD, O₀ d (barC c) ()) = 5 := by
  rw [owed_all, none_reg _ _ bar_ne_fin, none_recv, five_reg]
theorem owed_fin (c : Dev nD) : (∑ d : Dev nD, O₀ d (finC c) ()) = 5 := by
  rw [owed_all, none_reg _ _ bar_ne_fin.symm, none_recv, five_reg]
theorem owed_recv (c : Dev nD) (f : Fin 4) (t : Fin 10) : (∑ d : Dev nD, O₀ d (rC c f t.val) ()) = amt t.val := by
  rw [owed_all, none_dma, one_recv, none_dma, Nat.zero_add, Nat.add_zero]

/-- The cells whose credit the launch gives out. -/
abbrev WIx : Type := Bool ⊕ (Fin 4 × Fin 10)
def wix : WIx → CIx
  | .inl b => .inl b
  | .inr x => .inr (true, x)
theorem wix_injective : Function.Injective wix := by
  rintro (b | x) (b' | x') h <;> (cases h; try rfl)

theorem creds (c : Dev nD) : (Pipeline.launchCred O₀ c : sProp 𝕄) ⊢ Creds (F := F) c := by
  unfold Pipeline.launchCred Creds
  refine (bigSep_subset (Finset.subset_univ (Finset.univ.map ⟨fun x => ksem (wix x), ksem_injective.comp wix_injective⟩))).trans ?_
  rw [bigSep_map, bigSep_univ_sum, two_bools, bigSep_univ_prod]
  have e1 := launch_at c (.reg barS) (owed_bar c)
  have e2 := launch_at c (.reg finS) (owed_fin c)
  have e3 (f : Fin 4) (t : Fin 10) := launch_at c (.dma (rSem f t.val)) (owed_recv c f t)
  show iprop((cred (tallyOn (barC c) (launchCredit (Pipeline.owing O₀) 0 (barC c))) ∗ cred (tallyOn (finC c) (launchCredit (Pipeline.owing O₀) 0 (finC c))))
    ∗ bigSep Finset.univ fun f : Fin 4 => bigSep Finset.univ fun t : Fin 10 => cred (tallyOn (rC c f t.val) (launchCredit (Pipeline.owing O₀) 0 (rC c f t.val)))) ⊢ _
  simp only [e1, e2, e3]
  iintro ⟨⟨H1, H2⟩, H3⟩
  isplitl [H1]; · iexact H1
  isplitl [H2]; · iexact H2
  iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [← sems_eq]
  iintro ⟨Hr, HS, HU⟩
  isplitl [HU]; · iexact HU
  isplitl [HS]; · iexact HS
  iexact Hr

/-- The staging semaphores come before everything a device owes. -/
theorem mayWait_stage (c : Dev nD) (q : DmaSem sig) (hq : q.val < 42) (O : CellTallies nD τ sig Unit) (hO : O = O₀ c ∨ O = 0) :
    (levAts L lv : sProp 𝕄) ⊢ MayWait (c : Thread nD τ) (.dma q) () O := by
  rcases hO with rfl | rfl
  · refine mayWait_of c _ _ fun g u hg => ?_
    have e : lv ((c : Thread nD τ), .dma q) () = 0 := by dsimp only [lv]; exact if_pos hq
    rw [e]
    unfold O₀ at hg
    rw [Pi.add_apply, Finsupp.add_apply] at hg
    rcases Nat.eq_zero_or_pos (Ow c (fun _ => 0) g u) with h0 | h0
    · rw [h0, zero_add] at hg
      obtain ⟨j, -, h⟩ := sum_pos hg
      rw [tally_pos h]
      exact ⟨rfl, by rw [lv_bar]; decide⟩
    · rcases Ow_pos h0 with ⟨c', rfl⟩ | ⟨c', f', t', -, h2, rfl⟩
      · exact ⟨rfl, by rw [lv_fin]; decide⟩
      · exact ⟨rfl, by rw [lv_r c' f' h2]; unfold pos; omega⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with its counters at zero, on the mesh of thirty-two devices and for any float values, every weakly
    fair execution terminates, and ends with each device's arrays at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand after the run is what it was. -/
theorem finalA_x (c : Dev nD) : finalA m ρ c (0 : Fin 2) = m ((c : Thread nD τ).loc main_arg0) :=
  (dats (F := F) m ρ 0 c).arrAt_in (0 : Fin 2) rfl _

end Cert.KernelIdeal.Ring
-- ==== Proof.Value.lean ====
/- The result over the reals: what the arrays hold at the end, and that it is the sum the reference computes. -/
module

public import proofs.«01_k».proof.Proof.Launch
public import proofs.«01_k».proof.Proof.Gen.ReferenceIdeal
public import proofs.«01_k».proof.Proof.Gen.KernelIdeal.Points
public import Idealize.ShloMosaic.Lib.IdealHost
public import Idealize.ShloMosaic.Lib.Layout
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped BigOperators

variable {F : FTy → Type} [FloatOps F]

local notation "𝕄" => MT nD τ sig Unit (Elt F) ℕ UU ℕ

variable (m : (ℓ : Loc nD τ sig) → Buf (Elt F) ℓ) (ρ : Dev nD → PrngReg)

/-! ## The arrays at the end -/

/-- The staged operand is the device's whole argument. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- The result array ends with the widened sums. -/
theorem finalA_out (c : Dev nD) : finalA m ρ c (1 : Fin 2) = outV m ρ := by
  have h : (win0_1.blk (0 : Fin 1)).view.read (Elt F) (finalA m ρ c (1 : Fin 2)) = outV m ρ := by
    unfold finalA
    rw [show cfg0.N = t0_0.val + 1 from rfl, (dats m ρ 0 c).arrAt_succ (1 : Fin 2) t0_0, flush0_1, if_pos rfl]
    exact View.read_write_univ _ _
  exact (Memref.read_access_unit_zero (Elt F) main_v1 (funext fun a => by fin_cases a <;> decide) (fun a => by fin_cases a <;> decide) _).symm.trans h

/-! ## The operand element by element -/

/-- The one element of a device's argument at a row and a column. -/
def at5 (j : S1024x1024.Idx) : S1x1x1x1024x1024.Idx := ValueIdx.ix5 (0 : Fin 1) (0 : Fin 1) (0 : Fin 1) (j 0) (j 1)

/-- Three leading unit axes dropped by a cast: an element keeps its row and its column. -/
theorem cast_units {α : Type} {a b : ℕ} (x : (⟨5, ![1, 1, 1, a, b]⟩ : Shape).Idx → α)
    (h : (⟨5, ![1, 1, 1, a, b]⟩ : Shape).ShapeCasts ⟨2, ![a, b]⟩) (j : (⟨2, ![a, b]⟩ : Shape).Idx) :
    shapeCast ⟨2, ![a, b]⟩ x h j = x (ValueIdx.ix5 (0 : Fin 1) (0 : Fin 1) (0 : Fin 1) (j 0) (j 1)) :=
  shapeCast_apply x h _ _ (by
    rw [Shape.rowMajor_val_five, Shape.rowMajor_val_two]
    show (((0 * 1 + 0) * 1 + 0) * a + (j 0).val) * b + (j 1).val = (j 0).val * b + (j 1).val
    simp only [Nat.zero_mul, Nat.zero_add])

/-- What the kernel copies into its buffer is its argument without the unit axes. -/
theorem pay1_apply (x : Vec F S1x1x1x1024x1024 .bf16) (j : S1024x1024.Idx) : k0_pay1 x j = x (at5 j) :=
  (congrFun (shapeCast_self (shapeCast S1024x1024 x Facts₀.shapeCasts_S1x1x1x1024x1024_S1024x1024) Facts₀.shapeCasts_S1024x1024_S1024x1024) j).trans
    (cast_units x Facts₀.shapeCasts_S1x1x1x1024x1024_S1024x1024 j)

/-! ## The sum over the mesh -/

/-- The devices whose operands a device's sum holds at level `k`. -/
def joined (f : Fin 4) : ℕ → Dev nD → Finset (Dev nD)
  | 0, c => {c}
  | k + 1, c => joined f k c ∪ joined f k (peer (ord f k) c)

theorem joined_disjoint : ∀ (f : Fin 4) (k : Fin 5) (c : Dev nD), Disjoint (joined f k.val c) (joined f k.val (peer (ord f k.val) c)) := by
  decide +kernel
theorem joined_all : ∀ (f : Fin 4) (c : Dev nD), joined f 5 c = Finset.univ := by decide +kernel

section Real

variable (m : (ℓ : Loc nD τ sig) → Buf (Elt Ideal) ℓ)

/-- The element of device `d`'s operand, as an extended real. -/
def elem (d : Dev nD) (j : S1024x1024.Idx) : EReal := k0_pay1 (xstg m ρ d) j

/-- Over the reals a level's value is the sum of the operands of the devices joined so far. -/
theorem acc_sum (f : Fin 4) : ∀ k ≤ 5, ∀ (c : Dev nD) (j : S1024x1024.Idx), (acc m ρ f k c j : EReal) = ∑ d ∈ joined f k c, elem ρ m d j
  | 0, _, c, j => (Finset.sum_singleton (fun d => elem ρ m d j) c).symm
  | k + 1, hk, c, j => by
    have h1 := acc_sum f k (by omega) c j
    have h2 := acc_sum f k (by omega) (peer (ord f k) c) j
    exact (congrArg₂ (fun a b : EReal => a + b) h1 h2).trans (Finset.sum_union (joined_disjoint f ⟨k, by omega⟩ c)).symm

/-- The result over the reals: every element summed over all the devices. -/
theorem outV_sum (j : S1024x1024.Idx) : (outV m ρ j : EReal) = ∑ d : Dev nD, elem ρ m d j := by
  have h := acc_sum ρ m (flowOf j) 5 le_rfl (own (flowOf j) (j 0).val) j
  rw [joined_all] at h
  exact h

/-! ## The reference's sum -/

/-- Where a device's element is in the whole array. -/
def whole (d : Dev nD) (j : S1024x1024.Idx) : Cert.ReferenceIdeal.S2x4x4x1024x1024.Idx :=
  ValueIdx.ix5 (⟨d.val / 16 % 2, Nat.mod_lt _ (by decide)⟩ : Fin 2) (⟨d.val / 4 % 4, Nat.mod_lt _ (by decide)⟩ : Fin 4)
    (⟨d.val % 4, Nat.mod_lt _ (by decide)⟩ : Fin 4) (j 0) (j 1)

/-- The block a device of the mesh holds, read at an element. -/
theorem block_apply (X : Cert.ReferenceIdeal.S2x4x4x1024x1024.Idx → EReal) (d : Dev nD) (j : S1024x1024.Idx) :
    (Layout.blockN ⟨5, ![1, 1, 1, 1024, 1024]⟩ ⟨5, ![2, 4, 4, 1024, 1024]⟩ (Layout.meshBlock [2, 4, 4] ![[0], [1], [2], [], []] d) X) (at5 j)
      = X (whole d j) := by
  refine congrArg X (funext fun a => Fin.ext ?_)
  rw [Layout.TilesN.idx_val]
  fin_cases a
  · show (d.val / 16 % 2 * 1 + 0) * 1 + 0 = d.val / 16 % 2
    omega
  · show (d.val / 4 % 4 * 1 + 0) * 1 + 0 = d.val / 4 % 4
    omega
  · show (d.val / 1 % 4 * 1 + 0) * 1 + 0 = d.val % 4
    omega
  · show 0 * 1024 + (j 0).val = (j 0).val
    omega
  · show 0 * 1024 + (j 1).val = (j 1).val
    omega

/-- The elements the reference adds up at an index are those of the 32 devices there. -/
theorem fiber_sum (h : Cert.ReferenceIdeal.S2x4x4x1024x1024.ReducesTo [0, 1, 2] Cert.ReferenceIdeal.S1024x1024)
    (X : Cert.ReferenceIdeal.S2x4x4x1024x1024.Idx → EReal) (j : S1024x1024.Idx) :
    ∑ i ∈ Finset.univ.filter (fun i => h.drop i = j), X i = ∑ d : Dev nD, X (whole d j) := by
  have e0 : ∀ i, (h.drop i 0 : ℕ) = i 3 := fun i => h.drop_apply_val_of_eq i 0 3
  have e1 : ∀ i, (h.drop i 1 : ℕ) = i 4 := fun i => h.drop_apply_val_of_eq i 1 4
  refine (Finset.sum_bij (fun d _ => whole d j) (fun d _ => ?_) (fun d _ d' _ hd => ?_) (fun i hi => ?_) fun _ _ => rfl).symm
  · refine Finset.mem_filter.2 ⟨Finset.mem_univ _, funext fun a => ?_⟩
    fin_cases a
    · exact Fin.ext (show (h.drop (whole d j) 0 : ℕ) = (j 0).val from e0 (whole d j))
    · exact Fin.ext (show (h.drop (whole d j) 1 : ℕ) = (j 1).val from e1 (whole d j))
  · have hd : whole d j = whole d' j := hd
    have h0 : d.val / 16 % 2 = d'.val / 16 % 2 := congrArg Fin.val (congrFun hd 0)
    have h1 : d.val / 4 % 4 = d'.val / 4 % 4 := congrArg Fin.val (congrFun hd 1)
    have h2 : d.val % 4 = d'.val % 4 := congrArg Fin.val (congrFun hd 2)
    have hl : d.val < 32 := d.isLt
    have hl' : d'.val < 32 := d'.isLt
    exact Fin.ext (by omega)
  · have hj : h.drop i = j := (Finset.mem_filter.1 hi).2
    have l0 : (i 0).val < 2 := (i 0).isLt
    have l1 : (i 1).val < 4 := (i 1).isLt
    have l2 : (i 2).val < 4 := (i 2).isLt
    refine ⟨⟨16 * (i 0).val + 4 * (i 1).val + (i 2).val, show _ < 32 by omega⟩, Finset.mem_univ _, funext fun a => Fin.ext ?_⟩
    fin_cases a
    · show (16 * (i 0).val + 4 * (i 1).val + (i 2).val) / 16 % 2 = (i 0).val
      omega
    · show (16 * (i 0).val + 4 * (i 1).val + (i 2).val) / 4 % 4 = (i 1).val
      omega
    · show (16 * (i 0).val + 4 * (i 1).val + (i 2).val) % 4 = (i 2).val
      omega
    · exact (congrArg (fun q : S1024x1024.Idx => (q 0).val) hj.symm).trans (e0 i)
    · exact (congrArg (fun q : S1024x1024.Idx => (q 1).val) hj.symm).trans (e1 i)

/-- The reference's result at an index: the whole array summed over its three leading axes. -/
theorem reference_sum (X : Cert.ReferenceIdeal.S2x4x4x1024x1024.Idx → EReal) (j : S1024x1024.Idx) :
    (Host.reduceAdd (F := Ideal) (extf .f32 (φ := .bf16) X Cert.ReferenceIdeal.Facts₀.bitsLt_bf16_f32) (constant Cert.ReferenceIdeal.S_ .f32 0x00000000#32)
      Cert.ReferenceIdeal.Facts₀.reducesTo_S2x4x4x1024x1024_S1024x1024_d0_1_2 Cert.ReferenceIdeal.Facts₀.h_S_ j : EReal)
      = ∑ d : Dev nD, X (whole d j) := by
  show Ideal.ofBits .f32 0x00000000#32 + ∑ i ∈ Finset.univ.filter (fun i => Shape.ReducesTo.drop _ i = j), X i = _
  rw [Ideal.ofBits_zero_f32, zero_add]
  exact fiber_sum _ X j

/-- If every device holds its block of the reference's argument, the kernel's result is the reference's. -/
theorem outV_eq_reference (X : Cert.ReferenceIdeal.S2x4x4x1024x1024.Idx → EReal)
    (hx : ∀ c : Dev nD, m ((c : Thread nD τ).loc main_arg0)
      = Layout.blockN ⟨5, ![1, 1, 1, 1024, 1024]⟩ ⟨5, ![2, 4, 4, 1024, 1024]⟩ (Layout.meshBlock [2, 4, 4] ![[0], [1], [2], [], []] c) X) :
    outV m ρ = Host.reduceAdd (F := Ideal) (extf .f32 (φ := .bf16) X Cert.ReferenceIdeal.Facts₀.bitsLt_bf16_f32) (constant Cert.ReferenceIdeal.S_ .f32 0x00000000#32)
      Cert.ReferenceIdeal.Facts₀.reducesTo_S2x4x4x1024x1024_S1024x1024_d0_1_2 Cert.ReferenceIdeal.Facts₀.h_S_ := by
  refine funext fun j => (outV_sum ρ m j).trans (Eq.trans (Finset.sum_congr rfl fun d _ => ?_) (reference_sum X j).symm)
  exact (pay1_apply _ j).trans ((congrFun ((xstg_eq m ρ d).trans (hx d)) (at5 j)).trans (block_apply X d j))

end Real

end Cert.KernelIdeal.Ring
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal.Ring (run_main finalA_x finalA_out outV outV_eq_reference)

/-- For any float values, every run of the kernel ends, its argument unchanged and its counters at zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (finalA_x m ρ c), h.2⟩) (run_main m ρ)

section Same

attribute [local instance] Cert.Kernel.Gen.facts

set_option maxRecDepth 100000 in
/-- The two kernels are one text: their body tables agree, -/
theorem same_bodies {F : FTy → Type} [FloatOps F] : Cert.Kernel.defs₀ (F := F) = Cert.KernelIdeal.defs₀ (F := F) := by
  refine funext fun p => funext fun ℓ => funext fun x => ?_
  match p, ℓ, x with
  | .tc, 0, (t, s) => rfl
  | .tc, ⟨_ + 1, h⟩, _ => exact absurd h (Nat.not_lt.2 (Nat.le_add_left _ _))
  | .scScalar _, _, _ => rfl
  | .scVector _ _, _, _ => rfl

/-- and so what their labels run. -/
theorem same_defs {F : FTy → Type} [FloatOps F] : Cert.Kernel.defs (F := F) = Cert.KernelIdeal.defs (F := F) :=
  congrArg (Pipeline.defs Cert.KernelIdeal.pcfgs) same_bodies

/-- Every run on bits. -/
theorem frame_kernel : Cert.quiescent_Kernel := fun m ρ _ => by
  have h := frame_run (F := Bits) m ρ
  rw [← same_defs] at h
  exact h

end Same

/-- Every run over the reals. -/
theorem frame_ideal : Cert.quiescent_KernelIdeal := fun m ρ _ => frame_run (F := Ideal) m ρ

/-- The reference ends with its argument unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals every device's result is the reference's sum of the whole array. -/
theorem algebraic : Cert.algebraic_KernelIdeal_ReferenceIdeal := fun m ρ m' ρ' _ hx =>
  ⟨outV (F := Ideal) m ρ,
    (θ_run Cert.KernelIdeal.defs _ _).mono
      (fun _ h c => ⟨(h.1 c (1 : Fin 2)).trans (finalA_out m ρ c), (h.1 c (0 : Fin 2)).trans (finalA_x m ρ c)⟩)
      (run_main (F := Ideal) m ρ),
    (θ_run Cert.ReferenceIdeal.defs _ _).mono
      (fun _ h => ⟨(h 0).1.trans (outV_eq_reference ρ m _ hx).symm, (h 0).2⟩)
      (Cert.ReferenceIdeal.Value.run (F := Ideal) m' ρ')⟩

/-- All five claims: the three frames, the idealisation, and the equation with the reference. -/
theorem claim : Cert.Claim := ⟨Cert.Kernel.Gen.facts, Cert.KernelIdeal.Gen.facts, Cert.ReferenceIdeal.Gen.facts,
  frame_kernel, frame_ideal, frame_reference, trivial, algebraic⟩

end Cert.Proof

end
